-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6)
      ∧ r.2.mem ((c.tc : Thread Cert.Kernel2.nD Cert.Kernel2.τ).loc Cert.Kernel2.main_arg7) = m ((c.tc : Thread Cert.Kernel2.nD Cert.Kernel2.τ).loc Cert.Kernel2.main_arg7)
      ∧ r.2.mem ((c.tc : Thread Cert.Kernel2.nD Cert.Kernel2.τ).loc Cert.Kernel2.main_arg8) = m ((c.tc : Thread Cert.Kernel2.nD Cert.Kernel2.τ).loc Cert.Kernel2.main_arg8)
      ∧ r.2.mem ((c.tc : Thread Cert.Kernel2.nD Cert.Kernel2.τ).loc Cert.Kernel2.main_arg9) = m ((c.tc : Thread Cert.Kernel2.nD Cert.Kernel2.τ).loc Cert.Kernel2.main_arg9)
      ∧ r.2.mem ((c.tc : Thread Cert.Kernel2.nD Cert.Kernel2.τ).loc Cert.Kernel2.main_arg10) = m ((c.tc : Thread Cert.Kernel2.nD Cert.Kernel2.τ).loc Cert.Kernel2.main_arg10)
      ∧ r.2.mem ((c.tc : Thread Cert.Kernel2.nD Cert.Kernel2.τ).loc Cert.Kernel2.main_arg11) = m ((c.tc : Thread Cert.Kernel2.nD Cert.Kernel2.τ).loc Cert.Kernel2.main_arg11)
      ∧ r.2.mem ((c.tc : Thread Cert.Kernel2.nD Cert.Kernel2.τ).loc Cert.Kernel2.main_arg12) = m ((c.tc : Thread Cert.Kernel2.nD Cert.Kernel2.τ).loc Cert.Kernel2.main_arg12)
      ∧ r.2.mem ((c.tc : Thread Cert.Kernel2.nD Cert.Kernel2.τ).loc Cert.Kernel2.main_arg13) = m ((c.tc : Thread Cert.Kernel2.nD Cert.Kernel2.τ).loc Cert.Kernel2.main_arg13)
      ∧ r.2.mem ((c.tc : Thread Cert.Kernel2.nD Cert.Kernel2.τ).loc Cert.Kernel2.main_arg14) = m ((c.tc : Thread Cert.Kernel2.nD Cert.Kernel2.τ).loc Cert.Kernel2.main_arg14))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
      ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
      ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9)
      ∧ r.2.mem ((c.tc : Thread Cert.Kernel2Ideal.nD Cert.Kernel2Ideal.τ).loc Cert.Kernel2Ideal.main_arg10) = m ((c.tc : Thread Cert.Kernel2Ideal.nD Cert.Kernel2Ideal.τ).loc Cert.Kernel2Ideal.main_arg10)
      ∧ r.2.mem ((c.tc : Thread Cert.Kernel2Ideal.nD Cert.Kernel2Ideal.τ).loc Cert.Kernel2Ideal.main_arg11) = m ((c.tc : Thread Cert.Kernel2Ideal.nD Cert.Kernel2Ideal.τ).loc Cert.Kernel2Ideal.main_arg11)
      ∧ r.2.mem ((c.tc : Thread Cert.Kernel2Ideal.nD Cert.Kernel2Ideal.τ).loc Cert.Kernel2Ideal.main_arg12) = m ((c.tc : Thread Cert.Kernel2Ideal.nD Cert.Kernel2Ideal.τ).loc Cert.Kernel2Ideal.main_arg12)
      ∧ r.2.mem ((c.tc : Thread Cert.Kernel2Ideal.nD Cert.Kernel2Ideal.τ).loc Cert.Kernel2Ideal.main_arg13) = m ((c.tc : Thread Cert.Kernel2Ideal.nD Cert.Kernel2Ideal.τ).loc Cert.Kernel2Ideal.main_arg13)
      ∧ r.2.mem ((c.tc : Thread Cert.Kernel2Ideal.nD Cert.Kernel2Ideal.τ).loc Cert.Kernel2Ideal.main_arg14) = m ((c.tc : Thread Cert.Kernel2Ideal.nD Cert.Kernel2Ideal.τ).loc Cert.Kernel2Ideal.main_arg14))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7)
      ∧ r.2.mem ((c.tc : Thread Cert.Reference2Ideal.nD Cert.Reference2Ideal.τ).loc Cert.Reference2Ideal.main_arg8) = m ((c.tc : Thread Cert.Reference2Ideal.nD Cert.Reference2Ideal.τ).loc Cert.Reference2Ideal.main_arg8)
      ∧ r.2.mem ((c.tc : Thread Cert.Reference2Ideal.nD Cert.Reference2Ideal.τ).loc Cert.Reference2Ideal.main_arg9) = m ((c.tc : Thread Cert.Reference2Ideal.nD Cert.Reference2Ideal.τ).loc Cert.Reference2Ideal.main_arg9)
      ∧ r.2.mem ((c.tc : Thread Cert.Reference2Ideal.nD Cert.Reference2Ideal.τ).loc Cert.Reference2Ideal.main_arg10) = m ((c.tc : Thread Cert.Reference2Ideal.nD Cert.Reference2Ideal.τ).loc Cert.Reference2Ideal.main_arg10)
      ∧ r.2.mem ((c.tc : Thread Cert.Reference2Ideal.nD Cert.Reference2Ideal.τ).loc Cert.Reference2Ideal.main_arg11) = m ((c.tc : Thread Cert.Reference2Ideal.nD Cert.Reference2Ideal.τ).loc Cert.Reference2Ideal.main_arg11)
      ∧ r.2.mem ((c.tc : Thread Cert.Reference2Ideal.nD Cert.Reference2Ideal.τ).loc Cert.Reference2Ideal.main_arg12) = m ((c.tc : Thread Cert.Reference2Ideal.nD Cert.Reference2Ideal.τ).loc Cert.Reference2Ideal.main_arg12)
      ∧ r.2.mem ((c.tc : Thread Cert.Reference2Ideal.nD Cert.Reference2Ideal.τ).loc Cert.Reference2Ideal.main_arg13) = m ((c.tc : Thread Cert.Reference2Ideal.nD Cert.Reference2Ideal.τ).loc Cert.Reference2Ideal.main_arg13)
      ∧ r.2.mem ((c.tc : Thread Cert.Reference2Ideal.nD Cert.Reference2Ideal.τ).loc Cert.Reference2Ideal.main_arg14) = m ((c.tc : Thread Cert.Reference2Ideal.nD Cert.Reference2Ideal.τ).loc Cert.Reference2Ideal.main_arg14))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v10)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v10) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v61) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)
      ∧ m' ((c.tc : Thread Cert.Reference2Ideal.nD Cert.Reference2Ideal.τ).loc Cert.Reference2Ideal.main_arg7) = m ((c.tc : Thread Cert.Kernel2Ideal.nD Cert.Kernel2Ideal.τ).loc Cert.Kernel2Ideal.main_arg7)
      ∧ m' ((c.tc : Thread Cert.Reference2Ideal.nD Cert.Reference2Ideal.τ).loc Cert.Reference2Ideal.main_arg8) = m ((c.tc : Thread Cert.Kernel2Ideal.nD Cert.Kernel2Ideal.τ).loc Cert.Kernel2Ideal.main_arg8)
      ∧ m' ((c.tc : Thread Cert.Reference2Ideal.nD Cert.Reference2Ideal.τ).loc Cert.Reference2Ideal.main_arg9) = m ((c.tc : Thread Cert.Kernel2Ideal.nD Cert.Kernel2Ideal.τ).loc Cert.Kernel2Ideal.main_arg9)
      ∧ m' ((c.tc : Thread Cert.Reference2Ideal.nD Cert.Reference2Ideal.τ).loc Cert.Reference2Ideal.main_arg10) = m ((c.tc : Thread Cert.Kernel2Ideal.nD Cert.Kernel2Ideal.τ).loc Cert.Kernel2Ideal.main_arg10)
      ∧ m' ((c.tc : Thread Cert.Reference2Ideal.nD Cert.Reference2Ideal.τ).loc Cert.Reference2Ideal.main_arg11) = m ((c.tc : Thread Cert.Kernel2Ideal.nD Cert.Kernel2Ideal.τ).loc Cert.Kernel2Ideal.main_arg11)
      ∧ m' ((c.tc : Thread Cert.Reference2Ideal.nD Cert.Reference2Ideal.τ).loc Cert.Reference2Ideal.main_arg12) = m ((c.tc : Thread Cert.Kernel2Ideal.nD Cert.Kernel2Ideal.τ).loc Cert.Kernel2Ideal.main_arg12)
      ∧ m' ((c.tc : Thread Cert.Reference2Ideal.nD Cert.Reference2Ideal.τ).loc Cert.Reference2Ideal.main_arg13) = m ((c.tc : Thread Cert.Kernel2Ideal.nD Cert.Kernel2Ideal.τ).loc Cert.Kernel2Ideal.main_arg13)
      ∧ m' ((c.tc : Thread Cert.Reference2Ideal.nD Cert.Reference2Ideal.τ).loc Cert.Reference2Ideal.main_arg14) = m ((c.tc : Thread Cert.Kernel2Ideal.nD Cert.Kernel2Ideal.τ).loc Cert.Kernel2Ideal.main_arg14)) →
    ∃ (v0 : (c : Dev Cert.Kernel2Ideal.nD) → Buf (Elt Ideal) ((c.tc : Thread Cert.Kernel2Ideal.nD Cert.Kernel2Ideal.τ).loc Cert.Kernel2Ideal.main_v73_0)) (v1 : (c : Dev Cert.Kernel2Ideal.nD) → Buf (Elt Ideal) ((c.tc : Thread Cert.Kernel2Ideal.nD Cert.Kernel2Ideal.τ).loc Cert.Kernel2Ideal.main_v73_1)) (v2 : (c : Dev Cert.Kernel2Ideal.nD) → Buf (Elt Ideal) ((c.tc : Thread Cert.Kernel2Ideal.nD Cert.Kernel2Ideal.τ).loc Cert.Kernel2Ideal.main_v73_2)) (v3 : (c : Dev Cert.Kernel2Ideal.nD) → Buf (Elt Ideal) ((c.tc : Thread Cert.Kernel2Ideal.nD Cert.Kernel2Ideal.τ).loc Cert.Kernel2Ideal.main_v73_3)) (v4 : (c : Dev Cert.Kernel2Ideal.nD) → Buf (Elt Ideal) ((c.tc : Thread Cert.Kernel2Ideal.nD Cert.Kernel2Ideal.τ).loc Cert.Kernel2Ideal.main_v73_4)) (v5 : (c : Dev Cert.Kernel2Ideal.nD) → Buf (Elt Ideal) ((c.tc : Thread Cert.Kernel2Ideal.nD Cert.Kernel2Ideal.τ).loc Cert.Kernel2Ideal.main_v73_5)) (v6 : (c : Dev Cert.Kernel2Ideal.nD) → Buf (Elt Ideal) ((c.tc : Thread Cert.Kernel2Ideal.nD Cert.Kernel2Ideal.τ).loc Cert.Kernel2Ideal.main_v73_6)) (v7 : (c : Dev Cert.Kernel2Ideal.nD) → Buf (Elt Ideal) ((c.tc : Thread Cert.Kernel2Ideal.nD Cert.Kernel2Ideal.τ).loc Cert.Kernel2Ideal.main_v73_7)) (v8 : (c : Dev Cert.Kernel2Ideal.nD) → Buf (Elt Ideal) ((c.tc : Thread Cert.Kernel2Ideal.nD Cert.Kernel2Ideal.τ).loc Cert.Kernel2Ideal.main_v73_8)) (v9 : (c : Dev Cert.Kernel2Ideal.nD) → Buf (Elt Ideal) ((c.tc : Thread Cert.Kernel2Ideal.nD Cert.Kernel2Ideal.τ).loc Cert.Kernel2Ideal.main_v73_9)) (v10 : (c : Dev Cert.Kernel2Ideal.nD) → Buf (Elt Ideal) ((c.tc : Thread Cert.Kernel2Ideal.nD Cert.Kernel2Ideal.τ).loc Cert.Kernel2Ideal.main_v73_10)) (v11 : (c : Dev Cert.Kernel2Ideal.nD) → Buf (Elt Ideal) ((c.tc : Thread Cert.Kernel2Ideal.nD Cert.Kernel2Ideal.τ).loc Cert.Kernel2Ideal.main_v73_11)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v73_0) = v0 c
          ∧ r.2.mem ((c.tc : Thread Cert.Kernel2Ideal.nD Cert.Kernel2Ideal.τ).loc Cert.Kernel2Ideal.main_v73_1) = v1 c
          ∧ r.2.mem ((c.tc : Thread Cert.Kernel2Ideal.nD Cert.Kernel2Ideal.τ).loc Cert.Kernel2Ideal.main_v73_2) = v2 c
          ∧ r.2.mem ((c.tc : Thread Cert.Kernel2Ideal.nD Cert.Kernel2Ideal.τ).loc Cert.Kernel2Ideal.main_v73_3) = v3 c
          ∧ r.2.mem ((c.tc : Thread Cert.Kernel2Ideal.nD Cert.Kernel2Ideal.τ).loc Cert.Kernel2Ideal.main_v73_4) = v4 c
          ∧ r.2.mem ((c.tc : Thread Cert.Kernel2Ideal.nD Cert.Kernel2Ideal.τ).loc Cert.Kernel2Ideal.main_v73_5) = v5 c
          ∧ r.2.mem ((c.tc : Thread Cert.Kernel2Ideal.nD Cert.Kernel2Ideal.τ).loc Cert.Kernel2Ideal.main_v73_6) = v6 c
          ∧ r.2.mem ((c.tc : Thread Cert.Kernel2Ideal.nD Cert.Kernel2Ideal.τ).loc Cert.Kernel2Ideal.main_v73_7) = v7 c
          ∧ r.2.mem ((c.tc : Thread Cert.Kernel2Ideal.nD Cert.Kernel2Ideal.τ).loc Cert.Kernel2Ideal.main_v73_8) = v8 c
          ∧ r.2.mem ((c.tc : Thread Cert.Kernel2Ideal.nD Cert.Kernel2Ideal.τ).loc Cert.Kernel2Ideal.main_v73_9) = v9 c
          ∧ r.2.mem ((c.tc : Thread Cert.Kernel2Ideal.nD Cert.Kernel2Ideal.τ).loc Cert.Kernel2Ideal.main_v73_10) = v10 c
          ∧ r.2.mem ((c.tc : Thread Cert.Kernel2Ideal.nD Cert.Kernel2Ideal.τ).loc Cert.Kernel2Ideal.main_v73_11) = v11 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
          ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
          ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
          ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9)
          ∧ r.2.mem ((c.tc : Thread Cert.Kernel2Ideal.nD Cert.Kernel2Ideal.τ).loc Cert.Kernel2Ideal.main_arg10) = m ((c.tc : Thread Cert.Kernel2Ideal.nD Cert.Kernel2Ideal.τ).loc Cert.Kernel2Ideal.main_arg10)
          ∧ r.2.mem ((c.tc : Thread Cert.Kernel2Ideal.nD Cert.Kernel2Ideal.τ).loc Cert.Kernel2Ideal.main_arg11) = m ((c.tc : Thread Cert.Kernel2Ideal.nD Cert.Kernel2Ideal.τ).loc Cert.Kernel2Ideal.main_arg11)
          ∧ r.2.mem ((c.tc : Thread Cert.Kernel2Ideal.nD Cert.Kernel2Ideal.τ).loc Cert.Kernel2Ideal.main_arg12) = m ((c.tc : Thread Cert.Kernel2Ideal.nD Cert.Kernel2Ideal.τ).loc Cert.Kernel2Ideal.main_arg12)
          ∧ r.2.mem ((c.tc : Thread Cert.Kernel2Ideal.nD Cert.Kernel2Ideal.τ).loc Cert.Kernel2Ideal.main_arg13) = m ((c.tc : Thread Cert.Kernel2Ideal.nD Cert.Kernel2Ideal.τ).loc Cert.Kernel2Ideal.main_arg13)
          ∧ r.2.mem ((c.tc : Thread Cert.Kernel2Ideal.nD Cert.Kernel2Ideal.τ).loc Cert.Kernel2Ideal.main_arg14) = m ((c.tc : Thread Cert.Kernel2Ideal.nD Cert.Kernel2Ideal.τ).loc Cert.Kernel2Ideal.main_arg14))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v290) = v0 c
          ∧ r.2.mem ((c.tc : Thread Cert.Reference2Ideal.nD Cert.Reference2Ideal.τ).loc Cert.Reference2Ideal.main_v293) = v1 c
          ∧ r.2.mem ((c.tc : Thread Cert.Reference2Ideal.nD Cert.Reference2Ideal.τ).loc Cert.Reference2Ideal.main_v89) = v2 c
          ∧ r.2.mem ((c.tc : Thread Cert.Reference2Ideal.nD Cert.Reference2Ideal.τ).loc Cert.Reference2Ideal.main_v90) = v3 c
          ∧ r.2.mem ((c.tc : Thread Cert.Reference2Ideal.nD Cert.Reference2Ideal.τ).loc Cert.Reference2Ideal.main_v294) = v4 c
          ∧ r.2.mem ((c.tc : Thread Cert.Reference2Ideal.nD Cert.Reference2Ideal.τ).loc Cert.Reference2Ideal.main_v296) = v5 c
          ∧ r.2.mem ((c.tc : Thread Cert.Reference2Ideal.nD Cert.Reference2Ideal.τ).loc Cert.Reference2Ideal.main_v297) = v6 c
          ∧ r.2.mem ((c.tc : Thread Cert.Reference2Ideal.nD Cert.Reference2Ideal.τ).loc Cert.Reference2Ideal.main_v298) = v7 c
          ∧ r.2.mem ((c.tc : Thread Cert.Reference2Ideal.nD Cert.Reference2Ideal.τ).loc Cert.Reference2Ideal.main_v299) = v8 c
          ∧ r.2.mem ((c.tc : Thread Cert.Reference2Ideal.nD Cert.Reference2Ideal.τ).loc Cert.Reference2Ideal.main_v302) = v9 c
          ∧ r.2.mem ((c.tc : Thread Cert.Reference2Ideal.nD Cert.Reference2Ideal.τ).loc Cert.Reference2Ideal.main_v305) = v10 c
          ∧ r.2.mem ((c.tc : Thread Cert.Reference2Ideal.nD Cert.Reference2Ideal.τ).loc Cert.Reference2Ideal.main_v309) = v11 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6)
          ∧ r.2.mem ((c.tc : Thread Cert.Reference2Ideal.nD Cert.Reference2Ideal.τ).loc Cert.Reference2Ideal.main_arg7) = m' ((c.tc : Thread Cert.Reference2Ideal.nD Cert.Reference2Ideal.τ).loc Cert.Reference2Ideal.main_arg7)
          ∧ r.2.mem ((c.tc : Thread Cert.Reference2Ideal.nD Cert.Reference2Ideal.τ).loc Cert.Reference2Ideal.main_arg8) = m' ((c.tc : Thread Cert.Reference2Ideal.nD Cert.Reference2Ideal.τ).loc Cert.Reference2Ideal.main_arg8)
          ∧ r.2.mem ((c.tc : Thread Cert.Reference2Ideal.nD Cert.Reference2Ideal.τ).loc Cert.Reference2Ideal.main_arg9) = m' ((c.tc : Thread Cert.Reference2Ideal.nD Cert.Reference2Ideal.τ).loc Cert.Reference2Ideal.main_arg9)
          ∧ r.2.mem ((c.tc : Thread Cert.Reference2Ideal.nD Cert.Reference2Ideal.τ).loc Cert.Reference2Ideal.main_arg10) = m' ((c.tc : Thread Cert.Reference2Ideal.nD Cert.Reference2Ideal.τ).loc Cert.Reference2Ideal.main_arg10)
          ∧ r.2.mem ((c.tc : Thread Cert.Reference2Ideal.nD Cert.Reference2Ideal.τ).loc Cert.Reference2Ideal.main_arg11) = m' ((c.tc : Thread Cert.Reference2Ideal.nD Cert.Reference2Ideal.τ).loc Cert.Reference2Ideal.main_arg11)
          ∧ r.2.mem ((c.tc : Thread Cert.Reference2Ideal.nD Cert.Reference2Ideal.τ).loc Cert.Reference2Ideal.main_arg12) = m' ((c.tc : Thread Cert.Reference2Ideal.nD Cert.Reference2Ideal.τ).loc Cert.Reference2Ideal.main_arg12)
          ∧ r.2.mem ((c.tc : Thread Cert.Reference2Ideal.nD Cert.Reference2Ideal.τ).loc Cert.Reference2Ideal.main_arg13) = m' ((c.tc : Thread Cert.Reference2Ideal.nD Cert.Reference2Ideal.τ).loc Cert.Reference2Ideal.main_arg13)
          ∧ r.2.mem ((c.tc : Thread Cert.Reference2Ideal.nD Cert.Reference2Ideal.τ).loc Cert.Reference2Ideal.main_arg14) = m' ((c.tc : Thread Cert.Reference2Ideal.nD Cert.Reference2Ideal.τ).loc Cert.Reference2Ideal.main_arg14))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2)
    ∧ quiescent_Kernel2Ideal (hKernel2Ideal := hKernel2Ideal)
    ∧ quiescent_Reference2Ideal (hReference2Ideal := hReference2Ideal)
    ∧ preserves_Kernel_KernelIdeal
    ∧ algebraic_KernelIdeal_ReferenceIdeal (hKernelIdeal := hKernelIdeal) (hReferenceIdeal := hReferenceIdeal)
    ∧ preserves_Kernel2_Kernel2Ideal
    ∧ algebraic_Kernel2Ideal_Reference2Ideal (hKernel2Ideal := hKernel2Ideal) (hReference2Ideal := hReference2Ideal)
-- ==== Kernel.lean ====
abbrev S16384x1024 : Shape := ⟨2, ![16384, 1024]⟩
abbrev S16384x768 : Shape := ⟨2, ![16384, 768]⟩
abbrev S16384x256 : Shape := ⟨2, ![16384, 256]⟩
abbrev S1024x1024 : Shape := ⟨2, ![1024, 1024]⟩
abbrev S1024 : Shape := ⟨1, ![1024]⟩
abbrev S1024x4096 : Shape := ⟨2, ![1024, 4096]⟩
abbrev S4096x1024 : Shape := ⟨2, ![4096, 1024]⟩
abbrev S768x1024 : Shape := ⟨2, ![768, 1024]⟩
abbrev S256x1024 : Shape := ⟨2, ![256, 1024]⟩
abbrev S1x1024 : Shape := ⟨2, ![1, 1024]⟩
abbrev S512x1024 : Shape := ⟨2, ![512, 1024]⟩
abbrev S512x768 : Shape := ⟨2, ![512, 768]⟩
abbrev S512x256 : Shape := ⟨2, ![512, 256]⟩
abbrev S512 : Shape := ⟨1, ![512]⟩
abbrev S512x1 : Shape := ⟨2, ![512, 1]⟩

abbrev nBuf : Space → Nat
  | .hbm => 21
  | .vmem => 16
  | .smem => 0
  | _ => 0

abbrev bufTy : (tb : Table) → Fin (tcTables nBuf tb) → BufTy
  | .hbm, ⟨0, _⟩ => ⟨S16384x1024, .f32⟩
  | .hbm, ⟨1, _⟩ => ⟨S16384x768, .bf16⟩
  | .hbm, ⟨2, _⟩ => ⟨S16384x256, .bf16⟩
  | .hbm, ⟨3, _⟩ => ⟨S1024x1024, .f32⟩
  | .hbm, ⟨4, _⟩ => ⟨S1024, .f32⟩
  | .hbm, ⟨5, _⟩ => ⟨S1024, .f32⟩
  | .hbm, ⟨6, _⟩ => ⟨S1024, .f32⟩
  | .hbm, ⟨7, _⟩ => ⟨S1024, .f32⟩
  | .hbm, ⟨8, _⟩ => ⟨S1024x4096, .f32⟩
  | .hbm, ⟨9, _⟩ => ⟨S4096x1024, .f32⟩
  | .hbm, ⟨10, _⟩ => ⟨S768x1024, .f32⟩
  | .hbm, ⟨11, _⟩ => ⟨S768x1024, .bf16⟩
  | .hbm, ⟨12, _⟩ => ⟨S256x1024, .f32⟩
  | .hbm, ⟨13, _⟩ => ⟨S256x1024, .bf16⟩
  | .hbm, ⟨14, _⟩ => ⟨S1x1024, .f32⟩
  | .hbm, ⟨15, _⟩ => ⟨S1x1024, .f32⟩
  | .hbm, ⟨16, _⟩ => ⟨S1x1024, .f32⟩
  | .hbm, ⟨17, _⟩ => ⟨S1x1024, .f32⟩
  | .hbm, ⟨18, _⟩ => ⟨S1024x4096, .bf16⟩
  | .hbm, ⟨19, _⟩ => ⟨S4096x1024, .bf16⟩
  | .hbm, ⟨20, _⟩ => ⟨S16384x1024, .f32⟩
  | .local _ .vmem, ⟨0, _⟩ => ⟨S512x1024, .f32⟩
  | .local _ .vmem, ⟨1, _⟩ => ⟨S512x1024, .f32⟩
  | .local _ .vmem, ⟨2, _⟩ => ⟨S512x768, .bf16⟩
  | .local _ .vmem, ⟨3, _⟩ => ⟨S512x768, .bf16⟩
  | .local _ .vmem, ⟨4, _⟩ => ⟨S512x256, .bf16⟩
  | .local _ .vmem, ⟨5, _⟩ => ⟨S512x256, .bf16⟩
  | .local _ .vmem, ⟨6, _⟩ => ⟨S768x1024, .bf16⟩
  | .local _ .vmem, ⟨7, _⟩ => ⟨S256x1024, .bf16⟩
  | .local _ .vmem, ⟨8, _⟩ => ⟨S1x1024, .f32⟩
  | .local _ .vmem, ⟨9, _⟩ => ⟨S1x1024, .f32⟩
  | .local _ .vmem, ⟨10, _⟩ => ⟨S1024x4096, .bf16⟩
  | .local _ .vmem, ⟨11, _⟩ => ⟨S4096x1024, .bf16⟩
  | .local _ .vmem, ⟨12, _⟩ => ⟨S1x1024, .f32⟩
  | .local _ .vmem, ⟨13, _⟩ => ⟨S1x1024, .f32⟩
  | .local _ .vmem, ⟨14, _⟩ => ⟨S512x1024, .f32⟩
  | .local _ .vmem, ⟨15, _⟩ => ⟨S512x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg11_0 : Ref sig .tc := ⟨.vmem, 14, rfl⟩
abbrev cc0_stg11_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem11_0 : DmaSem sig := 14
abbrev cc0_sem11_1 : DmaSem sig := 15

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x768 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S768x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S256x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x4096 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S4096x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S512x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]
-- ==== ReferenceIdeal.lean ====
abbrev S16384x1024 : Shape := ⟨2, ![16384, 1024]⟩
abbrev S16384x768 : Shape := ⟨2, ![16384, 768]⟩
abbrev S16384x256 : Shape := ⟨2, ![16384, 256]⟩
abbrev S1024x1024 : Shape := ⟨2, ![1024, 1024]⟩
abbrev S1024 : Shape := ⟨1, ![1024]⟩
abbrev S1024x4096 : Shape := ⟨2, ![1024, 4096]⟩
abbrev S4096x1024 : Shape := ⟨2, ![4096, 1024]⟩
abbrev S_ : Shape := ⟨0, ![]⟩
abbrev S16384 : Shape := ⟨1, ![16384]⟩
abbrev S16384x1 : Shape := ⟨2, ![16384, 1]⟩
abbrev S1x1024 : Shape := ⟨2, ![1, 1024]⟩
abbrev S16384x4096 : Shape := ⟨2, ![16384, 4096]⟩

abbrev nBuf : Space → Nat
  | .hbm => 86
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S16384x768, .bf16⟩
  | .hbm, ⟨2, _⟩ => ⟨S16384x256, .bf16⟩
  | .hbm, ⟨3, _⟩ => ⟨S1024x1024, .f32⟩
  | .hbm, ⟨4, _⟩ => ⟨S1024, .f32⟩
  | .hbm, ⟨5, _⟩ => ⟨S1024, .f32⟩
  | .hbm, ⟨6, _⟩ => ⟨S1024, .f32⟩
  | .hbm, ⟨7, _⟩ => ⟨S1024, .f32⟩
  | .hbm, ⟨8, _⟩ => ⟨S1024x4096, .f32⟩
  | .hbm, ⟨9, _⟩ => ⟨S4096x1024, .f32⟩
  | .hbm, ⟨10, _⟩ => ⟨S16384x768, .f32⟩
  | .hbm, ⟨11, _⟩ => ⟨S16384x256, .f32⟩
  | .hbm, ⟨12, _⟩ => ⟨S16384x1024, .f32⟩
  | .hbm, ⟨13, _⟩ => ⟨S16384x1024, .f32⟩
  | .hbm, ⟨14, _⟩ => ⟨S_, .f32⟩
  | .hbm, ⟨15, _⟩ => ⟨S16384x1024, .f32⟩
  | .hbm, ⟨16, _⟩ => ⟨S16384x1024, .f32⟩
  | .hbm, ⟨17, _⟩ => ⟨S16384x1024, .f32⟩
  | .hbm, ⟨18, _⟩ => ⟨S_, .f32⟩
  | .hbm, ⟨19, _⟩ => ⟨S16384, .f32⟩
  | .hbm, ⟨20, _⟩ => ⟨S16384x1, .f32⟩
  | .hbm, ⟨21, _⟩ => ⟨S_, .f32⟩
  | .hbm, ⟨22, _⟩ => ⟨S16384x1, .f32⟩
  | .hbm, ⟨23, _⟩ => ⟨S16384x1, .f32⟩
  | .hbm, ⟨24, _⟩ => ⟨S16384x1024, .f32⟩
  | .hbm, ⟨25, _⟩ => ⟨S16384x1024, .f32⟩
  | .hbm, ⟨26, _⟩ => ⟨S16384x1024, .f32⟩
  | .hbm, ⟨27, _⟩ => ⟨S_, .f32⟩
  | .hbm, ⟨28, _⟩ => ⟨S16384, .f32⟩
  | .hbm, ⟨29, _⟩ => ⟨S16384x1, .f32⟩
  | .hbm, ⟨30, _⟩ => ⟨S_, .f32⟩
  | .hbm, ⟨31, _⟩ => ⟨S16384x1, .f32⟩
  | .hbm, ⟨32, _⟩ => ⟨S16384x1, .f32⟩
  | .hbm, ⟨33, _⟩ => ⟨S16384x1024, .f32⟩
  | .hbm, ⟨34, _⟩ => ⟨S16384x1024, .f32⟩
  | .hbm, ⟨35, _⟩ => ⟨S_, .f32⟩
  | .hbm, ⟨36, _⟩ => ⟨S16384x1, .f32⟩
  | .hbm, ⟨37, _⟩ => ⟨S16384x1, .f32⟩
  | .hbm, ⟨38, _⟩ => ⟨S16384x1, .f32⟩
  | .hbm, ⟨39, _⟩ => ⟨S16384x1024, .f32⟩
  | .hbm, ⟨40, _⟩ => ⟨S16384x1024, .f32⟩
  | .hbm, ⟨41, _⟩ => ⟨S1x1024, .f32⟩
  | .hbm, ⟨42, _⟩ => ⟨S16384x1024, .f32⟩
  | .hbm, ⟨43, _⟩ => ⟨S16384x1024, .f32⟩
  | .hbm, ⟨44, _⟩ => ⟨S1x1024, .f32⟩
  | .hbm, ⟨45, _⟩ => ⟨S16384x1024, .f32⟩
  | .hbm, ⟨46, _⟩ => ⟨S16384x1024, .f32⟩
  | .hbm, ⟨47, _⟩ => ⟨S16384x4096, .f32⟩
  | .hbm, ⟨48, _⟩ => ⟨S_, .f32⟩
  | .hbm, ⟨49, _⟩ => ⟨S16384x4096, .f32⟩
  | .hbm, ⟨50, _⟩ => ⟨S16384x4096, .f32⟩
  | .hbm, ⟨51, _⟩ => ⟨S16384x4096, .f32⟩
  | .hbm, ⟨52, _⟩ => ⟨S_, .f32⟩
  | .hbm, ⟨53, _⟩ => ⟨S16384x1024, .f32⟩
  | .hbm, ⟨54, _⟩ => ⟨S16384x1024, .f32⟩
  | .hbm, ⟨55, _⟩ => ⟨S16384x1024, .f32⟩
  | .hbm, ⟨56, _⟩ => ⟨S16384x1024, .f32⟩
  | .hbm, ⟨57, _⟩ => ⟨S_, .f32⟩
  | .hbm, ⟨58, _⟩ => ⟨S16384, .f32⟩
  | .hbm, ⟨59, _⟩ => ⟨S16384x1, .f32⟩
  | .hbm, ⟨60, _⟩ => ⟨S_, .f32⟩
  | .hbm, ⟨61, _⟩ => ⟨S16384x1, .f32⟩
  | .hbm, ⟨62, _⟩ => ⟨S16384x1, .f32⟩
  | .hbm, ⟨63, _⟩ => ⟨S16384x1024, .f32⟩
  | .hbm, ⟨64, _⟩ => ⟨S16384x1024, .f32⟩
  | .hbm, ⟨65, _⟩ => ⟨S16384x1024, .f32⟩
  | .hbm, ⟨66, _⟩ => ⟨S_, .f32⟩
  | .hbm, ⟨67, _⟩ => ⟨S16384, .f32⟩
  | .hbm, ⟨68, _⟩ => ⟨S16384x1, .f32⟩
  | .hbm, ⟨69, _⟩ => ⟨S_, .f32⟩
  | .hbm, ⟨70, _⟩ => ⟨S16384x1, .f32⟩
  | .hbm, ⟨71, _⟩ => ⟨S16384x1, .f32⟩
  | .hbm, ⟨72, _⟩ => ⟨S16384x1024, .f32⟩
  | .hbm, ⟨73, _⟩ => ⟨S16384x1024, .f32⟩
  | .hbm, ⟨74, _⟩ => ⟨S_, .f32⟩
  | .hbm, ⟨75, _⟩ => ⟨S16384x1, .f32⟩
  | .hbm, ⟨76, _⟩ => ⟨S16384x1, .f32⟩
  | .hbm, ⟨77, _⟩ => ⟨S16384x1, .f32⟩
  | .hbm, ⟨78, _⟩ => ⟨S16384x1024, .f32⟩
  | .hbm, ⟨79, _⟩ => ⟨S16384x1024, .f32⟩
  | .hbm, ⟨80, _⟩ => ⟨S1x1024, .f32⟩
  | .hbm, ⟨81, _⟩ => ⟨S16384x1024, .f32⟩
  | .hbm, ⟨82, _⟩ => ⟨S16384x1024, .f32⟩
  | .hbm, ⟨83, _⟩ => ⟨S1x1024, .f32⟩
  | .hbm, ⟨84, _⟩ => ⟨S16384x1024, .f32⟩
  | .hbm, ⟨85, _⟩ => ⟨S16384x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_cst : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_cst_0 : Ref sig .tc := ⟨.hbm, 18, rfl⟩
abbrev main_v7 : Ref sig .tc := ⟨.hbm, 19, rfl⟩
abbrev main_v8 : Ref sig .tc := ⟨.hbm, 20, rfl⟩
abbrev main_cst_1 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_cst_2 : Ref sig .tc := ⟨.hbm, 27, rfl⟩
abbrev main_v14 : Ref sig .tc := ⟨.hbm, 28, rfl⟩
abbrev main_v15 : Ref sig .tc := ⟨.hbm, 29, rfl⟩
abbrev main_cst_3 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_cst_4 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_call0_cst : Ref sig .tc := ⟨.hbm, 48, rfl⟩
abbrev main_call0_v0 : Ref sig .tc := ⟨.hbm, 49, rfl⟩
abbrev main_v32 : Ref sig .tc := ⟨.hbm, 50, rfl⟩
abbrev main_v33 : Ref sig .tc := ⟨.hbm, 51, rfl⟩
abbrev main_cst_5 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_cst_6 : Ref sig .tc := ⟨.hbm, 57, rfl⟩
abbrev main_v38 : Ref sig .tc := ⟨.hbm, 58, rfl⟩
abbrev main_v39 : Ref sig .tc := ⟨.hbm, 59, rfl⟩
abbrev main_cst_7 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_cst_8 : Ref sig .tc := ⟨.hbm, 66, rfl⟩
abbrev main_v45 : Ref sig .tc := ⟨.hbm, 67, rfl⟩
abbrev main_v46 : Ref sig .tc := ⟨.hbm, 68, rfl⟩
abbrev main_cst_9 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_cst_10 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩

abbrev nD : Nat := 1
abbrev τ : Topo := Topo.v7x

variable {F : FTy → Type} [FloatOps F]
-- ==== Kernel2.lean ====
abbrev S2x8192x1024 : Shape := ⟨3, ![2, 8192, 1024]⟩
abbrev S1024x2632 : Shape := ⟨2, ![1024, 2632]⟩
abbrev S4x256 : Shape := ⟨2, ![4, 256]⟩
abbrev S256 : Shape := ⟨1, ![256]⟩
abbrev S4x64x64 : Shape := ⟨3, ![4, 64, 64]⟩
abbrev S4x128x128 : Shape := ⟨3, ![4, 128, 128]⟩
abbrev S4x128 : Shape := ⟨2, ![4, 128]⟩
abbrev S_ : Shape := ⟨0, ![]⟩
abbrev S1024x56 : Shape := ⟨2, ![1024, 56]⟩
abbrev S128x128 : Shape := ⟨2, ![128, 128]⟩
abbrev S1x128x128 : Shape := ⟨3, ![1, 128, 128]⟩
abbrev S128x4 : Shape := ⟨2, ![128, 4]⟩
abbrev S128x4x64 : Shape := ⟨3, ![128, 4, 64]⟩
abbrev S128x256 : Shape := ⟨2, ![128, 256]⟩
abbrev S1024x1280 : Shape := ⟨2, ![1024, 1280]⟩
abbrev S1024x768 : Shape := ⟨2, ![1024, 768]⟩
abbrev S1024x584 : Shape := ⟨2, ![1024, 584]⟩
abbrev S1024x640 : Shape := ⟨2, ![1024, 640]⟩
abbrev S1024x256 : Shape := ⟨2, ![1024, 256]⟩
abbrev S1024x64 : Shape := ⟨2, ![1024, 64]⟩
abbrev S1024x320 : Shape := ⟨2, ![1024, 320]⟩
abbrev S320x1024 : Shape := ⟨2, ![320, 1024]⟩
abbrev S8x256 : Shape := ⟨2, ![8, 256]⟩
abbrev S1x256 : Shape := ⟨2, ![1, 256]⟩
abbrev S4x4 : Shape := ⟨2, ![4, 4]⟩
abbrev S4x1x4x1 : Shape := ⟨4, ![4, 1, 4, 1]⟩
abbrev S4x64x1x64 : Shape := ⟨4, ![4, 64, 1, 64]⟩
abbrev S4x64x4x64 : Shape := ⟨4, ![4, 64, 4, 64]⟩
abbrev S256x256 : Shape := ⟨2, ![256, 256]⟩
abbrev S256x512 : Shape := ⟨2, ![256, 512]⟩
abbrev S512 : Shape := ⟨1, ![512]⟩
abbrev S1x512 : Shape := ⟨2, ![1, 512]⟩
abbrev S2x8x256 : Shape := ⟨3, ![2, 8, 256]⟩
abbrev S2x24x256 : Shape := ⟨3, ![2, 24, 256]⟩
abbrev S2x1x256 : Shape := ⟨3, ![2, 1, 256]⟩
abbrev S2x8192x768 : Shape := ⟨3, ![2, 8192, 768]⟩
abbrev S2x8192x256 : Shape := ⟨3, ![2, 8192, 256]⟩
abbrev S2x8192x512 : Shape := ⟨3, ![2, 8192, 512]⟩
abbrev S2x8192x128 : Shape := ⟨3, ![2, 8192, 128]⟩
abbrev S2x64x256x128 : Shape := ⟨4, ![2, 64, 256, 128]⟩
abbrev S2x64x64x128 : Shape := ⟨4, ![2, 64, 64, 128]⟩
abbrev S2x64x512x256 : Shape := ⟨4, ![2, 64, 512, 256]⟩
abbrev S1x256x1024 : Shape := ⟨3, ![1, 256, 1024]⟩
abbrev S1x8x256 : Shape := ⟨3, ![1, 8, 256]⟩
abbrev S1x24x256 : Shape := ⟨3, ![1, 24, 256]⟩
abbrev S1x1x256 : Shape := ⟨3, ![1, 1, 256]⟩
abbrev S1x256x768 : Shape := ⟨3, ![1, 256, 768]⟩
abbrev S1x256x256 : Shape := ⟨3, ![1, 256, 256]⟩
abbrev S1x256x512 : Shape := ⟨3, ![1, 256, 512]⟩
abbrev S1x256x128 : Shape := ⟨3, ![1, 256, 128]⟩
abbrev S1x2x256x128 : Shape := ⟨4, ![1, 2, 256, 128]⟩
abbrev S1x2x64x128 : Shape := ⟨4, ![1, 2, 64, 128]⟩
abbrev S1x2x512x256 : Shape := ⟨4, ![1, 2, 512, 256]⟩
abbrev S264x256 : Shape := ⟨2, ![264, 256]⟩
abbrev S280x256 : Shape := ⟨2, ![280, 256]⟩
abbrev S24x256 : Shape := ⟨2, ![24, 256]⟩
abbrev S256x1024 : Shape := ⟨2, ![256, 1024]⟩
abbrev S256x1280 : Shape := ⟨2, ![256, 1280]⟩
abbrev S256x768 : Shape := ⟨2, ![256, 768]⟩
abbrev S256x640 : Shape := ⟨2, ![256, 640]⟩
abbrev S256x128 : Shape := ⟨2, ![256, 128]⟩
abbrev S320x256 : Shape := ⟨2, ![320, 256]⟩
abbrev S1x1x256x128 : Shape := ⟨4, ![1, 1, 256, 128]⟩
abbrev S64x128 : Shape := ⟨2, ![64, 128]⟩
abbrev S1x1x64x128 : Shape := ⟨4, ![1, 1, 64, 128]⟩
abbrev S1x1x128x256 : Shape := ⟨4, ![1, 1, 128, 256]⟩
abbrev S256x1 : Shape := ⟨2, ![256, 1]⟩
abbrev S1x128x256 : Shape := ⟨3, ![1, 128, 256]⟩
abbrev S272x256 : Shape := ⟨2, ![272, 256]⟩

abbrev nBuf : Space → Nat
  | .hbm => 117
  | .vmem => 53
  | .smem => 0
  | _ => 0

abbrev bufTy : (tb : Table) → Fin (tcTables nBuf tb) → BufTy
  | .hbm, ⟨0, _⟩ => ⟨S2x8192x1024, .f32⟩
  | .hbm, ⟨1, _⟩ => ⟨S1024x2632, .f32⟩
  | .hbm, ⟨2, _⟩ => ⟨S4x256, .f32⟩
  | .hbm, ⟨3, _⟩ => ⟨S256, .f32⟩
  | .hbm, ⟨4, _⟩ => ⟨S4x64x64, .f32⟩
  | .hbm, ⟨5, _⟩ => ⟨S256, .f32⟩
  | .hbm, ⟨6, _⟩ => ⟨S4x64x64, .f32⟩
  | .hbm, ⟨7, _⟩ => ⟨S256, .f32⟩
  | .hbm, ⟨8, _⟩ => ⟨S256, .f32⟩
  | .hbm, ⟨9, _⟩ => ⟨S256, .f32⟩
  | .hbm, ⟨10, _⟩ => ⟨S256, .f32⟩
  | .hbm, ⟨11, _⟩ => ⟨S4x128x128, .f32⟩
  | .hbm, ⟨12, _⟩ => ⟨S4x128, .f32⟩
  | .hbm, ⟨13, _⟩ => ⟨S4x64x64, .f32⟩
  | .hbm, ⟨14, _⟩ => ⟨S256, .f32⟩
  | .hbm, ⟨15, _⟩ => ⟨S_, .f32⟩
  | .hbm, ⟨16, _⟩ => ⟨S1024x56, .f32⟩
  | .hbm, ⟨17, _⟩ => ⟨S_, .f32⟩
  | .hbm, ⟨18, _⟩ => ⟨S128x128, .f32⟩
  | .hbm, ⟨19, _⟩ => ⟨S128x128, .i32⟩
  | .hbm, ⟨20, _⟩ => ⟨S_, .i32⟩
  | .hbm, ⟨21, _⟩ => ⟨S128x128, .i32⟩
  | .hbm, ⟨22, _⟩ => ⟨S128x128, .i32⟩
  | .hbm, ⟨23, _⟩ => ⟨S128x128, .i32⟩
  | .hbm, ⟨24, _⟩ => ⟨S128x128, .i1⟩
  | .hbm, ⟨25, _⟩ => ⟨S_, .f32⟩
  | .hbm, ⟨26, _⟩ => ⟨S128x128, .f32⟩
  | .hbm, ⟨27, _⟩ => ⟨S128x128, .f32⟩
  | .hbm, ⟨28, _⟩ => ⟨S1x128x128, .f32⟩
  | .hbm, ⟨29, _⟩ => ⟨S4x128x128, .f32⟩
  | .hbm, ⟨30, _⟩ => ⟨S4x128x128, .f32⟩
  | .hbm, ⟨31, _⟩ => ⟨S128x4, .f32⟩
  | .hbm, ⟨32, _⟩ => ⟨S128x4x64, .f32⟩
  | .hbm, ⟨33, _⟩ => ⟨S128x256, .f32⟩
  | .hbm, ⟨34, _⟩ => ⟨S1024x1280, .f32⟩
  | .hbm, ⟨35, _⟩ => ⟨S1024x1280, .bf16⟩
  | .hbm, ⟨36, _⟩ => ⟨S1024x768, .f32⟩
  | .hbm, ⟨37, _⟩ => ⟨S1024x768, .bf16⟩
  | .hbm, ⟨38, _⟩ => ⟨S1024x584, .f32⟩
  | .hbm, ⟨39, _⟩ => ⟨S1024x640, .f32⟩
  | .hbm, ⟨40, _⟩ => ⟨S1024x640, .bf16⟩
  | .hbm, ⟨41, _⟩ => ⟨S1024x256, .f32⟩
  | .hbm, ⟨42, _⟩ => ⟨S1024x64, .f32⟩
  | .hbm, ⟨43, _⟩ => ⟨S1024x320, .f32⟩
  | .hbm, ⟨44, _⟩ => ⟨S320x1024, .f32⟩
  | .hbm, ⟨45, _⟩ => ⟨S320x1024, .bf16⟩
  | .hbm, ⟨46, _⟩ => ⟨S_, .f32⟩
  | .hbm, ⟨47, _⟩ => ⟨S4x256, .f32⟩
  | .hbm, ⟨48, _⟩ => ⟨S8x256, .f32⟩
  | .hbm, ⟨49, _⟩ => ⟨S1x256, .f32⟩
  | .hbm, ⟨50, _⟩ => ⟨S4x4, .i32⟩
  | .hbm, ⟨51, _⟩ => ⟨S4x4, .i32⟩
  | .hbm, ⟨52, _⟩ => ⟨S_, .i32⟩
  | .hbm, ⟨53, _⟩ => ⟨S4x4, .i32⟩
  | .hbm, ⟨54, _⟩ => ⟨S4x4, .i32⟩
  | .hbm, ⟨55, _⟩ => ⟨S4x4, .i1⟩
  | .hbm, ⟨56, _⟩ => ⟨S4x4, .f32⟩
  | .hbm, ⟨57, _⟩ => ⟨S4x1x4x1, .f32⟩
  | .hbm, ⟨58, _⟩ => ⟨S4x64x1x64, .f32⟩
  | .hbm, ⟨59, _⟩ => ⟨S4x64x4x64, .f32⟩
  | .hbm, ⟨60, _⟩ => ⟨S4x64x4x64, .f32⟩
  | .hbm, ⟨61, _⟩ => ⟨S4x64x4x64, .f32⟩
  | .hbm, ⟨62, _⟩ => ⟨S256x256, .f32⟩
  | .hbm, ⟨63, _⟩ => ⟨S4x4, .i32⟩
  | .hbm, ⟨64, _⟩ => ⟨S4x4, .i32⟩
  | .hbm, ⟨65, _⟩ => ⟨S_, .i32⟩
  | .hbm, ⟨66, _⟩ => ⟨S4x4, .i32⟩
  | .hbm, ⟨67, _⟩ => ⟨S4x4, .i32⟩
  | .hbm, ⟨68, _⟩ => ⟨S4x4, .i1⟩
  | .hbm, ⟨69, _⟩ => ⟨S4x4, .f32⟩
  | .hbm, ⟨70, _⟩ => ⟨S4x1x4x1, .f32⟩
  | .hbm, ⟨71, _⟩ => ⟨S4x64x1x64, .f32⟩
  | .hbm, ⟨72, _⟩ => ⟨S4x64x4x64, .f32⟩
  | .hbm, ⟨73, _⟩ => ⟨S4x64x4x64, .f32⟩
  | .hbm, ⟨74, _⟩ => ⟨S4x64x4x64, .f32⟩
  | .hbm, ⟨75, _⟩ => ⟨S256x256, .f32⟩
  | .hbm, ⟨76, _⟩ => ⟨S256x512, .f32⟩
  | .hbm, ⟨77, _⟩ => ⟨S256x512, .bf16⟩
  | .hbm, ⟨78, _⟩ => ⟨S512, .f32⟩
  | .hbm, ⟨79, _⟩ => ⟨S1x512, .f32⟩
  | .hbm, ⟨80, _⟩ => ⟨S1x256, .f32⟩
  | .hbm, ⟨81, _⟩ => ⟨S1x256, .f32⟩
  | .hbm, ⟨82, _⟩ => ⟨S1x256, .f32⟩
  | .hbm, ⟨83, _⟩ => ⟨S4x128x128, .bf16⟩
  | .hbm, ⟨84, _⟩ => ⟨S4x4, .i32⟩
  | .hbm, ⟨85, _⟩ => ⟨S4x4, .i32⟩
  | .hbm, ⟨86, _⟩ => ⟨S_, .i32⟩
  | .hbm, ⟨87, _⟩ => ⟨S4x4, .i32⟩
  | .hbm, ⟨88, _⟩ => ⟨S4x4, .i32⟩
  | .hbm, ⟨89, _⟩ => ⟨S4x4, .i1⟩
  | .hbm, ⟨90, _⟩ => ⟨S4x4, .f32⟩
  | .hbm, ⟨91, _⟩ => ⟨S4x1x4x1, .f32⟩
  | .hbm, ⟨92, _⟩ => ⟨S4x64x1x64, .f32⟩
  | .hbm, ⟨93, _⟩ => ⟨S4x64x4x64, .f32⟩
  | .hbm, ⟨94, _⟩ => ⟨S4x64x4x64, .f32⟩
  | .hbm, ⟨95, _⟩ => ⟨S4x64x4x64, .f32⟩
  | .hbm, ⟨96, _⟩ => ⟨S256x256, .f32⟩
  | .hbm, ⟨97, _⟩ => ⟨S256x256, .bf16⟩
  | .hbm, ⟨98, _⟩ => ⟨S1x256, .f32⟩
  | .hbm, ⟨99, _⟩ => ⟨S_, .f32⟩
  | .hbm, ⟨100, _⟩ => ⟨S2x8x256, .f32⟩
  | .hbm, ⟨101, _⟩ => ⟨S_, .f32⟩
  | .hbm, ⟨102, _⟩ => ⟨S2x24x256, .f32⟩
  | .hbm, ⟨103, _⟩ => ⟨S_, .f32⟩
  | .hbm, ⟨104, _⟩ => ⟨S2x1x256, .f32⟩
  | .hbm, ⟨105, _⟩ => ⟨S2x8192x768, .bf16⟩
  | .hbm, ⟨106, _⟩ => ⟨S2x8192x256, .bf16⟩
  | .hbm, ⟨107, _⟩ => ⟨S2x8192x256, .f32⟩
  | .hbm, ⟨108, _⟩ => ⟨S2x8192x256, .f32⟩
  | .hbm, ⟨109, _⟩ => ⟨S2x8192x512, .bf16⟩
  | .hbm, ⟨110, _⟩ => ⟨S2x8192x128, .f32⟩
  | .hbm, ⟨111, _⟩ => ⟨S2x8x256, .f32⟩
  | .hbm, ⟨112, _⟩ => ⟨S2x24x256, .f32⟩
  | .hbm, ⟨113, _⟩ => ⟨S2x1x256, .f32⟩
  | .hbm, ⟨114, _⟩ => ⟨S2x64x256x128, .bf16⟩
  | .hbm, ⟨115, _⟩ => ⟨S2x64x64x128, .bf16⟩
  | .hbm, ⟨116, _⟩ => ⟨S2x64x512x256, .bf16⟩
  | .local _ .vmem, ⟨0, _⟩ => ⟨S1x256x1024, .f32⟩
  | .local _ .vmem, ⟨1, _⟩ => ⟨S1x256x1024, .f32⟩
  | .local _ .vmem, ⟨2, _⟩ => ⟨S1024x1280, .bf16⟩
  | .local _ .vmem, ⟨3, _⟩ => ⟨S1024x768, .bf16⟩
  | .local _ .vmem, ⟨4, _⟩ => ⟨S1024x640, .bf16⟩
  | .local _ .vmem, ⟨5, _⟩ => ⟨S320x1024, .bf16⟩
  | .local _ .vmem, ⟨6, _⟩ => ⟨S8x256, .f32⟩
  | .local _ .vmem, ⟨7, _⟩ => ⟨S1x256, .f32⟩
  | .local _ .vmem, ⟨8, _⟩ => ⟨S256x512, .bf16⟩
  | .local _ .vmem, ⟨9, _⟩ => ⟨S1x512, .f32⟩
  | .local _ .vmem, ⟨10, _⟩ => ⟨S1x256, .f32⟩
  | .local _ .vmem, ⟨11, _⟩ => ⟨S1x256, .f32⟩
  | .local _ .vmem, ⟨12, _⟩ => ⟨S1x256, .f32⟩
  | .local _ .vmem, ⟨13, _⟩ => ⟨S4x128x128, .bf16⟩
  | .local _ .vmem, ⟨14, _⟩ => ⟨S128x256, .f32⟩
  | .local _ .vmem, ⟨15, _⟩ => ⟨S256x256, .bf16⟩
  | .local _ .vmem, ⟨16, _⟩ => ⟨S1x256, .f32⟩
  | .local _ .vmem, ⟨17, _⟩ => ⟨S1x8x256, .f32⟩
  | .local _ .vmem, ⟨18, _⟩ => ⟨S1x8x256, .f32⟩
  | .local _ .vmem, ⟨19, _⟩ => ⟨S1x24x256, .f32⟩
  | .local _ .vmem, ⟨20, _⟩ => ⟨S1x24x256, .f32⟩
  | .local _ .vmem, ⟨21, _⟩ => ⟨S1x1x256, .f32⟩
  | .local _ .vmem, ⟨22, _⟩ => ⟨S1x1x256, .f32⟩
  | .local _ .vmem, ⟨23, _⟩ => ⟨S1x256x768, .bf16⟩
  | .local _ .vmem, ⟨24, _⟩ => ⟨S1x256x768, .bf16⟩
  | .local _ .vmem, ⟨25, _⟩ => ⟨S1x256x256, .bf16⟩
  | .local _ .vmem, ⟨26, _⟩ => ⟨S1x256x256, .bf16⟩
  | .local _ .vmem, ⟨27, _⟩ => ⟨S1x256x256, .f32⟩
  | .local _ .vmem, ⟨28, _⟩ => ⟨S1x256x256, .f32⟩
  | .local _ .vmem, ⟨29, _⟩ => ⟨S1x256x256, .f32⟩
  | .local _ .vmem, ⟨30, _⟩ => ⟨S1x256x256, .f32⟩
  | .local _ .vmem, ⟨31, _⟩ => ⟨S1x256x512, .bf16⟩
  | .local _ .vmem, ⟨32, _⟩ => ⟨S1x256x512, .bf16⟩
  | .local _ .vmem, ⟨33, _⟩ => ⟨S1x256x128, .f32⟩
  | .local _ .vmem, ⟨34, _⟩ => ⟨S1x256x128, .f32⟩
  | .local _ .vmem, ⟨35, _⟩ => ⟨S1x8x256, .f32⟩
  | .local _ .vmem, ⟨36, _⟩ => ⟨S1x8x256, .f32⟩
  | .local _ .vmem, ⟨37, _⟩ => ⟨S1x24x256, .f32⟩
  | .local _ .vmem, ⟨38, _⟩ => ⟨S1x24x256, .f32⟩
  | .local _ .vmem, ⟨39, _⟩ => ⟨S1x1x256, .f32⟩
  | .local _ .vmem, ⟨40, _⟩ => ⟨S1x1x256, .f32⟩
  | .local _ .vmem, ⟨41, _⟩ => ⟨S1x2x256x128, .bf16⟩
  | .local _ .vmem, ⟨42, _⟩ => ⟨S1x2x256x128, .bf16⟩
  | .local _ .vmem, ⟨43, _⟩ => ⟨S1x2x64x128, .bf16⟩
  | .local _ .vmem, ⟨44, _⟩ => ⟨S1x2x64x128, .bf16⟩
  | .local _ .vmem, ⟨45, _⟩ => ⟨S1x2x512x256, .bf16⟩
  | .local _ .vmem, ⟨46, _⟩ => ⟨S1x2x512x256, .bf16⟩
  | .local _ .vmem, ⟨47, _⟩ => ⟨S264x256, .f32⟩
  | .local _ .vmem, ⟨48, _⟩ => ⟨S280x256, .f32⟩
  | .local _ .vmem, ⟨49, _⟩ => ⟨S280x256, .f32⟩
  | .local _ .vmem, ⟨50, _⟩ => ⟨S280x256, .f32⟩
  | .local _ .vmem, ⟨51, _⟩ => ⟨S280x256, .f32⟩
  | .local _ .vmem, ⟨52, _⟩ => ⟨S1x256, .f32⟩
  | _, _ => ⟨S2x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | _, _ => false

abbrev semScoped : Fin 0 → Bool
  | ⟨_, h⟩ => absurd h (Nat.not_lt_zero _)

abbrev dmaSemScoped : Fin 47 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | _ => false

abbrev sig : RefSig :=
  ofTc nBuf bufTy 0 47 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_cst : Ref sig .tc := ⟨.hbm, 15, rfl⟩
abbrev main_v0 : Ref sig .tc := ⟨.hbm, 16, rfl⟩
abbrev main_cst_0 : Ref sig .tc := ⟨.hbm, 17, rfl⟩
abbrev main_v1 : Ref sig .tc := ⟨.hbm, 18, rfl⟩
abbrev main_call0_v0 : Ref sig .tc := ⟨.hbm, 19, rfl⟩
abbrev main_call0_c : Ref sig .tc := ⟨.hbm, 20, rfl⟩
abbrev main_call0_v1 : Ref sig .tc := ⟨.hbm, 21, rfl⟩
abbrev main_call0_v2 : Ref sig .tc := ⟨.hbm, 22, rfl⟩
abbrev main_call0_v3 : Ref sig .tc := ⟨.hbm, 23, rfl⟩
abbrev main_call0_v4 : Ref sig .tc := ⟨.hbm, 24, rfl⟩
abbrev main_call0_cst : Ref sig .tc := ⟨.hbm, 25, rfl⟩
abbrev main_call0_v5 : Ref sig .tc := ⟨.hbm, 26, rfl⟩
abbrev main_v2 : Ref sig .tc := ⟨.hbm, 27, rfl⟩
abbrev main_v3 : Ref sig .tc := ⟨.hbm, 28, rfl⟩
abbrev main_v4 : Ref sig .tc := ⟨.hbm, 29, rfl⟩
abbrev main_v5 : Ref sig .tc := ⟨.hbm, 30, rfl⟩
abbrev main_v6 : Ref sig .tc := ⟨.hbm, 31, rfl⟩
abbrev main_v7 : Ref sig .tc := ⟨.hbm, 32, rfl⟩
abbrev main_v8 : Ref sig .tc := ⟨.hbm, 33, rfl⟩
abbrev main_v9 : Ref sig .tc := ⟨.hbm, 34, rfl⟩
abbrev main_v10 : Ref sig .tc := ⟨.hbm, 35, rfl⟩
abbrev main_v11 : Ref sig .tc := ⟨.hbm, 36, rfl⟩
abbrev main_v12 : Ref sig .tc := ⟨.hbm, 37, rfl⟩
abbrev main_v13 : Ref sig .tc := ⟨.hbm, 38, rfl⟩
abbrev main_v14 : Ref sig .tc := ⟨.hbm, 39, rfl⟩
abbrev main_v15 : Ref sig .tc := ⟨.hbm, 40, rfl⟩
abbrev main_v16 : Ref sig .tc := ⟨.hbm, 41, rfl⟩
abbrev main_v17 : Ref sig .tc := ⟨.hbm, 42, rfl⟩
abbrev main_v18 : Ref sig .tc := ⟨.hbm, 43, rfl⟩
abbrev main_v19 : Ref sig .tc := ⟨.hbm, 44, rfl⟩
abbrev main_v20 : Ref sig .tc := ⟨.hbm, 45, rfl⟩
abbrev main_cst_1 : Ref sig .tc := ⟨.hbm, 46, rfl⟩
abbrev main_v21 : Ref sig .tc := ⟨.hbm, 47, rfl⟩
abbrev main_v22 : Ref sig .tc := ⟨.hbm, 48, rfl⟩
abbrev main_v23 : Ref sig .tc := ⟨.hbm, 49, rfl⟩
abbrev main_v24 : Ref sig .tc := ⟨.hbm, 50, rfl⟩
abbrev main_v25 : Ref sig .tc := ⟨.hbm, 51, rfl⟩
abbrev main_c : Ref sig .tc := ⟨.hbm, 52, rfl⟩
abbrev main_v26 : Ref sig .tc := ⟨.hbm, 53, rfl⟩
abbrev main_v27 : Ref sig .tc := ⟨.hbm, 54, rfl⟩
abbrev main_v28 : Ref sig .tc := ⟨.hbm, 55, rfl⟩
abbrev main_v29 : Ref sig .tc := ⟨.hbm, 56, rfl⟩
abbrev main_v30 : Ref sig .tc := ⟨.hbm, 57, rfl⟩
abbrev main_v31 : Ref sig .tc := ⟨.hbm, 58, rfl⟩
abbrev main_v32 : Ref sig .tc := ⟨.hbm, 59, rfl⟩
abbrev main_v33 : Ref sig .tc := ⟨.hbm, 60, rfl⟩
abbrev main_v34 : Ref sig .tc := ⟨.hbm, 61, rfl⟩
abbrev main_v35 : Ref sig .tc := ⟨.hbm, 62, rfl⟩
abbrev main_v36 : Ref sig .tc := ⟨.hbm, 63, rfl⟩
abbrev main_v37 : Ref sig .tc := ⟨.hbm, 64, rfl⟩
abbrev main_c_2 : Ref sig .tc := ⟨.hbm, 65, rfl⟩
abbrev main_v38 : Ref sig .tc := ⟨.hbm, 66, rfl⟩
abbrev main_v39 : Ref sig .tc := ⟨.hbm, 67, rfl⟩
abbrev main_v40 : Ref sig .tc := ⟨.hbm, 68, rfl⟩
abbrev main_v41 : Ref sig .tc := ⟨.hbm, 69, rfl⟩
abbrev main_v42 : Ref sig .tc := ⟨.hbm, 70, rfl⟩
abbrev main_v43 : Ref sig .tc := ⟨.hbm, 71, rfl⟩
abbrev main_v44 : Ref sig .tc := ⟨.hbm, 72, rfl⟩
abbrev main_v45 : Ref sig .tc := ⟨.hbm, 73, rfl⟩
abbrev main_v46 : Ref sig .tc := ⟨.hbm, 74, rfl⟩
abbrev main_v47 : Ref sig .tc := ⟨.hbm, 75, rfl⟩
abbrev main_v48 : Ref sig .tc := ⟨.hbm, 76, rfl⟩
abbrev main_v49 : Ref sig .tc := ⟨.hbm, 77, rfl⟩
abbrev main_v50 : Ref sig .tc := ⟨.hbm, 78, rfl⟩
abbrev main_v51 : Ref sig .tc := ⟨.hbm, 79, rfl⟩
abbrev main_v52 : Ref sig .tc := ⟨.hbm, 80, rfl⟩
abbrev main_v53 : Ref sig .tc := ⟨.hbm, 81, rfl⟩
abbrev main_v54 : Ref sig .tc := ⟨.hbm, 82, rfl⟩
abbrev main_v55 : Ref sig .tc := ⟨.hbm, 83, rfl⟩
abbrev main_v56 : Ref sig .tc := ⟨.hbm, 84, rfl⟩
abbrev main_v57 : Ref sig .tc := ⟨.hbm, 85, rfl⟩
abbrev main_c_3 : Ref sig .tc := ⟨.hbm, 86, rfl⟩
abbrev main_v58 : Ref sig .tc := ⟨.hbm, 87, rfl⟩
abbrev main_v59 : Ref sig .tc := ⟨.hbm, 88, rfl⟩
abbrev main_v60 : Ref sig .tc := ⟨.hbm, 89, rfl⟩
abbrev main_v61 : Ref sig .tc := ⟨.hbm, 90, rfl⟩
abbrev main_v62 : Ref sig .tc := ⟨.hbm, 91, rfl⟩
abbrev main_v63 : Ref sig .tc := ⟨.hbm, 92, rfl⟩
abbrev main_v64 : Ref sig .tc := ⟨.hbm, 93, rfl⟩
abbrev main_v65 : Ref sig .tc := ⟨.hbm, 94, rfl⟩
abbrev main_v66 : Ref sig .tc := ⟨.hbm, 95, rfl⟩
abbrev main_v67 : Ref sig .tc := ⟨.hbm, 96, rfl⟩
abbrev main_v68 : Ref sig .tc := ⟨.hbm, 97, rfl⟩
abbrev main_v69 : Ref sig .tc := ⟨.hbm, 98, rfl⟩
abbrev main_cst_4 : Ref sig .tc := ⟨.hbm, 99, rfl⟩
abbrev main_v70 : Ref sig .tc := ⟨.hbm, 100, rfl⟩
abbrev main_cst_5 : Ref sig .tc := ⟨.hbm, 101, rfl⟩
abbrev main_v71 : Ref sig .tc := ⟨.hbm, 102, rfl⟩
abbrev main_cst_6 : Ref sig .tc := ⟨.hbm, 103, rfl⟩
abbrev main_v72 : Ref sig .tc := ⟨.hbm, 104, rfl⟩
abbrev main_v73_0 : Ref sig .tc := ⟨.hbm, 105, rfl⟩
abbrev main_v73_1 : Ref sig .tc := ⟨.hbm, 106, rfl⟩
abbrev main_v73_2 : Ref sig .tc := ⟨.hbm, 107, rfl⟩
abbrev main_v73_3 : Ref sig .tc := ⟨.hbm, 108, rfl⟩
abbrev main_v73_4 : Ref sig .tc := ⟨.hbm, 109, rfl⟩
abbrev main_v73_5 : Ref sig .tc := ⟨.hbm, 110, rfl⟩
abbrev main_v73_6 : Ref sig .tc := ⟨.hbm, 111, rfl⟩
abbrev main_v73_7 : Ref sig .tc := ⟨.hbm, 112, rfl⟩
abbrev main_v73_8 : Ref sig .tc := ⟨.hbm, 113, rfl⟩
abbrev main_v73_9 : Ref sig .tc := ⟨.hbm, 114, rfl⟩
abbrev main_v73_10 : Ref sig .tc := ⟨.hbm, 115, rfl⟩
abbrev main_v73_11 : Ref sig .tc := ⟨.hbm, 116, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg11_0 : Ref sig .tc := ⟨.vmem, 12, rfl⟩
abbrev cc0_stg12_0 : Ref sig .tc := ⟨.vmem, 13, rfl⟩
abbrev cc0_stg13_0 : Ref sig .tc := ⟨.vmem, 14, rfl⟩
abbrev cc0_stg14_0 : Ref sig .tc := ⟨.vmem, 15, rfl⟩
abbrev cc0_stg15_0 : Ref sig .tc := ⟨.vmem, 16, rfl⟩
abbrev cc0_stg16_0 : Ref sig .tc := ⟨.vmem, 17, rfl⟩
abbrev cc0_stg16_1 : Ref sig .tc := ⟨.vmem, 18, rfl⟩
abbrev cc0_stg17_0 : Ref sig .tc := ⟨.vmem, 19, rfl⟩
abbrev cc0_stg17_1 : Ref sig .tc := ⟨.vmem, 20, rfl⟩
abbrev cc0_stg18_0 : Ref sig .tc := ⟨.vmem, 21, rfl⟩
abbrev cc0_stg18_1 : Ref sig .tc := ⟨.vmem, 22, rfl⟩
abbrev cc0_stg19_0 : Ref sig .tc := ⟨.vmem, 23, rfl⟩
abbrev cc0_stg19_1 : Ref sig .tc := ⟨.vmem, 24, rfl⟩
abbrev cc0_stg20_0 : Ref sig .tc := ⟨.vmem, 25, rfl⟩
abbrev cc0_stg20_1 : Ref sig .tc := ⟨.vmem, 26, rfl⟩
abbrev cc0_stg21_0 : Ref sig .tc := ⟨.vmem, 27, rfl⟩
abbrev cc0_stg21_1 : Ref sig .tc := ⟨.vmem, 28, rfl⟩
abbrev cc0_stg22_0 : Ref sig .tc := ⟨.vmem, 29, rfl⟩
abbrev cc0_stg22_1 : Ref sig .tc := ⟨.vmem, 30, rfl⟩
abbrev cc0_stg23_0 : Ref sig .tc := ⟨.vmem, 31, rfl⟩
abbrev cc0_stg23_1 : Ref sig .tc := ⟨.vmem, 32, rfl⟩
abbrev cc0_stg24_0 : Ref sig .tc := ⟨.vmem, 33, rfl⟩
abbrev cc0_stg24_1 : Ref sig .tc := ⟨.vmem, 34, rfl⟩
abbrev cc0_stg25_0 : Ref sig .tc := ⟨.vmem, 35, rfl⟩
abbrev cc0_stg25_1 : Ref sig .tc := ⟨.vmem, 36, rfl⟩
abbrev cc0_stg26_0 : Ref sig .tc := ⟨.vmem, 37, rfl⟩
abbrev cc0_stg26_1 : Ref sig .tc := ⟨.vmem, 38, rfl⟩
abbrev cc0_stg27_0 : Ref sig .tc := ⟨.vmem, 39, rfl⟩
abbrev cc0_stg27_1 : Ref sig .tc := ⟨.vmem, 40, rfl⟩
abbrev cc0_stg28_0 : Ref sig .tc := ⟨.vmem, 41, rfl⟩
abbrev cc0_stg28_1 : Ref sig .tc := ⟨.vmem, 42, rfl⟩
abbrev cc0_stg29_0 : Ref sig .tc := ⟨.vmem, 43, rfl⟩
abbrev cc0_stg29_1 : Ref sig .tc := ⟨.vmem, 44, rfl⟩
abbrev cc0_stg30_0 : Ref sig .tc := ⟨.vmem, 45, rfl⟩
abbrev cc0_stg30_1 : Ref sig .tc := ⟨.vmem, 46, rfl⟩
abbrev cc0_scratch0 : Ref sig .tc := ⟨.vmem, 47, rfl⟩
abbrev cc0_scratch1 : Ref sig .tc := ⟨.vmem, 48, rfl⟩
abbrev cc0_scratch2 : Ref sig .tc := ⟨.vmem, 49, rfl⟩
abbrev cc0_scratch3 : Ref sig .tc := ⟨.vmem, 50, rfl⟩
abbrev cc0_scratch4 : Ref sig .tc := ⟨.vmem, 51, rfl⟩
abbrev cc0_scratch5 : Ref sig .tc := ⟨.vmem, 52, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem11_0 : DmaSem sig := 12
abbrev cc0_sem12_0 : DmaSem sig := 13
abbrev cc0_sem13_0 : DmaSem sig := 14
abbrev cc0_sem14_0 : DmaSem sig := 15
abbrev cc0_sem15_0 : DmaSem sig := 16
abbrev cc0_sem16_0 : DmaSem sig := 17
abbrev cc0_sem16_1 : DmaSem sig := 18
abbrev cc0_sem17_0 : DmaSem sig := 19
abbrev cc0_sem17_1 : DmaSem sig := 20
abbrev cc0_sem18_0 : DmaSem sig := 21
abbrev cc0_sem18_1 : DmaSem sig := 22
abbrev cc0_sem19_0 : DmaSem sig := 23
abbrev cc0_sem19_1 : DmaSem sig := 24
abbrev cc0_sem20_0 : DmaSem sig := 25
abbrev cc0_sem20_1 : DmaSem sig := 26
abbrev cc0_sem21_0 : DmaSem sig := 27
abbrev cc0_sem21_1 : DmaSem sig := 28
abbrev cc0_sem22_0 : DmaSem sig := 29
abbrev cc0_sem22_1 : DmaSem sig := 30
abbrev cc0_sem23_0 : DmaSem sig := 31
abbrev cc0_sem23_1 : DmaSem sig := 32
abbrev cc0_sem24_0 : DmaSem sig := 33
abbrev cc0_sem24_1 : DmaSem sig := 34
abbrev cc0_sem25_0 : DmaSem sig := 35
abbrev cc0_sem25_1 : DmaSem sig := 36
abbrev cc0_sem26_0 : DmaSem sig := 37
abbrev cc0_sem26_1 : DmaSem sig := 38
abbrev cc0_sem27_0 : DmaSem sig := 39
abbrev cc0_sem27_1 : DmaSem sig := 40
abbrev cc0_sem28_0 : DmaSem sig := 41
abbrev cc0_sem28_1 : DmaSem sig := 42
abbrev cc0_sem29_0 : DmaSem sig := 43
abbrev cc0_sem29_1 : DmaSem sig := 44
abbrev cc0_sem30_0 : DmaSem sig := 45
abbrev cc0_sem30_1 : DmaSem sig := 46

abbrev nD : Nat := 1
abbrev τ : Topo := Topo.v7x

variable {F : FTy → Type} [FloatOps F]

abbrev grid0 : Pipeline.Grid := ⟨2, ![2, 32], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_17 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_18 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_19 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_20 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_21 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_22 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_23 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_24 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_25 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_26 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_27 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_28 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_29 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_30 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1024x1280 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1024x768 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1024x640 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S320x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S8x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S256x512 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1x256 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S1x256 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S1x256 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 1 → Memref sig .tc .vmem S4x128x128 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]

abbrev stage0_13 : Fin 1 → Memref sig .tc .vmem S128x256 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false, false]

abbrev stage0_14 : Fin 1 → Memref sig .tc .vmem S256x256 .bf16 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false, false]

abbrev stage0_15 : Fin 1 → Memref sig .tc .vmem S1x256 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false, false]

abbrev stage0_16 : Fin 2 → Memref sig .tc .vmem S1x8x256 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true, false]

abbrev stage0_17 : Fin 2 → Memref sig .tc .vmem S1x24x256 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true, false]

abbrev stage0_18 : Fin 2 → Memref sig .tc .vmem S1x1x256 .f32 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true, false]

abbrev stage0_19 : Fin 2 → Memref sig .tc .vmem S1x256x768 .bf16 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true, true]

abbrev stage0_20 : Fin 2 → Memref sig .tc .vmem S1x256x256 .bf16 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true, true]

abbrev stage0_21 : Fin 2 → Memref sig .tc .vmem S1x256x256 .f32 := fun | 0 => Memref.whole cc0_stg21_0 | 1 => Memref.whole cc0_stg21_1 | ⟨_ + 2, h⟩ => absurd h (Nat.not_lt.2 (Nat.le_add_left _ _))
abbrev sem0_21 : Fin 2 → DmaSem sig := fun | 0 => cc0_sem21_0 | 1 => cc0_sem21_1 | ⟨_ + 2, h⟩ => absurd h (Nat.not_lt.2 (Nat.le_add_left _ _))
abbrev reads0_21 : Fin grid0.rank → Bool := ![true, true]

abbrev stage0_22 : Fin 2 → Memref sig .tc .vmem S1x256x256 .f32 := fun | 0 => Memref.whole cc0_stg22_0 | 1 => Memref.whole cc0_stg22_1 | ⟨_ + 2, h⟩ => absurd h (Nat.not_lt.2 (Nat.le_add_left _ _))
abbrev sem0_22 : Fin 2 → DmaSem sig := fun | 0 => cc0_sem22_0 | 1 => cc0_sem22_1 | ⟨_ + 2, h⟩ => absurd h (Nat.not_lt.2 (Nat.le_add_left _ _))
abbrev reads0_22 : Fin grid0.rank → Bool := ![true, true]

abbrev stage0_23 : Fin 2 → Memref sig .tc .vmem S1x256x512 .bf16 := fun | 0 => Memref.whole cc0_stg23_0 | 1 => Memref.whole cc0_stg23_1 | ⟨_ + 2, h⟩ => absurd h (Nat.not_lt.2 (Nat.le_add_left _ _))
abbrev sem0_23 : Fin 2 → DmaSem sig := fun | 0 => cc0_sem23_0 | 1 => cc0_sem23_1 | ⟨_ + 2, h⟩ => absurd h (Nat.not_lt.2 (Nat.le_add_left _ _))
abbrev reads0_23 : Fin grid0.rank → Bool := ![true, true]

abbrev stage0_24 : Fin 2 → Memref sig .tc .vmem S1x256x128 .f32 := fun | 0 => Memref.whole cc0_stg24_0 | 1 => Memref.whole cc0_stg24_1 | ⟨_ + 2, h⟩ => absurd h (Nat.not_lt.2 (Nat.le_add_left _ _))
abbrev sem0_24 : Fin 2 → DmaSem sig := fun | 0 => cc0_sem24_0 | 1 => cc0_sem24_1 | ⟨_ + 2, h⟩ => absurd h (Nat.not_lt.2 (Nat.le_add_left _ _))
abbrev reads0_24 : Fin grid0.rank → Bool := ![true, true]

abbrev stage0_25 : Fin 2 → Memref sig .tc .vmem S1x8x256 .f32 := fun | 0 => Memref.whole cc0_stg25_0 | 1 => Memref.whole cc0_stg25_1 | ⟨_ + 2, h⟩ => absurd h (Nat.not_lt.2 (Nat.le_add_left _ _))
abbrev sem0_25 : Fin 2 → DmaSem sig := fun | 0 => cc0_sem25_0 | 1 => cc0_sem25_1 | ⟨_ + 2, h⟩ => absurd h (Nat.not_lt.2 (Nat.le_add_left _ _))
abbrev reads0_25 : Fin grid0.rank → Bool := ![true, false]

abbrev stage0_26 : Fin 2 → Memref sig .tc .vmem S1x24x256 .f32 := fun | 0 => Memref.whole cc0_stg26_0 | 1 => Memref.whole cc0_stg26_1 | ⟨_ + 2, h⟩ => absurd h (Nat.not_lt.2 (Nat.le_add_left _ _))
abbrev sem0_26 : Fin 2 → DmaSem sig := fun | 0 => cc0_sem26_0 | 1 => cc0_sem26_1 | ⟨_ + 2, h⟩ => absurd h (Nat.not_lt.2 (Nat.le_add_left _ _))
abbrev reads0_26 : Fin grid0.rank → Bool := ![true, false]

abbrev stage0_27 : Fin 2 → Memref sig .tc .vmem S1x1x256 .f32 := fun | 0 => Memref.whole cc0_stg27_0 | 1 => Memref.whole cc0_stg27_1 | ⟨_ + 2, h⟩ => absurd h (Nat.not_lt.2 (Nat.le_add_left _ _))
abbrev sem0_27 : Fin 2 → DmaSem sig := fun | 0 => cc0_sem27_0 | 1 => cc0_sem27_1 | ⟨_ + 2, h⟩ => absurd h (Nat.not_lt.2 (Nat.le_add_left _ _))
abbrev reads0_27 : Fin grid0.rank → Bool := ![true, false]

abbrev stage0_28 : Fin 2 → Memref sig .tc .vmem S1x2x256x128 .bf16 := fun | 0 => Memref.whole cc0_stg28_0 | 1 => Memref.whole cc0_stg28_1 | ⟨_ + 2, h⟩ => absurd h (Nat.not_lt.2 (Nat.le_add_left _ _))
abbrev sem0_28 : Fin 2 → DmaSem sig := fun | 0 => cc0_sem28_0 | 1 => cc0_sem28_1 | ⟨_ + 2, h⟩ => absurd h (Nat.not_lt.2 (Nat.le_add_left _ _))
abbrev reads0_28 : Fin grid0.rank → Bool := ![true, true]

abbrev stage0_29 : Fin 2 → Memref sig .tc .vmem S1x2x64x128 .bf16 := fun | 0 => Memref.whole cc0_stg29_0 | 1 => Memref.whole cc0_stg29_1 | ⟨_ + 2, h⟩ => absurd h (Nat.not_lt.2 (Nat.le_add_left _ _))
abbrev sem0_29 : Fin 2 → DmaSem sig := fun | 0 => cc0_sem29_0 | 1 => cc0_sem29_1 | ⟨_ + 2, h⟩ => absurd h (Nat.not_lt.2 (Nat.le_add_left _ _))
abbrev reads0_29 : Fin grid0.rank → Bool := ![true, true]

abbrev stage0_30 : Fin 2 → Memref sig .tc .vmem S1x2x512x256 .bf16 := fun | 0 => Memref.whole cc0_stg30_0 | 1 => Memref.whole cc0_stg30_1 | ⟨_ + 2, h⟩ => absurd h (Nat.not_lt.2 (Nat.le_add_left _ _))
abbrev sem0_30 : Fin 2 → DmaSem sig := fun | 0 => cc0_sem30_0 | 1 => cc0_sem30_1 | ⟨_ + 2, h⟩ => absurd h (Nat.not_lt.2 (Nat.le_add_left _ _))
abbrev reads0_30 : Fin grid0.rank → Bool := ![true, true]
-- ==== Reference2Ideal.lean ====
abbrev S2x8192x1024 : Shape := ⟨3, ![2, 8192, 1024]⟩
abbrev S1024x2632 : Shape := ⟨2, ![1024, 2632]⟩
abbrev S4x256 : Shape := ⟨2, ![4, 256]⟩
abbrev S256 : Shape := ⟨1, ![256]⟩
abbrev S4x64x64 : Shape := ⟨3, ![4, 64, 64]⟩
abbrev S4x128x128 : Shape := ⟨3, ![4, 128, 128]⟩
abbrev S4x128 : Shape := ⟨2, ![4, 128]⟩
abbrev S2x8192x2632 : Shape := ⟨3, ![2, 8192, 2632]⟩
abbrev S2x8192x256 : Shape := ⟨3, ![2, 8192, 256]⟩
abbrev S_ : Shape := ⟨0, ![]⟩
abbrev S2x3x256 : Shape := ⟨3, ![2, 3, 256]⟩
abbrev S2x8195x256 : Shape := ⟨3, ![2, 8195, 256]⟩
abbrev S1x256 : Shape := ⟨2, ![1, 256]⟩
abbrev S1x1x256 : Shape := ⟨3, ![1, 1, 256]⟩
abbrev S2x8192x4x64 : Shape := ⟨4, ![2, 8192, 4, 64]⟩
abbrev S4x64x2x8192 : Shape := ⟨4, ![4, 64, 2, 8192]⟩
abbrev S2x256 : Shape := ⟨2, ![2, 256]⟩
abbrev S8192x2x256 : Shape := ⟨3, ![8192, 2, 256]⟩
abbrev S1x2x256 : Shape := ⟨3, ![1, 2, 256]⟩
abbrev S2x8192x512 : Shape := ⟨3, ![2, 8192, 512]⟩
abbrev S2x8192x64 : Shape := ⟨3, ![2, 8192, 64]⟩
abbrev S2x8192x8 : Shape := ⟨3, ![2, 8192, 8]⟩
abbrev S2x8192 : Shape := ⟨2, ![2, 8192]⟩
abbrev S2x8192x1 : Shape := ⟨3, ![2, 8192, 1]⟩
abbrev S2x64x128x4x64 : Shape := ⟨5, ![2, 64, 128, 4, 64]⟩
abbrev S128x128 : Shape := ⟨2, ![128, 128]⟩
abbrev S1x128x128 : Shape := ⟨3, ![1, 128, 128]⟩
abbrev S4x2x64x64x128 : Shape := ⟨5, ![4, 2, 64, 64, 128]⟩
abbrev S128x4 : Shape := ⟨2, ![128, 4]⟩
abbrev S1x1x128x4x1 : Shape := ⟨5, ![1, 1, 128, 4, 1]⟩
abbrev S2x15x256 : Shape := ⟨3, ![2, 15, 256]⟩
abbrev S2x8207x256 : Shape := ⟨3, ![2, 8207, 256]⟩
abbrev S8192 : Shape := ⟨1, ![8192]⟩
abbrev S1x8192x1 : Shape := ⟨3, ![1, 8192, 1]⟩
abbrev S2x8192x128 : Shape := ⟨3, ![2, 8192, 128]⟩
abbrev S2x8192x192 : Shape := ⟨3, ![2, 8192, 192]⟩
abbrev S4x4 : Shape := ⟨2, ![4, 4]⟩
abbrev S4x1x4x1 : Shape := ⟨4, ![4, 1, 4, 1]⟩
abbrev S2x8192x768 : Shape := ⟨3, ![2, 8192, 768]⟩
abbrev S2x8192x56 : Shape := ⟨3, ![2, 8192, 56]⟩
abbrev S2x8x256 : Shape := ⟨3, ![2, 8, 256]⟩
abbrev S2x24x256 : Shape := ⟨3, ![2, 24, 256]⟩
abbrev S2x1x256 : Shape := ⟨3, ![2, 1, 256]⟩
abbrev S2x64x128x256 : Shape := ⟨4, ![2, 64, 128, 256]⟩
abbrev S2x64x256x128 : Shape := ⟨4, ![2, 64, 256, 128]⟩
abbrev S2x64x128x64 : Shape := ⟨4, ![2, 64, 128, 64]⟩
abbrev S2x64x64x128 : Shape := ⟨4, ![2, 64, 64, 128]⟩
abbrev S2x64x1x128x4x64 : Shape := ⟨6, ![2, 64, 1, 128, 4, 64]⟩
abbrev S2x64x4x128x4x64 : Shape := ⟨6, ![2, 64, 4, 128, 4, 64]⟩
abbrev S2x64x512x256 : Shape := ⟨4, ![2, 64, 512, 256]⟩

abbrev nBuf : Space → Nat
  | .hbm => 418
  | .vmem => 0
  | .smem => 0
  | _ => 0

abbrev hbmTy0_0 (i : Nat) : BufTy := match i % 128 with
  | 0 => ⟨S2x8192x1024, .f32⟩
  | 1 => ⟨S1024x2632, .f32⟩
  | 2 => ⟨S4x256, .f32⟩
  | 3 => ⟨S256, .f32⟩
  | 4 => ⟨S4x64x64, .f32⟩
  | 5 => ⟨S256, .f32⟩
  | 6 => ⟨S4x64x64, .f32⟩
  | 7 => ⟨S256, .f32⟩
  | 8 => ⟨S256, .f32⟩
  | 9 => ⟨S256, .f32⟩
  | 10 => ⟨S256, .f32⟩
  | 11 => ⟨S4x128x128, .f32⟩
  | 12 => ⟨S4x128, .f32⟩
  | 13 => ⟨S4x64x64, .f32⟩
  | 14 => ⟨S256, .f32⟩
  | 15 => ⟨S2x8192x2632, .f32⟩
  | 16 => ⟨S2x8192x256, .f32⟩
  | 17 => ⟨S_, .f32⟩
  | 18 => ⟨S2x3x256, .f32⟩
  | 19 => ⟨S2x8195x256, .f32⟩
  | 20 => ⟨S2x8192x256, .f32⟩
  | 21 => ⟨S1x256, .f32⟩
  | 22 => ⟨S256, .f32⟩
  | 23 => ⟨S1x1x256, .f32⟩
  | 24 => ⟨S2x8192x256, .f32⟩
  | 25 => ⟨S2x8192x256, .f32⟩
  | 26 => ⟨S_, .f32⟩
  | 27 => ⟨S2x8192x256, .f32⟩
  | 28 => ⟨S2x8192x256, .f32⟩
  | 29 => ⟨S2x8192x256, .f32⟩
  | 30 => ⟨S1x256, .f32⟩
  | 31 => ⟨S256, .f32⟩
  | 32 => ⟨S1x1x256, .f32⟩
  | 33 => ⟨S2x8192x256, .f32⟩
  | 34 => ⟨S2x8192x256, .f32⟩
  | 35 => ⟨S2x8192x256, .f32⟩
  | 36 => ⟨S2x8192x256, .f32⟩
  | 37 => ⟨S1x256, .f32⟩
  | 38 => ⟨S256, .f32⟩
  | 39 => ⟨S1x1x256, .f32⟩
  | 40 => ⟨S2x8192x256, .f32⟩
  | 41 => ⟨S2x8192x256, .f32⟩
  | 42 => ⟨S2x8192x256, .f32⟩
  | 43 => ⟨S2x8192x256, .f32⟩
  | 44 => ⟨S1x256, .f32⟩
  | 45 => ⟨S256, .f32⟩
  | 46 => ⟨S1x1x256, .f32⟩
  | 47 => ⟨S2x8192x256, .f32⟩
  | 48 => ⟨S2x8192x256, .f32⟩
  | 49 => ⟨S2x8192x256, .f32⟩
  | 50 => ⟨S1x1x256, .f32⟩
  | 51 => ⟨S2x8192x256, .f32⟩
  | 52 => ⟨S2x8192x256, .f32⟩
  | 53 => ⟨S2x8192x4x64, .f32⟩
  | 54 => ⟨S4x64x2x8192, .f32⟩
  | 55 => ⟨S2x8192x4x64, .f32⟩
  | 56 => ⟨S2x8192x256, .f32⟩
  | 57 => ⟨S1x1x256, .f32⟩
  | 58 => ⟨S2x8192x256, .f32⟩
  | 59 => ⟨S2x8192x256, .f32⟩
  | 60 => ⟨S2x8192x256, .f32⟩
  | 61 => ⟨S2x8192x256, .f32⟩
  | 62 => ⟨S_, .f32⟩
  | 63 => ⟨S2x8192x256, .f32⟩
  | 64 => ⟨S2x8192x256, .f32⟩
  | 65 => ⟨S_, .f32⟩
  | 66 => ⟨S2x8192x256, .f32⟩
  | 67 => ⟨S2x8192x256, .f32⟩
  | 68 => ⟨S4x64x2x8192, .f32⟩
  | 69 => ⟨S2x8192x4x64, .f32⟩
  | 70 => ⟨S2x8192x256, .f32⟩
  | 71 => ⟨S1x1x256, .f32⟩
  | 72 => ⟨S2x8192x256, .f32⟩
  | 73 => ⟨S2x8192x256, .f32⟩
  | 74 => ⟨S2x8192x256, .f32⟩
  | 75 => ⟨S2x8192x256, .f32⟩
  | 76 => ⟨S_, .f32⟩
  | 77 => ⟨S2x8192x256, .f32⟩
  | 78 => ⟨S2x8192x256, .f32⟩
  | 79 => ⟨S_, .f32⟩
  | 80 => ⟨S2x8192x256, .f32⟩
  | 81 => ⟨S2x8192x256, .f32⟩
  | 82 => ⟨S_, .f32⟩
  | 83 => ⟨S2x8192x256, .f32⟩
  | 84 => ⟨S2x8192x256, .f32⟩
  | 85 => ⟨S256, .f32⟩
  | 86 => ⟨S_, .f32⟩
  | 87 => ⟨S256, .f32⟩
  | 88 => ⟨S256, .f32⟩
  | 89 => ⟨S256, .f32⟩
  | 90 => ⟨S256, .f32⟩
  | 91 => ⟨S256, .i1⟩
  | 92 => ⟨S256, .f32⟩
  | 93 => ⟨S256, .f32⟩
  | 94 => ⟨S256, .f32⟩
  | 95 => ⟨S256, .f32⟩
  | 96 => ⟨S256, .f32⟩
  | 97 => ⟨S256, .f32⟩
  | 98 => ⟨S256, .f32⟩
  | 99 => ⟨S256, .f32⟩
  | 100 => ⟨S1x1x256, .f32⟩
  | 101 => ⟨S2x8192x256, .f32⟩
  | 102 => ⟨S2x8192x256, .f32⟩
  | 103 => ⟨S2x8192x256, .f32⟩
  | 104 => ⟨S_, .f32⟩
  | 105 => ⟨S2x8192x256, .f32⟩
  | 106 => ⟨S2x8192x256, .f32⟩
  | 107 => ⟨S2x8192x256, .f32⟩
  | 108 => ⟨S2x8192x256, .f32⟩
  | 109 => ⟨S2x8192x256, .f32⟩
  | 110 => ⟨S2x8192x256, .f32⟩
  | 111 => ⟨S2x8192x256, .f32⟩
  | 112 => ⟨S_, .f32⟩
  | 113 => ⟨S2x256, .f32⟩
  | 114 => ⟨S8192x2x256, .f32⟩
  | 115 => ⟨S8192x2x256, .f32⟩
  | 116 => ⟨S_, .f32⟩
  | 117 => ⟨S8192x2x256, .f32⟩
  | 118 => ⟨S_, .i32⟩
  | 119 => ⟨S8192x2x256, .f32⟩
  | 120 => ⟨S8192x2x256, .f32⟩
  | 121 => ⟨S_, .i32⟩
  | 122 => ⟨S2x256, .f32⟩
  | 123 => ⟨S8192x2x256, .f32⟩
  | 124 => ⟨S_, .i32⟩
  | 125 => ⟨S_, .i1⟩
  | 126 => ⟨S_, .i32⟩
  | 127 => ⟨S_, .i32⟩
  | _ => ⟨S2x8192x1024, .f32⟩

abbrev hbmTy0_1 (i : Nat) : BufTy := match i % 128 with
  | 0 => ⟨S1x2x256, .f32⟩
  | 1 => ⟨S2x256, .f32⟩
  | 2 => ⟨S_, .i32⟩
  | 3 => ⟨S_, .i32⟩
  | 4 => ⟨S1x2x256, .f32⟩
  | 5 => ⟨S2x256, .f32⟩
  | 6 => ⟨S2x256, .f32⟩
  | 7 => ⟨S2x256, .f32⟩
  | 8 => ⟨S1x2x256, .f32⟩
  | 9 => ⟨S_, .i32⟩
  | 10 => ⟨S_, .i32⟩
  | 11 => ⟨S8192x2x256, .f32⟩
  | 12 => ⟨S_, .i32⟩
  | 13 => ⟨S_, .i32⟩
  | 14 => ⟨S2x8192x256, .f32⟩
  | 15 => ⟨S2x8192x2632, .f32⟩
  | 16 => ⟨S2x8192x256, .f32⟩
  | 17 => ⟨S2x8192x256, .f32⟩
  | 18 => ⟨S2x8192x256, .f32⟩
  | 19 => ⟨S2x8192x256, .f32⟩
  | 20 => ⟨S2x8192x256, .f32⟩
  | 21 => ⟨S2x8192x256, .f32⟩
  | 22 => ⟨S2x8192x256, .f32⟩
  | 23 => ⟨S2x8192x256, .f32⟩
  | 24 => ⟨S2x8192x512, .f32⟩
  | 25 => ⟨S2x8192x64, .f32⟩
  | 26 => ⟨S2x8192x8, .f32⟩
  | 27 => ⟨S2x8192x256, .f32⟩
  | 28 => ⟨S2x8192x256, .f32⟩
  | 29 => ⟨S_, .f32⟩
  | 30 => ⟨S2x8192x256, .f32⟩
  | 31 => ⟨S2x8192x256, .f32⟩
  | 32 => ⟨S2x8192x256, .f32⟩
  | 33 => ⟨S_, .f32⟩
  | 34 => ⟨S2x8192x256, .f32⟩
  | 35 => ⟨S2x8192x256, .f32⟩
  | 36 => ⟨S2x8192x256, .f32⟩
  | 37 => ⟨S_, .f32⟩
  | 38 => ⟨S2x8192x256, .f32⟩
  | 39 => ⟨S2x8192x256, .f32⟩
  | 40 => ⟨S_, .f32⟩
  | 41 => ⟨S2x8192x256, .f32⟩
  | 42 => ⟨S2x8192x256, .f32⟩
  | 43 => ⟨S2x8192x256, .f32⟩
  | 44 => ⟨S2x8192x256, .f32⟩
  | 45 => ⟨S2x8192x256, .f32⟩
  | 46 => ⟨S2x8192x256, .f32⟩
  | 47 => ⟨S_, .f32⟩
  | 48 => ⟨S2x8192x256, .f32⟩
  | 49 => ⟨S2x8192x256, .f32⟩
  | 50 => ⟨S2x8192x256, .f32⟩
  | 51 => ⟨S_, .f32⟩
  | 52 => ⟨S2x8192x256, .f32⟩
  | 53 => ⟨S2x8192x256, .f32⟩
  | 54 => ⟨S2x8192x256, .f32⟩
  | 55 => ⟨S_, .f32⟩
  | 56 => ⟨S2x8192x256, .f32⟩
  | 57 => ⟨S2x8192x256, .f32⟩
  | 58 => ⟨S_, .f32⟩
  | 59 => ⟨S2x8192x256, .f32⟩
  | 60 => ⟨S2x8192x256, .f32⟩
  | 61 => ⟨S2x8192x256, .f32⟩
  | 62 => ⟨S2x8192x256, .f32⟩
  | 63 => ⟨S2x8192x256, .f32⟩
  | 64 => ⟨S_, .f32⟩
  | 65 => ⟨S2x8192x256, .f32⟩
  | 66 => ⟨S2x8192x256, .f32⟩
  | 67 => ⟨S2x8192x256, .f32⟩
  | 68 => ⟨S_, .f32⟩
  | 69 => ⟨S2x8192x256, .f32⟩
  | 70 => ⟨S2x8192x256, .f32⟩
  | 71 => ⟨S2x8192x256, .f32⟩
  | 72 => ⟨S_, .f32⟩
  | 73 => ⟨S2x8192x256, .f32⟩
  | 74 => ⟨S2x8192x256, .f32⟩
  | 75 => ⟨S_, .f32⟩
  | 76 => ⟨S2x8192x256, .f32⟩
  | 77 => ⟨S2x8192x256, .f32⟩
  | 78 => ⟨S2x8192x256, .f32⟩
  | 79 => ⟨S_, .f32⟩
  | 80 => ⟨S2x8192, .f32⟩
  | 81 => ⟨S2x8192x1, .f32⟩
  | 82 => ⟨S_, .f32⟩
  | 83 => ⟨S2x8192x1, .f32⟩
  | 84 => ⟨S2x8192x1, .f32⟩
  | 85 => ⟨S2x8192x256, .f32⟩
  | 86 => ⟨S2x8192x256, .f32⟩
  | 87 => ⟨S2x8192x256, .f32⟩
  | 88 => ⟨S_, .f32⟩
  | 89 => ⟨S2x8192, .f32⟩
  | 90 => ⟨S2x8192x1, .f32⟩
  | 91 => ⟨S_, .f32⟩
  | 92 => ⟨S2x8192x1, .f32⟩
  | 93 => ⟨S2x8192x1, .f32⟩
  | 94 => ⟨S2x8192x256, .f32⟩
  | 95 => ⟨S2x8192x256, .f32⟩
  | 96 => ⟨S_, .f32⟩
  | 97 => ⟨S2x8192x1, .f32⟩
  | 98 => ⟨S2x8192x1, .f32⟩
  | 99 => ⟨S2x8192x1, .f32⟩
  | 100 => ⟨S2x8192x256, .f32⟩
  | 101 => ⟨S2x8192x256, .f32⟩
  | 102 => ⟨S1x1x256, .f32⟩
  | 103 => ⟨S2x8192x256, .f32⟩
  | 104 => ⟨S2x8192x256, .f32⟩
  | 105 => ⟨S1x1x256, .f32⟩
  | 106 => ⟨S2x8192x256, .f32⟩
  | 107 => ⟨S2x8192x256, .f32⟩
  | 108 => ⟨S2x64x128x4x64, .f32⟩
  | 109 => ⟨S_, .f32⟩
  | 110 => ⟨S128x128, .f32⟩
  | 111 => ⟨S128x128, .i32⟩
  | 112 => ⟨S_, .i32⟩
  | 113 => ⟨S128x128, .i32⟩
  | 114 => ⟨S128x128, .i32⟩
  | 115 => ⟨S128x128, .i32⟩
  | 116 => ⟨S128x128, .i1⟩
  | 117 => ⟨S_, .f32⟩
  | 118 => ⟨S128x128, .f32⟩
  | 119 => ⟨S128x128, .f32⟩
  | 120 => ⟨S1x128x128, .f32⟩
  | 121 => ⟨S4x128x128, .f32⟩
  | 122 => ⟨S4x128x128, .f32⟩
  | 123 => ⟨S4x2x64x64x128, .f32⟩
  | 124 => ⟨S2x64x128x4x64, .f32⟩
  | 125 => ⟨S128x4, .f32⟩
  | 126 => ⟨S1x1x128x4x1, .f32⟩
  | 127 => ⟨S2x64x128x4x64, .f32⟩
  | _ => ⟨S2x8192x1024, .f32⟩

abbrev hbmTy0_2 (i : Nat) : BufTy := match i % 128 with
  | 0 => ⟨S2x64x128x4x64, .f32⟩
  | 1 => ⟨S2x8192x256, .f32⟩
  | 2 => ⟨S2x8192x256, .f32⟩
  | 3 => ⟨S_, .f32⟩
  | 4 => ⟨S2x15x256, .f32⟩
  | 5 => ⟨S2x8207x256, .f32⟩
  | 6 => ⟨S8192, .i32⟩
  | 7 => ⟨S2x8192x64, .f32⟩
  | 8 => ⟨S_, .f32⟩
  | 9 => ⟨S2x8192x64, .f32⟩
  | 10 => ⟨S2x8192x64, .f32⟩
  | 11 => ⟨S2x8192x64, .f32⟩
  | 12 => ⟨S2x8192x64, .f32⟩
  | 13 => ⟨S_, .i32⟩
  | 14 => ⟨S8192, .i32⟩
  | 15 => ⟨S8192, .i32⟩
  | 16 => ⟨S_, .i32⟩
  | 17 => ⟨S8192, .i32⟩
  | 18 => ⟨S8192, .i32⟩
  | 19 => ⟨S8192, .f32⟩
  | 20 => ⟨S1x8192x1, .f32⟩
  | 21 => ⟨S2x8192x64, .f32⟩
  | 22 => ⟨S2x8192x64, .f32⟩
  | 23 => ⟨S2x8192x64, .f32⟩
  | 24 => ⟨S_, .f32⟩
  | 25 => ⟨S2x8192x64, .f32⟩
  | 26 => ⟨S2x8192x64, .f32⟩
  | 27 => ⟨S2x8192x64, .f32⟩
  | 28 => ⟨S2x8192x64, .f32⟩
  | 29 => ⟨S2x8192x64, .f32⟩
  | 30 => ⟨S2x8192x64, .f32⟩
  | 31 => ⟨S2x8192x64, .f32⟩
  | 32 => ⟨S2x8192x64, .f32⟩
  | 33 => ⟨S_, .i32⟩
  | 34 => ⟨S8192, .i32⟩
  | 35 => ⟨S8192, .i32⟩
  | 36 => ⟨S_, .i32⟩
  | 37 => ⟨S8192, .i32⟩
  | 38 => ⟨S8192, .i32⟩
  | 39 => ⟨S8192, .f32⟩
  | 40 => ⟨S1x8192x1, .f32⟩
  | 41 => ⟨S2x8192x64, .f32⟩
  | 42 => ⟨S2x8192x64, .f32⟩
  | 43 => ⟨S2x8192x64, .f32⟩
  | 44 => ⟨S_, .f32⟩
  | 45 => ⟨S2x8192x64, .f32⟩
  | 46 => ⟨S2x8192x64, .f32⟩
  | 47 => ⟨S2x8192x64, .f32⟩
  | 48 => ⟨S2x8192x64, .f32⟩
  | 49 => ⟨S2x8192x64, .f32⟩
  | 50 => ⟨S2x8192x64, .f32⟩
  | 51 => ⟨S2x8192x64, .f32⟩
  | 52 => ⟨S2x8192x64, .f32⟩
  | 53 => ⟨S2x8192x64, .f32⟩
  | 54 => ⟨S2x8192x64, .f32⟩
  | 55 => ⟨S2x8192x64, .f32⟩
  | 56 => ⟨S2x8192x64, .f32⟩
  | 57 => ⟨S2x8192x64, .f32⟩
  | 58 => ⟨S2x8192x64, .f32⟩
  | 59 => ⟨S2x8192x64, .f32⟩
  | 60 => ⟨S2x8192x64, .f32⟩
  | 61 => ⟨S_, .i32⟩
  | 62 => ⟨S8192, .i32⟩
  | 63 => ⟨S8192, .i32⟩
  | 64 => ⟨S_, .i32⟩
  | 65 => ⟨S8192, .i32⟩
  | 66 => ⟨S8192, .i32⟩
  | 67 => ⟨S8192, .f32⟩
  | 68 => ⟨S1x8192x1, .f32⟩
  | 69 => ⟨S2x8192x64, .f32⟩
  | 70 => ⟨S2x8192x64, .f32⟩
  | 71 => ⟨S2x8192x64, .f32⟩
  | 72 => ⟨S_, .f32⟩
  | 73 => ⟨S2x8192x64, .f32⟩
  | 74 => ⟨S2x8192x64, .f32⟩
  | 75 => ⟨S2x8192x64, .f32⟩
  | 76 => ⟨S2x8192x64, .f32⟩
  | 77 => ⟨S2x8192x64, .f32⟩
  | 78 => ⟨S2x8192x64, .f32⟩
  | 79 => ⟨S2x8192x64, .f32⟩
  | 80 => ⟨S2x8192x64, .f32⟩
  | 81 => ⟨S2x8192x64, .f32⟩
  | 82 => ⟨S2x8192x64, .f32⟩
  | 83 => ⟨S2x8192x64, .f32⟩
  | 84 => ⟨S2x8192x64, .f32⟩
  | 85 => ⟨S2x8192x64, .f32⟩
  | 86 => ⟨S2x8192x64, .f32⟩
  | 87 => ⟨S2x8192x64, .f32⟩
  | 88 => ⟨S2x8192x64, .f32⟩
  | 89 => ⟨S2x8192x64, .f32⟩
  | 90 => ⟨S2x8192x64, .f32⟩
  | 91 => ⟨S2x8192x64, .f32⟩
  | 92 => ⟨S2x8192x64, .f32⟩
  | 93 => ⟨S2x8192x64, .f32⟩
  | 94 => ⟨S2x8192x64, .f32⟩
  | 95 => ⟨S2x8192x64, .f32⟩
  | 96 => ⟨S2x8192x64, .f32⟩
  | 97 => ⟨S2x8192x64, .f32⟩
  | 98 => ⟨S2x8192x64, .f32⟩
  | 99 => ⟨S2x8192x64, .f32⟩
  | 100 => ⟨S2x8192x64, .f32⟩
  | 101 => ⟨S2x8192x64, .f32⟩
  | 102 => ⟨S2x8192x64, .f32⟩
  | 103 => ⟨S2x8192x64, .f32⟩
  | 104 => ⟨S2x8192x64, .f32⟩
  | 105 => ⟨S_, .i32⟩
  | 106 => ⟨S8192, .i32⟩
  | 107 => ⟨S8192, .i32⟩
  | 108 => ⟨S_, .i32⟩
  | 109 => ⟨S8192, .i32⟩
  | 110 => ⟨S8192, .i32⟩
  | 111 => ⟨S8192, .f32⟩
  | 112 => ⟨S1x8192x1, .f32⟩
  | 113 => ⟨S2x8192x64, .f32⟩
  | 114 => ⟨S2x8192x64, .f32⟩
  | 115 => ⟨S2x8192x128, .f32⟩
  | 116 => ⟨S2x8192x192, .f32⟩
  | 117 => ⟨S2x8192x256, .f32⟩
  | 118 => ⟨S2x8192x256, .f32⟩
  | 119 => ⟨S2x8192x4x64, .f32⟩
  | 120 => ⟨S4x64x2x8192, .f32⟩
  | 121 => ⟨S2x8192x4x64, .f32⟩
  | 122 => ⟨S2x8192x256, .f32⟩
  | 123 => ⟨S1x1x256, .f32⟩
  | 124 => ⟨S2x8192x256, .f32⟩
  | 125 => ⟨S2x8192x256, .f32⟩
  | 126 => ⟨S4x4, .i32⟩
  | 127 => ⟨S4x4, .i32⟩
  | _ => ⟨S2x8192x1024, .f32⟩

abbrev hbmTy0_3 (i : Nat) : BufTy := match i % 128 with
  | 0 => ⟨S_, .i32⟩
  | 1 => ⟨S4x4, .i32⟩
  | 2 => ⟨S4x4, .i32⟩
  | 3 => ⟨S4x4, .i1⟩
  | 4 => ⟨S4x1x4x1, .i1⟩
  | 5 => ⟨S2x8192x512, .f32⟩
  | 6 => ⟨S2x8192x768, .f32⟩
  | 7 => ⟨S2x8192x768, .bf16⟩
  | 8 => ⟨S_, .f32⟩
  | 9 => ⟨S2x8192x256, .f32⟩
  | 10 => ⟨S2x8192x256, .f32⟩
  | 11 => ⟨S2x8192x256, .bf16⟩
  | 12 => ⟨S2x8192x512, .bf16⟩
  | 13 => ⟨S_, .f32⟩
  | 14 => ⟨S2x8192x56, .f32⟩
  | 15 => ⟨S2x8192x128, .f32⟩
  | 16 => ⟨S2x8x256, .f32⟩
  | 17 => ⟨S2x24x256, .f32⟩
  | 18 => ⟨S2x1x256, .f32⟩
  | 19 => ⟨S2x64x128x256, .f32⟩
  | 20 => ⟨S2x64x256x128, .f32⟩
  | 21 => ⟨S2x64x256x128, .bf16⟩
  | 22 => ⟨S2x64x128x64, .f32⟩
  | 23 => ⟨S2x64x64x128, .f32⟩
  | 24 => ⟨S2x64x64x128, .bf16⟩
  | 25 => ⟨S2x64x1x128x4x64, .f32⟩
  | 26 => ⟨S_, .f32⟩
  | 27 => ⟨S_, .f32⟩
  | 28 => ⟨S2x64x4x128x4x64, .i1⟩
  | 29 => ⟨S2x64x4x128x4x64, .f32⟩
  | 30 => ⟨S2x64x4x128x4x64, .f32⟩
  | 31 => ⟨S2x64x4x128x4x64, .f32⟩
  | 32 => ⟨S2x64x512x256, .f32⟩
  | 33 => ⟨S2x64x512x256, .bf16⟩
  | _ => ⟨S2x8192x1024, .f32⟩

abbrev hbmTy (i : Nat) : BufTy := match i / 128 with
  | 0 => hbmTy0_0 i
  | 1 => hbmTy0_1 i
  | 2 => hbmTy0_2 i
  | 3 => hbmTy0_3 i
  | _ => ⟨S2x8192x1024, .f32⟩

abbrev bufTy : (tb : Table) → Fin (tcTables nBuf tb) → BufTy
  | .hbm, ⟨i, _⟩ => hbmTy i
  | _, _ => ⟨S2x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_cst : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_cst_0 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_cst_1 : Ref sig .tc := ⟨.hbm, 62, rfl⟩
abbrev main_v45 : Ref sig .tc := ⟨.hbm, 63, rfl⟩
abbrev main_v46 : Ref sig .tc := ⟨.hbm, 64, rfl⟩
abbrev main_cst_2 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_cst_3 : Ref sig .tc := ⟨.hbm, 76, rfl⟩
abbrev main_v57 : Ref sig .tc := ⟨.hbm, 77, rfl⟩
abbrev main_v58 : Ref sig .tc := ⟨.hbm, 78, rfl⟩
abbrev main_cst_4 : Ref sig .tc := ⟨.hbm, 79, rfl⟩
abbrev main_v59 : Ref sig .tc := ⟨.hbm, 80, rfl⟩
abbrev main_v60 : Ref sig .tc := ⟨.hbm, 81, rfl⟩
abbrev main_cst_5 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩
abbrev main_call0_cst : Ref sig .tc := ⟨.hbm, 86, rfl⟩
abbrev main_call0_v0 : Ref sig .tc := ⟨.hbm, 87, rfl⟩
abbrev main_call0_v1 : Ref sig .tc := ⟨.hbm, 88, rfl⟩
abbrev main_call0_v2 : Ref sig .tc := ⟨.hbm, 89, rfl⟩
abbrev main_call0_v3 : Ref sig .tc := ⟨.hbm, 90, rfl⟩
abbrev main_call0_v4 : Ref sig .tc := ⟨.hbm, 91, rfl⟩
abbrev main_call0_v5 : Ref sig .tc := ⟨.hbm, 92, rfl⟩
abbrev main_call0_v6 : Ref sig .tc := ⟨.hbm, 93, rfl⟩
abbrev main_call0_v7 : Ref sig .tc := ⟨.hbm, 94, rfl⟩
abbrev main_call0_v8 : Ref sig .tc := ⟨.hbm, 95, rfl⟩
abbrev main_call0_v9 : Ref sig .tc := ⟨.hbm, 96, rfl⟩
abbrev main_call0_v10 : Ref sig .tc := ⟨.hbm, 97, rfl⟩
abbrev main_call0_v11 : Ref sig .tc := ⟨.hbm, 98, rfl⟩
abbrev main_v64 : Ref sig .tc := ⟨.hbm, 99, rfl⟩
abbrev main_v65 : Ref sig .tc := ⟨.hbm, 100, rfl⟩
abbrev main_v66 : Ref sig .tc := ⟨.hbm, 101, rfl⟩
abbrev main_v67 : Ref sig .tc := ⟨.hbm, 102, rfl⟩
abbrev main_v68 : Ref sig .tc := ⟨.hbm, 103, rfl⟩
abbrev main_cst_6 : Ref sig .tc := ⟨.hbm, 104, rfl⟩
abbrev main_v69 : Ref sig .tc := ⟨.hbm, 105, rfl⟩
abbrev main_v70 : Ref sig .tc := ⟨.hbm, 106, rfl⟩
abbrev main_v71 : Ref sig .tc := ⟨.hbm, 107, rfl⟩
abbrev main_v72 : Ref sig .tc := ⟨.hbm, 108, rfl⟩
abbrev main_v73 : Ref sig .tc := ⟨.hbm, 109, rfl⟩
abbrev main_v74 : Ref sig .tc := ⟨.hbm, 110, rfl⟩
abbrev main_v75 : Ref sig .tc := ⟨.hbm, 111, rfl⟩
abbrev main_cst_7 : Ref sig .tc := ⟨.hbm, 112, rfl⟩
abbrev main_v76 : Ref sig .tc := ⟨.hbm, 113, rfl⟩
abbrev main_v77 : Ref sig .tc := ⟨.hbm, 114, rfl⟩
abbrev main_v78 : Ref sig .tc := ⟨.hbm, 115, rfl⟩
abbrev main_cst_8 : Ref sig .tc := ⟨.hbm, 116, rfl⟩
abbrev main_v79 : Ref sig .tc := ⟨.hbm, 117, rfl⟩
abbrev main_c : Ref sig .tc := ⟨.hbm, 118, rfl⟩
abbrev main_v80_0 : Ref sig .tc := ⟨.hbm, 119, rfl⟩
abbrev main_v80_1 : Ref sig .tc := ⟨.hbm, 120, rfl⟩
abbrev main_v80_2 : Ref sig .tc := ⟨.hbm, 121, rfl⟩
abbrev main_v80_3 : Ref sig .tc := ⟨.hbm, 122, rfl⟩
abbrev main_v80_4 : Ref sig .tc := ⟨.hbm, 123, rfl⟩
abbrev main_while0c_c_48 : Ref sig .tc := ⟨.hbm, 124, rfl⟩
abbrev main_while0c_v310 : Ref sig .tc := ⟨.hbm, 125, rfl⟩
abbrev main_while0b_call1_c : Ref sig .tc := ⟨.hbm, 126, rfl⟩
abbrev main_while0b_call1_c_0 : Ref sig .tc := ⟨.hbm, 127, rfl⟩
abbrev main_while0b_call1_v0 : Ref sig .tc := ⟨.hbm, 128, rfl⟩
abbrev main_while0b_v310 : Ref sig .tc := ⟨.hbm, 129, rfl⟩
abbrev main_while0b_call2_c : Ref sig .tc := ⟨.hbm, 130, rfl⟩
abbrev main_while0b_call2_c_0 : Ref sig .tc := ⟨.hbm, 131, rfl⟩
abbrev main_while0b_call2_v0 : Ref sig .tc := ⟨.hbm, 132, rfl⟩
abbrev main_while0b_v311 : Ref sig .tc := ⟨.hbm, 133, rfl⟩
abbrev main_while0b_v312 : Ref sig .tc := ⟨.hbm, 134, rfl⟩
abbrev main_while0b_v313 : Ref sig .tc := ⟨.hbm, 135, rfl⟩
abbrev main_while0b_call3_v0 : Ref sig .tc := ⟨.hbm, 136, rfl⟩
abbrev main_while0b_call3_c : Ref sig .tc := ⟨.hbm, 137, rfl⟩
abbrev main_while0b_call3_c_0 : Ref sig .tc := ⟨.hbm, 138, rfl⟩
abbrev main_while0b_v314 : Ref sig .tc := ⟨.hbm, 139, rfl⟩
abbrev main_while0b_c_48 : Ref sig .tc := ⟨.hbm, 140, rfl⟩
abbrev main_while0b_v315 : Ref sig .tc := ⟨.hbm, 141, rfl⟩
abbrev main_v81 : Ref sig .tc := ⟨.hbm, 142, rfl⟩
abbrev main_v82 : Ref sig .tc := ⟨.hbm, 143, rfl⟩
abbrev main_v83 : Ref sig .tc := ⟨.hbm, 144, rfl⟩
abbrev main_v84 : Ref sig .tc := ⟨.hbm, 145, rfl⟩
abbrev main_v85 : Ref sig .tc := ⟨.hbm, 146, rfl⟩
abbrev main_v86 : Ref sig .tc := ⟨.hbm, 147, rfl⟩
abbrev main_v87 : Ref sig .tc := ⟨.hbm, 148, rfl⟩
abbrev main_v88 : Ref sig .tc := ⟨.hbm, 149, rfl⟩
abbrev main_v89 : Ref sig .tc := ⟨.hbm, 150, rfl⟩
abbrev main_v90 : Ref sig .tc := ⟨.hbm, 151, rfl⟩
abbrev main_v91 : Ref sig .tc := ⟨.hbm, 152, rfl⟩
abbrev main_v92 : Ref sig .tc := ⟨.hbm, 153, rfl⟩
abbrev main_v93 : Ref sig .tc := ⟨.hbm, 154, rfl⟩
abbrev main_v94 : Ref sig .tc := ⟨.hbm, 155, rfl⟩
abbrev main_v95 : Ref sig .tc := ⟨.hbm, 156, rfl⟩
abbrev main_cst_9 : Ref sig .tc := ⟨.hbm, 157, rfl⟩
abbrev main_v96 : Ref sig .tc := ⟨.hbm, 158, rfl⟩
abbrev main_v97 : Ref sig .tc := ⟨.hbm, 159, rfl⟩
abbrev main_v98 : Ref sig .tc := ⟨.hbm, 160, rfl⟩
abbrev main_cst_10 : Ref sig .tc := ⟨.hbm, 161, rfl⟩
abbrev main_v99 : Ref sig .tc := ⟨.hbm, 162, rfl⟩
abbrev main_v100 : Ref sig .tc := ⟨.hbm, 163, rfl⟩
abbrev main_v101 : Ref sig .tc := ⟨.hbm, 164, rfl⟩
abbrev main_cst_11 : Ref sig .tc := ⟨.hbm, 165, rfl⟩
abbrev main_v102 : Ref sig .tc := ⟨.hbm, 166, rfl⟩
abbrev main_v103 : Ref sig .tc := ⟨.hbm, 167, rfl⟩
abbrev main_cst_12 : Ref sig .tc := ⟨.hbm, 168, rfl⟩
abbrev main_v104 : Ref sig .tc := ⟨.hbm, 169, rfl⟩
abbrev main_v105 : Ref sig .tc := ⟨.hbm, 170, rfl⟩
abbrev main_v106 : Ref sig .tc := ⟨.hbm, 171, rfl⟩
abbrev main_v107 : Ref sig .tc := ⟨.hbm, 172, rfl⟩
abbrev main_v108 : Ref sig .tc := ⟨.hbm, 173, rfl⟩
abbrev main_v109 : Ref sig .tc := ⟨.hbm, 174, rfl⟩
abbrev main_cst_13 : Ref sig .tc := ⟨.hbm, 175, rfl⟩
abbrev main_v110 : Ref sig .tc := ⟨.hbm, 176, rfl⟩
abbrev main_v111 : Ref sig .tc := ⟨.hbm, 177, rfl⟩
abbrev main_v112 : Ref sig .tc := ⟨.hbm, 178, rfl⟩
abbrev main_cst_14 : Ref sig .tc := ⟨.hbm, 179, rfl⟩
abbrev main_v113 : Ref sig .tc := ⟨.hbm, 180, rfl⟩
abbrev main_v114 : Ref sig .tc := ⟨.hbm, 181, rfl⟩
abbrev main_v115 : Ref sig .tc := ⟨.hbm, 182, rfl⟩
abbrev main_cst_15 : Ref sig .tc := ⟨.hbm, 183, rfl⟩
abbrev main_v116 : Ref sig .tc := ⟨.hbm, 184, rfl⟩
abbrev main_v117 : Ref sig .tc := ⟨.hbm, 185, rfl⟩
abbrev main_cst_16 : Ref sig .tc := ⟨.hbm, 186, rfl⟩
abbrev main_v118 : Ref sig .tc := ⟨.hbm, 187, rfl⟩
abbrev main_v119 : Ref sig .tc := ⟨.hbm, 188, rfl⟩
abbrev main_v120 : Ref sig .tc := ⟨.hbm, 189, rfl⟩
abbrev main_v121 : Ref sig .tc := ⟨.hbm, 190, rfl⟩
abbrev main_v122 : Ref sig .tc := ⟨.hbm, 191, rfl⟩
abbrev main_cst_17 : Ref sig .tc := ⟨.hbm, 192, rfl⟩
abbrev main_v123 : Ref sig .tc := ⟨.hbm, 193, rfl⟩
abbrev main_v124 : Ref sig .tc := ⟨.hbm, 194, rfl⟩
abbrev main_v125 : Ref sig .tc := ⟨.hbm, 195, rfl⟩
abbrev main_cst_18 : Ref sig .tc := ⟨.hbm, 196, rfl⟩
abbrev main_v126 : Ref sig .tc := ⟨.hbm, 197, rfl⟩
abbrev main_v127 : Ref sig .tc := ⟨.hbm, 198, rfl⟩
abbrev main_v128 : Ref sig .tc := ⟨.hbm, 199, rfl⟩
abbrev main_cst_19 : Ref sig .tc := ⟨.hbm, 200, rfl⟩
abbrev main_v129 : Ref sig .tc := ⟨.hbm, 201, rfl⟩
abbrev main_v130 : Ref sig .tc := ⟨.hbm, 202, rfl⟩
abbrev main_cst_20 : Ref sig .tc := ⟨.hbm, 203, rfl⟩
abbrev main_v131 : Ref sig .tc := ⟨.hbm, 204, rfl⟩
abbrev main_v132 : Ref sig .tc := ⟨.hbm, 205, rfl⟩
abbrev main_v133 : Ref sig .tc := ⟨.hbm, 206, rfl⟩
abbrev main_cst_21 : Ref sig .tc := ⟨.hbm, 207, rfl⟩
abbrev main_v134 : Ref sig .tc := ⟨.hbm, 208, rfl⟩
abbrev main_v135 : Ref sig .tc := ⟨.hbm, 209, rfl⟩
abbrev main_cst_22 : Ref sig .tc := ⟨.hbm, 210, rfl⟩
abbrev main_v136 : Ref sig .tc := ⟨.hbm, 211, rfl⟩
abbrev main_v137 : Ref sig .tc := ⟨.hbm, 212, rfl⟩
abbrev main_v138 : Ref sig .tc := ⟨.hbm, 213, rfl⟩
abbrev main_v139 : Ref sig .tc := ⟨.hbm, 214, rfl⟩
abbrev main_v140 : Ref sig .tc := ⟨.hbm, 215, rfl⟩
abbrev main_cst_23 : Ref sig .tc := ⟨.hbm, 216, rfl⟩
abbrev main_v141 : Ref sig .tc := ⟨.hbm, 217, rfl⟩
abbrev main_v142 : Ref sig .tc := ⟨.hbm, 218, rfl⟩
abbrev main_cst_24 : Ref sig .tc := ⟨.hbm, 219, rfl⟩
abbrev main_v143 : Ref sig .tc := ⟨.hbm, 220, rfl⟩
abbrev main_v144 : Ref sig .tc := ⟨.hbm, 221, rfl⟩
abbrev main_v145 : Ref sig .tc := ⟨.hbm, 222, rfl⟩
abbrev main_v146 : Ref sig .tc := ⟨.hbm, 223, rfl⟩
abbrev main_cst_25 : Ref sig .tc := ⟨.hbm, 224, rfl⟩
abbrev main_v147 : Ref sig .tc := ⟨.hbm, 225, rfl⟩
abbrev main_v148 : Ref sig .tc := ⟨.hbm, 226, rfl⟩
abbrev main_v149 : Ref sig .tc := ⟨.hbm, 227, rfl⟩
abbrev main_v150 : Ref sig .tc := ⟨.hbm, 228, rfl⟩
abbrev main_v151 : Ref sig .tc := ⟨.hbm, 229, rfl⟩
abbrev main_v152 : Ref sig .tc := ⟨.hbm, 230, rfl⟩
abbrev main_v153 : Ref sig .tc := ⟨.hbm, 231, rfl⟩
abbrev main_v154 : Ref sig .tc := ⟨.hbm, 232, rfl⟩
abbrev main_v155 : Ref sig .tc := ⟨.hbm, 233, rfl⟩
abbrev main_v156 : Ref sig .tc := ⟨.hbm, 234, rfl⟩
abbrev main_v157 : Ref sig .tc := ⟨.hbm, 235, rfl⟩
abbrev main_v158 : Ref sig .tc := ⟨.hbm, 236, rfl⟩
abbrev main_cst_26 : Ref sig .tc := ⟨.hbm, 237, rfl⟩
abbrev main_v159 : Ref sig .tc := ⟨.hbm, 238, rfl⟩
abbrev main_call4_v0 : Ref sig .tc := ⟨.hbm, 239, rfl⟩
abbrev main_call4_c : Ref sig .tc := ⟨.hbm, 240, rfl⟩
abbrev main_call4_v1 : Ref sig .tc := ⟨.hbm, 241, rfl⟩
abbrev main_call4_v2 : Ref sig .tc := ⟨.hbm, 242, rfl⟩
abbrev main_call4_v3 : Ref sig .tc := ⟨.hbm, 243, rfl⟩
abbrev main_call4_v4 : Ref sig .tc := ⟨.hbm, 244, rfl⟩
abbrev main_call4_cst : Ref sig .tc := ⟨.hbm, 245, rfl⟩
abbrev main_call4_v5 : Ref sig .tc := ⟨.hbm, 246, rfl⟩
abbrev main_v160 : Ref sig .tc := ⟨.hbm, 247, rfl⟩
abbrev main_v161 : Ref sig .tc := ⟨.hbm, 248, rfl⟩
abbrev main_v162 : Ref sig .tc := ⟨.hbm, 249, rfl⟩
abbrev main_v163 : Ref sig .tc := ⟨.hbm, 250, rfl⟩
abbrev main_v164 : Ref sig .tc := ⟨.hbm, 251, rfl⟩
abbrev main_v165 : Ref sig .tc := ⟨.hbm, 252, rfl⟩
abbrev main_v166 : Ref sig .tc := ⟨.hbm, 253, rfl⟩
abbrev main_v167 : Ref sig .tc := ⟨.hbm, 254, rfl⟩
abbrev main_v168 : Ref sig .tc := ⟨.hbm, 255, rfl⟩
abbrev main_v169 : Ref sig .tc := ⟨.hbm, 256, rfl⟩
abbrev main_v170 : Ref sig .tc := ⟨.hbm, 257, rfl⟩
abbrev main_v171 : Ref sig .tc := ⟨.hbm, 258, rfl⟩
abbrev main_cst_27 : Ref sig .tc := ⟨.hbm, 259, rfl⟩
abbrev main_v172 : Ref sig .tc := ⟨.hbm, 260, rfl⟩
abbrev main_v173 : Ref sig .tc := ⟨.hbm, 261, rfl⟩
abbrev main_v174 : Ref sig .tc := ⟨.hbm, 262, rfl⟩
abbrev main_v175 : Ref sig .tc := ⟨.hbm, 263, rfl⟩
abbrev main_cst_28 : Ref sig .tc := ⟨.hbm, 264, rfl⟩
abbrev main_v176 : Ref sig .tc := ⟨.hbm, 265, rfl⟩
abbrev main_v177 : Ref sig .tc := ⟨.hbm, 266, rfl⟩
abbrev main_v178 : Ref sig .tc := ⟨.hbm, 267, rfl⟩
abbrev main_v179 : Ref sig .tc := ⟨.hbm, 268, rfl⟩
abbrev main_c_29 : Ref sig .tc := ⟨.hbm, 269, rfl⟩
abbrev main_v180 : Ref sig .tc := ⟨.hbm, 270, rfl⟩
abbrev main_v181 : Ref sig .tc := ⟨.hbm, 271, rfl⟩
abbrev main_c_30 : Ref sig .tc := ⟨.hbm, 272, rfl⟩
abbrev main_v182 : Ref sig .tc := ⟨.hbm, 273, rfl⟩
abbrev main_v183 : Ref sig .tc := ⟨.hbm, 274, rfl⟩
abbrev main_v184 : Ref sig .tc := ⟨.hbm, 275, rfl⟩
abbrev main_v185 : Ref sig .tc := ⟨.hbm, 276, rfl⟩
abbrev main_v186 : Ref sig .tc := ⟨.hbm, 277, rfl⟩
abbrev main_v187 : Ref sig .tc := ⟨.hbm, 278, rfl⟩
abbrev main_v188 : Ref sig .tc := ⟨.hbm, 279, rfl⟩
abbrev main_cst_31 : Ref sig .tc := ⟨.hbm, 280, rfl⟩
abbrev main_v189 : Ref sig .tc := ⟨.hbm, 281, rfl⟩
abbrev main_v190 : Ref sig .tc := ⟨.hbm, 282, rfl⟩
abbrev main_v191 : Ref sig .tc := ⟨.hbm, 283, rfl⟩
abbrev main_v192 : Ref sig .tc := ⟨.hbm, 284, rfl⟩
abbrev main_v193 : Ref sig .tc := ⟨.hbm, 285, rfl⟩
abbrev main_v194 : Ref sig .tc := ⟨.hbm, 286, rfl⟩
abbrev main_v195 : Ref sig .tc := ⟨.hbm, 287, rfl⟩
abbrev main_v196 : Ref sig .tc := ⟨.hbm, 288, rfl⟩
abbrev main_c_32 : Ref sig .tc := ⟨.hbm, 289, rfl⟩
abbrev main_v197 : Ref sig .tc := ⟨.hbm, 290, rfl⟩
abbrev main_v198 : Ref sig .tc := ⟨.hbm, 291, rfl⟩
abbrev main_c_33 : Ref sig .tc := ⟨.hbm, 292, rfl⟩
abbrev main_v199 : Ref sig .tc := ⟨.hbm, 293, rfl⟩
abbrev main_v200 : Ref sig .tc := ⟨.hbm, 294, rfl⟩
abbrev main_v201 : Ref sig .tc := ⟨.hbm, 295, rfl⟩
abbrev main_v202 : Ref sig .tc := ⟨.hbm, 296, rfl⟩
abbrev main_v203 : Ref sig .tc := ⟨.hbm, 297, rfl⟩
abbrev main_v204 : Ref sig .tc := ⟨.hbm, 298, rfl⟩
abbrev main_v205 : Ref sig .tc := ⟨.hbm, 299, rfl⟩
abbrev main_cst_34 : Ref sig .tc := ⟨.hbm, 300, rfl⟩
abbrev main_v206 : Ref sig .tc := ⟨.hbm, 301, rfl⟩
abbrev main_v207 : Ref sig .tc := ⟨.hbm, 302, rfl⟩
abbrev main_v208 : Ref sig .tc := ⟨.hbm, 303, rfl⟩
abbrev main_v209 : Ref sig .tc := ⟨.hbm, 304, rfl⟩
abbrev main_v210 : Ref sig .tc := ⟨.hbm, 305, rfl⟩
abbrev main_v211 : Ref sig .tc := ⟨.hbm, 306, rfl⟩
abbrev main_v212 : Ref sig .tc := ⟨.hbm, 307, rfl⟩
abbrev main_v213 : Ref sig .tc := ⟨.hbm, 308, rfl⟩
abbrev main_v214 : Ref sig .tc := ⟨.hbm, 309, rfl⟩
abbrev main_v215 : Ref sig .tc := ⟨.hbm, 310, rfl⟩
abbrev main_v216 : Ref sig .tc := ⟨.hbm, 311, rfl⟩
abbrev main_v217 : Ref sig .tc := ⟨.hbm, 312, rfl⟩
abbrev main_v218 : Ref sig .tc := ⟨.hbm, 313, rfl⟩
abbrev main_v219 : Ref sig .tc := ⟨.hbm, 314, rfl⟩
abbrev main_v220 : Ref sig .tc := ⟨.hbm, 315, rfl⟩
abbrev main_v221 : Ref sig .tc := ⟨.hbm, 316, rfl⟩
abbrev main_c_35 : Ref sig .tc := ⟨.hbm, 317, rfl⟩
abbrev main_v222 : Ref sig .tc := ⟨.hbm, 318, rfl⟩
abbrev main_v223 : Ref sig .tc := ⟨.hbm, 319, rfl⟩
abbrev main_c_36 : Ref sig .tc := ⟨.hbm, 320, rfl⟩
abbrev main_v224 : Ref sig .tc := ⟨.hbm, 321, rfl⟩
abbrev main_v225 : Ref sig .tc := ⟨.hbm, 322, rfl⟩
abbrev main_v226 : Ref sig .tc := ⟨.hbm, 323, rfl⟩
abbrev main_v227 : Ref sig .tc := ⟨.hbm, 324, rfl⟩
abbrev main_v228 : Ref sig .tc := ⟨.hbm, 325, rfl⟩
abbrev main_v229 : Ref sig .tc := ⟨.hbm, 326, rfl⟩
abbrev main_v230 : Ref sig .tc := ⟨.hbm, 327, rfl⟩
abbrev main_cst_37 : Ref sig .tc := ⟨.hbm, 328, rfl⟩
abbrev main_v231 : Ref sig .tc := ⟨.hbm, 329, rfl⟩
abbrev main_v232 : Ref sig .tc := ⟨.hbm, 330, rfl⟩
abbrev main_v233 : Ref sig .tc := ⟨.hbm, 331, rfl⟩
abbrev main_v234 : Ref sig .tc := ⟨.hbm, 332, rfl⟩
abbrev main_v235 : Ref sig .tc := ⟨.hbm, 333, rfl⟩
abbrev main_v236 : Ref sig .tc := ⟨.hbm, 334, rfl⟩
abbrev main_v237 : Ref sig .tc := ⟨.hbm, 335, rfl⟩
abbrev main_v238 : Ref sig .tc := ⟨.hbm, 336, rfl⟩
abbrev main_v239 : Ref sig .tc := ⟨.hbm, 337, rfl⟩
abbrev main_v240 : Ref sig .tc := ⟨.hbm, 338, rfl⟩
abbrev main_v241 : Ref sig .tc := ⟨.hbm, 339, rfl⟩
abbrev main_v242 : Ref sig .tc := ⟨.hbm, 340, rfl⟩
abbrev main_v243 : Ref sig .tc := ⟨.hbm, 341, rfl⟩
abbrev main_v244 : Ref sig .tc := ⟨.hbm, 342, rfl⟩
abbrev main_v245 : Ref sig .tc := ⟨.hbm, 343, rfl⟩
abbrev main_v246 : Ref sig .tc := ⟨.hbm, 344, rfl⟩
abbrev main_v247 : Ref sig .tc := ⟨.hbm, 345, rfl⟩
abbrev main_v248 : Ref sig .tc := ⟨.hbm, 346, rfl⟩
abbrev main_v249 : Ref sig .tc := ⟨.hbm, 347, rfl⟩
abbrev main_v250 : Ref sig .tc := ⟨.hbm, 348, rfl⟩
abbrev main_v251 : Ref sig .tc := ⟨.hbm, 349, rfl⟩
abbrev main_v252 : Ref sig .tc := ⟨.hbm, 350, rfl⟩
abbrev main_v253 : Ref sig .tc := ⟨.hbm, 351, rfl⟩
abbrev main_v254 : Ref sig .tc := ⟨.hbm, 352, rfl⟩
abbrev main_v255 : Ref sig .tc := ⟨.hbm, 353, rfl⟩
abbrev main_v256 : Ref sig .tc := ⟨.hbm, 354, rfl⟩
abbrev main_v257 : Ref sig .tc := ⟨.hbm, 355, rfl⟩
abbrev main_v258 : Ref sig .tc := ⟨.hbm, 356, rfl⟩
abbrev main_v259 : Ref sig .tc := ⟨.hbm, 357, rfl⟩
abbrev main_v260 : Ref sig .tc := ⟨.hbm, 358, rfl⟩
abbrev main_v261 : Ref sig .tc := ⟨.hbm, 359, rfl⟩
abbrev main_v262 : Ref sig .tc := ⟨.hbm, 360, rfl⟩
abbrev main_c_38 : Ref sig .tc := ⟨.hbm, 361, rfl⟩
abbrev main_v263 : Ref sig .tc := ⟨.hbm, 362, rfl⟩
abbrev main_v264 : Ref sig .tc := ⟨.hbm, 363, rfl⟩
abbrev main_c_39 : Ref sig .tc := ⟨.hbm, 364, rfl⟩
abbrev main_v265 : Ref sig .tc := ⟨.hbm, 365, rfl⟩
abbrev main_v266 : Ref sig .tc := ⟨.hbm, 366, rfl⟩
abbrev main_v267 : Ref sig .tc := ⟨.hbm, 367, rfl⟩
abbrev main_v268 : Ref sig .tc := ⟨.hbm, 368, rfl⟩
abbrev main_v269 : Ref sig .tc := ⟨.hbm, 369, rfl⟩
abbrev main_v270 : Ref sig .tc := ⟨.hbm, 370, rfl⟩
abbrev main_v271 : Ref sig .tc := ⟨.hbm, 371, rfl⟩
abbrev main_v272 : Ref sig .tc := ⟨.hbm, 372, rfl⟩
abbrev main_v273 : Ref sig .tc := ⟨.hbm, 373, rfl⟩
abbrev main_v274 : Ref sig .tc := ⟨.hbm, 374, rfl⟩
abbrev main_v275 : Ref sig .tc := ⟨.hbm, 375, rfl⟩
abbrev main_v276 : Ref sig .tc := ⟨.hbm, 376, rfl⟩
abbrev main_v277 : Ref sig .tc := ⟨.hbm, 377, rfl⟩
abbrev main_v278 : Ref sig .tc := ⟨.hbm, 378, rfl⟩
abbrev main_v279 : Ref sig .tc := ⟨.hbm, 379, rfl⟩
abbrev main_v280 : Ref sig .tc := ⟨.hbm, 380, rfl⟩
abbrev main_v281 : Ref sig .tc := ⟨.hbm, 381, rfl⟩
abbrev main_v282 : Ref sig .tc := ⟨.hbm, 382, rfl⟩
abbrev main_v283 : Ref sig .tc := ⟨.hbm, 383, rfl⟩
abbrev main_c_40 : Ref sig .tc := ⟨.hbm, 384, rfl⟩
abbrev main_v284 : Ref sig .tc := ⟨.hbm, 385, rfl⟩
abbrev main_v285 : Ref sig .tc := ⟨.hbm, 386, rfl⟩
abbrev main_v286 : Ref sig .tc := ⟨.hbm, 387, rfl⟩
abbrev main_v287 : Ref sig .tc := ⟨.hbm, 388, rfl⟩
abbrev main_v288 : Ref sig .tc := ⟨.hbm, 389, rfl⟩
abbrev main_v289 : Ref sig .tc := ⟨.hbm, 390, rfl⟩
abbrev main_v290 : Ref sig .tc := ⟨.hbm, 391, rfl⟩
abbrev main_cst_41 : Ref sig .tc := ⟨.hbm, 392, rfl⟩
abbrev main_v291 : Ref sig .tc := ⟨.hbm, 393, rfl⟩
abbrev main_v292 : Ref sig .tc := ⟨.hbm, 394, rfl⟩
abbrev main_v293 : Ref sig .tc := ⟨.hbm, 395, rfl⟩
abbrev main_v294 : Ref sig .tc := ⟨.hbm, 396, rfl⟩
abbrev main_cst_42 : Ref sig .tc := ⟨.hbm, 397, rfl⟩
abbrev main_v295 : Ref sig .tc := ⟨.hbm, 398, rfl⟩
abbrev main_v296 : Ref sig .tc := ⟨.hbm, 399, rfl⟩
abbrev main_v297 : Ref sig .tc := ⟨.hbm, 400, rfl⟩
abbrev main_v298 : Ref sig .tc := ⟨.hbm, 401, rfl⟩
abbrev main_v299 : Ref sig .tc := ⟨.hbm, 402, rfl⟩
abbrev main_v300 : Ref sig .tc := ⟨.hbm, 403, rfl⟩
abbrev main_v301 : Ref sig .tc := ⟨.hbm, 404, rfl⟩
abbrev main_v302 : Ref sig .tc := ⟨.hbm, 405, rfl⟩
abbrev main_v303 : Ref sig .tc := ⟨.hbm, 406, rfl⟩
abbrev main_v304 : Ref sig .tc := ⟨.hbm, 407, rfl⟩
abbrev main_v305 : Ref sig .tc := ⟨.hbm, 408, rfl⟩
abbrev main_v306 : Ref sig .tc := ⟨.hbm, 409, rfl⟩
abbrev main_cst_43 : Ref sig .tc := ⟨.hbm, 410, rfl⟩
abbrev main_call5_v0 : Ref sig .tc := ⟨.hbm, 411, rfl⟩
abbrev main_call5_v1 : Ref sig .tc := ⟨.hbm, 412, rfl⟩
abbrev main_call5_v2 : Ref sig .tc := ⟨.hbm, 413, rfl⟩
abbrev main_call5_v3 : Ref sig .tc := ⟨.hbm, 414, rfl⟩
abbrev main_v307 : Ref sig .tc := ⟨.hbm, 415, rfl⟩
abbrev main_v308 : Ref sig .tc := ⟨.hbm, 416, rfl⟩
abbrev main_v309 : Ref sig .tc := ⟨.hbm, 417, rfl⟩

abbrev nD : Nat := 1
abbrev τ : Topo := Topo.v7x

variable {F : FTy → Type} [FloatOps F]

abbrev main_while0_count : Scf.Loop 32 := ⟨0#32, 8192#32, 1#32⟩
-- ==== Proof.FfnRow.lean ====
/- The feed-forward call, one row at a time: what the kernel's body stores at an index and what the reference's term
   is at an index are both `rowOut` of the row's inputs. -/
module

public import proofs.«01_k».proof.Proof.Gen.KernelIdeal.Skeleton
public import proofs.«01_k».proof.Proof.Gen.ReferenceIdeal.Read
public import Idealize.ShloMosaic.Lib.Pointwise

@[expose] public section

set_option maxRecDepth 16384

noncomputable section

namespace Cert.Ffn

open Idealize.ShloMosaic Idealize.SL.Sem

/-- A row of 1024 numbers. -/
abbrev Row : Type := Fin 1024 → EReal

/-- The mean of a row. -/
def mean (v : Row) : EReal := Ideal.div (∑ k, v k) (Ideal.ofBits .f32 0x44800000#32)

/-- Layer norm of a row with gain `g` and bias `b`. -/
def norm (v g b : Row) : Row := fun j =>
  (v j - mean v) * Ideal.rsqrt (mean (fun k => (v k - mean v) * (v k - mean v)) + Ideal.ofBits .f32 0x3727C5AC#32) * g j + b j

/-- The scaled residual plus a branch. -/
def resid (x a : Row) : Row := fun j => Ideal.ofBits .f32 0x3FB504F3#32 * x j + a j

/-- The mixers' outputs, two rows of 768 and 256, through the output projection. -/
def mixed (p : Fin 768 → EReal) (q : Fin 256 → EReal) (w : Fin 1024 → Row) : Row := fun j =>
  (∑ k : Fin 768, p k * w ⟨k.val, by omega⟩ j) + ∑ k : Fin 256, q k * w ⟨768 + k.val, by omega⟩ j

/-- One hidden unit: the squared positive part of its pre-activation. -/
def unit (y : Row) (w : Fin 1024 → Fin 4096 → EReal) (f : Fin 4096) : EReal :=
  max (∑ k, y k * w k f) 0 * max (∑ k, y k * w k f) 0

/-- The two-layer network of a row. -/
def mlp (y : Row) (w : Fin 1024 → Fin 4096 → EReal) (u : Fin 4096 → Row) : Row := fun j =>
  ∑ f, unit y w f * u f j

/-- The row after the mixers' projection and the first norm. -/
def rowMid (x : Row) (p : Fin 768 → EReal) (q : Fin 256 → EReal) (wo : Fin 1024 → Row) (g b : Row) : Row :=
  norm (resid x (mixed p q wo)) g b

/-- The row the layer gives. -/
def rowOut (x : Row) (p : Fin 768 → EReal) (q : Fin 256 → EReal) (wo : Fin 1024 → Row) (g b : Row)
    (w : Fin 1024 → Fin 4096 → EReal) (u : Fin 4096 → Row) (g' b' : Row) : Row :=
  norm (resid (rowMid x p q wo g b) (mlp (rowMid x p q wo g b) w u)) g' b'

/-- The network's sum, in the four chunks of 1024 hidden units the kernel takes it in. -/
theorem mlp_chunks (y : Row) (w : Fin 1024 → Fin 4096 → EReal) (u : Fin 4096 → Row) (j : Fin 1024) :
    mlp y w u j = (((0 + ∑ k : Fin 1024, unit y w ⟨k.val, by omega⟩ * u ⟨k.val, by omega⟩ j)
      + ∑ k : Fin 1024, unit y w ⟨1024 + k.val, by omega⟩ * u ⟨1024 + k.val, by omega⟩ j)
      + ∑ k : Fin 1024, unit y w ⟨2048 + k.val, by omega⟩ * u ⟨2048 + k.val, by omega⟩ j)
      + ∑ k : Fin 1024, unit y w ⟨3072 + k.val, by omega⟩ * u ⟨3072 + k.val, by omega⟩ j := by
  unfold mlp
  rw [Fin.sum_univ_tiles 4 1024 rfl, Fin.sum_univ_four, zero_add]
  refine congrArg₂ (· + ·) (congrArg₂ (· + ·) (congrArg₂ (· + ·) ?_ ?_) ?_) ?_ <;>
    refine Finset.sum_congr rfl fun k _ => ?_ <;>
    simp

section Kernel

open Cert.KernelIdeal Cert.KernelIdeal.Gen

/-- The first norm's scaled part, as the body computes it, plus its bias. -/
theorem pay3_at (x : FVec Ideal S512x1024 .f32) (p : FVec Ideal S512x768 .bf16) (wp : FVec Ideal S768x1024 .bf16)
    (q : FVec Ideal S512x256 .bf16) (wq : FVec Ideal S256x1024 .bf16) (g b : FVec Ideal S1x1024 .f32)
    (wo : Fin 1024 → Row) (hp : ∀ (k : Fin 768) (j : Fin 1024), wp (ix2 k j) = wo ⟨k.val, by omega⟩ j)
    (hq : ∀ (k : Fin 256) (j : Fin 1024), wq (ix2 k j) = wo ⟨768 + k.val, by omega⟩ j) (r : Fin 512) (j : Fin 1024) :
    k0_pay3 (F := Ideal) (k0_pay1 b) (k0_pay2 x p wp q wq g) (ix2 r j)
      = rowMid (fun k => x (ix2 r k)) (fun k => p (ix2 r k)) (fun k => q (ix2 r k)) wo (fun k => g (ix2 0 k))
          (fun k => b (ix2 0 k)) j := by
  pointwise [k0_pay3, k0_pay1, k0_pay2, hp, hq]
  rfl

/-- The accumulated network over the first three chunks. -/
theorem pay5_at (v : FVec Ideal S1x1024 .f32) (v' : FVec Ideal S512x1024 .f32)
    (a0 c0 a1 c1 a2 c2 : FVec Ideal S1024x1024 .bf16) (r : Fin 512) (j : Fin 1024) (y : Row)
    (hy : ∀ k : Fin 1024, k0_pay3 (F := Ideal) v v' (ix2 r k) = y k)
    (w : Fin 1024 → Fin 4096 → EReal) (u : Fin 4096 → Row)
    (ha0 : ∀ k f : Fin 1024, a0 (ix2 k f) = w k ⟨f.val, by omega⟩)
    (ha1 : ∀ k f : Fin 1024, a1 (ix2 k f) = w k ⟨1024 + f.val, by omega⟩)
    (ha2 : ∀ k f : Fin 1024, a2 (ix2 k f) = w k ⟨2048 + f.val, by omega⟩)
    (hc0 : ∀ f j : Fin 1024, c0 (ix2 f j) = u ⟨f.val, by omega⟩ j)
    (hc1 : ∀ f j : Fin 1024, c1 (ix2 f j) = u ⟨1024 + f.val, by omega⟩ j)
    (hc2 : ∀ f j : Fin 1024, c2 (ix2 f j) = u ⟨2048 + f.val, by omega⟩ j) :
    k0_pay5 (F := Ideal) v v' a0 c0 a1 c1 a2 c2 (ix2 r j)
      = ((0 + ∑ k : Fin 1024, unit y w ⟨k.val, by omega⟩ * u ⟨k.val, by omega⟩ j)
      + ∑ k : Fin 1024, unit y w ⟨1024 + k.val, by omega⟩ * u ⟨1024 + k.val, by omega⟩ j)
      + ∑ k : Fin 1024, unit y w ⟨2048 + k.val, by omega⟩ * u ⟨2048 + k.val, by omega⟩ j := by
  pointwise [k0_pay5, k0_pay4, hy, ha0, ha1, ha2, hc0, hc1, hc2]
  rfl

/-- The second norm of the residual and the finished network. -/
theorem pay6_at (v38 : FVec Ideal S512x1024 .f32) (v39 : FVec Ideal S512x1024 .bf16) (v73 : FVec Ideal S512x1024 .f32)
    (a3 c3 : FVec Ideal S1024x1024 .bf16) (g b : FVec Ideal S1x1024 .f32) (r : Fin 512) (j : Fin 1024) (y : Row)
    (h38 : ∀ k : Fin 1024, v38 (ix2 r k) = y k) (h39 : ∀ k : Fin 1024, v39 (ix2 r k) = y k)
    (w : Fin 1024 → Fin 4096 → EReal) (u : Fin 4096 → Row)
    (ha3 : ∀ k f : Fin 1024, a3 (ix2 k f) = w k ⟨3072 + f.val, by omega⟩)
    (hc3 : ∀ f j : Fin 1024, c3 (ix2 f j) = u ⟨3072 + f.val, by omega⟩ j)
    (h73 : ∀ j : Fin 1024, v73 (ix2 r j) + (∑ k : Fin 1024, unit y w ⟨3072 + k.val, by omega⟩ * u ⟨3072 + k.val, by omega⟩ j)
      = mlp y w u j) :
    k0_pay6 (F := Ideal) v38 v39 v73 a3 c3 g b (ix2 r j)
      = norm (resid y (mlp y w u)) (fun k => g (ix2 0 k)) (fun k => b (ix2 0 k)) j := by
  have e : ∀ j, resid y (mlp y w u) j = Ideal.ofBits .f32 0x3FB504F3#32 * y j + (v73 (ix2 r j) +
      (∑ k : Fin 1024, unit y w ⟨3072 + k.val, by omega⟩ * u ⟨3072 + k.val, by omega⟩ j)) := fun j => by
    rw [h73]; rfl
  unfold norm mean
  simp only [e]
  pointwise [k0_pay6, h38, h39, ha3, hc3]
  rfl

end Kernel

section Reference

open Cert.ReferenceIdeal Cert.ReferenceIdeal.Gen

/-- The reference's term at an index. -/
theorem ref_at (x0 : FVec Ideal S16384x1024 .f32) (x1 : FVec Ideal S16384x768 .bf16) (x2 : FVec Ideal S16384x256 .bf16)
    (x3 : FVec Ideal S1024x1024 .f32) (x4 x5 x6 x7 : FVec Ideal S1024 .f32) (x8 : FVec Ideal S1024x4096 .f32)
    (x9 : FVec Ideal S4096x1024 .f32) (r : Fin 16384) (j : Fin 1024) :
    Read.val_main_v61 (F := Ideal) x0 x1 x2 x3 x4 x5 x6 x7 x8 x9 (ix2 r j)
      = rowOut (fun k => x0 (ix2 r k)) (fun k => x1 (ix2 r k)) (fun k => x2 (ix2 r k)) (fun a b => x3 (ix2 a b))
          (fun k => x4 (ix1 k)) (fun k => x5 (ix1 k)) (fun a b => x8 (ix2 a b)) (fun a b => x9 (ix2 a b))
          (fun k => x6 (ix1 k)) (fun k => x7 (ix1 k)) j := by
  have mid : ∀ j : Fin 1024, Read.val_main_v30 (F := Ideal) x0 x1 x2 x3 x4 x5 (ix2 r j)
      = rowMid (fun k => x0 (ix2 r k)) (fun k => x1 (ix2 r k)) (fun k => x2 (ix2 r k)) (fun a b => x3 (ix2 a b))
          (fun k => x4 (ix1 k)) (fun k => x5 (ix1 k)) j := by
    intro j
    pointwise [Read.val_main_v0, Read.val_main_v1, Read.val_main_v2, Read.val_main_v3, Read.val_main_v4, Read.val_main_v5, Read.val_main_v6, Read.val_main_v7, Read.val_main_v8, Read.val_main_v9, Read.val_main_v10, Read.val_main_v11, Read.val_main_v12, Read.val_main_v13, Read.val_main_v14, Read.val_main_v15, Read.val_main_v16, Read.val_main_v17, Read.val_main_v18, Read.val_main_v19, Read.val_main_v20, Read.val_main_v21, Read.val_main_v22, Read.val_main_v23, Read.val_main_v24, Read.val_main_v25, Read.val_main_v26, Read.val_main_v27, Read.val_main_v28, Read.val_main_v29, Read.val_main_v30, Read.val_main_cst, Read.val_main_cst_0, Read.val_main_cst_1, Read.val_main_cst_2,
      Read.val_main_cst_3, Read.val_main_cst_4]
    rfl
  have hid : ∀ f : Fin 4096, Read.val_main_v33 (F := Ideal) x0 x1 x2 x3 x4 x5 x8 (ix2 r f)
      = unit (rowMid (fun k => x0 (ix2 r k)) (fun k => x1 (ix2 r k)) (fun k => x2 (ix2 r k)) (fun a b => x3 (ix2 a b))
          (fun k => x4 (ix1 k)) (fun k => x5 (ix1 k))) (fun a b => x8 (ix2 a b)) f := by
    intro f
    pointwise [Read.val_main_v33, Read.val_main_v32, Read.val_main_v31, Read.val_main_call0_v0, Read.val_main_call0_cst, mid]
    rfl
  pointwise [Read.val_main_v34, Read.val_main_v35, Read.val_main_v36, Read.val_main_v37, Read.val_main_v38, Read.val_main_v39, Read.val_main_v40, Read.val_main_v41, Read.val_main_v42, Read.val_main_v43, Read.val_main_v44, Read.val_main_v45, Read.val_main_v46, Read.val_main_v47, Read.val_main_v48, Read.val_main_v49, Read.val_main_v50, Read.val_main_v51, Read.val_main_v52, Read.val_main_v53, Read.val_main_v54, Read.val_main_v55, Read.val_main_v56, Read.val_main_v57, Read.val_main_v58, Read.val_main_v59, Read.val_main_v60, Read.val_main_v61, Read.val_main_cst_5, Read.val_main_cst_6, Read.val_main_cst_7, Read.val_main_cst_8,
    Read.val_main_cst_9, Read.val_main_cst_10, mid, hid]
  rfl

end Reference

end Cert.Ffn

end
-- ==== Proof.FfnValue.lean ====
/- The feed-forward call's result array after the run is the reference's term of the argument arrays. -/
module

public import proofs.«01_k».proof.Proof.FfnRow
public import proofs.«01_k».proof.Proof.Gen.KernelIdeal.Value
public import Idealize.ShloMosaic.Lib.Pipeline.ValueKit
public import Idealize.ShloMosaic.Lib.Pipeline.FrameTail
public import Idealize.ShloMosaic.Lib.LayoutAt
public import Idealize.ShloMosaic.Lib.Claim

@[expose] public section

set_option maxRecDepth 16384

noncomputable section

namespace Cert.Ffn

open Idealize.ShloMosaic Idealize.ShloMosaic.TcCoe Idealize.SL.Sem
open Cert.KernelIdeal Cert.KernelIdeal.Gen

variable (m : (ℓ : Loc nD τ sig) → Buf (Elt Ideal) ℓ)

/-- Where each window's block sits at grid point `t`: rows `512 t …` for the row-tiled ones, the whole array otherwise. -/
theorem places : ∀ t : Fin cfg0.N, win0_0.index t = ![t.val, 0] ∧ win0_1.index t = ![t.val, 0]
    ∧ win0_2.index t = ![t.val, 0] ∧ win0_3.index t = ![0, 0] ∧ win0_4.index t = ![0, 0] ∧ win0_5.index t = ![0, 0]
    ∧ win0_6.index t = ![0, 0] ∧ win0_7.index t = ![0, 0] ∧ win0_8.index t = ![0, 0] ∧ win0_9.index t = ![0, 0]
    ∧ win0_10.index t = ![0, 0] ∧ win0_11.index t = ![t.val, 0] :=
  (by decide +kernel : ∀ t : Fin grid0.N, _)

/-- A grid point's number is below 32. -/
theorem point_lt (t : Fin cfg0.N) : t.val < 32 := t.isLt

/-- The array row that row `r` of point `t`'s block is. -/
def row (t : Fin cfg0.N) (r : Fin 512) : Fin 16384 := ⟨t.val * 512 + r.val, by have := point_lt t; omega⟩

/-- The input block of the layer's input, at an index. -/
theorem blk_x (c : Dev nD) (t : Fin cfg0.N) (r : Fin 512) (k : Fin 1024) :
    iblk m c 0 t (ix2 r k) = m ((c : Thread nD τ).loc main_arg0) (ix2 (row t r) k) := by
  unfold row
  blk_point [iblk, V, places t]

/-- The block of the first three mixers' outputs. -/
theorem blk_abc (c : Dev nD) (t : Fin cfg0.N) (r : Fin 512) (k : Fin 768) :
    iblk m c 1 t (ix2 r k) = m ((c : Thread nD τ).loc main_arg1) (ix2 (row t r) k) := by
  unfold row
  blk_point [iblk, V, places t]

/-- The block of the sparse attention's output. -/
theorem blk_d (c : Dev nD) (t : Fin cfg0.N) (r : Fin 512) (k : Fin 256) :
    iblk m c 2 t (ix2 r k) = m ((c : Thread nD τ).loc main_arg2) (ix2 (row t r) k) := by
  unfold row
  blk_point [iblk, V, places t]

/-- The output projection's first 768 rows. -/
theorem blk_wabc (c : Dev nD) (t : Fin cfg0.N) (k : Fin 768) (j : Fin 1024) :
    iblk m c 3 t (ix2 k j) = m ((c : Thread nD τ).loc main_arg3) (ix2 ⟨k.val, by omega⟩ j) := by
  blk_point [iblk, V, places t]

/-- The output projection's last 256 rows. -/
theorem blk_wd (c : Dev nD) (t : Fin cfg0.N) (k : Fin 256) (j : Fin 1024) :
    iblk m c 4 t (ix2 k j) = m ((c : Thread nD τ).loc main_arg3) (ix2 ⟨768 + k.val, by omega⟩ j) := by
  blk_point [iblk, V, places t]

/-- The first norm's gain. -/
theorem blk_ln5 (c : Dev nD) (t : Fin cfg0.N) (j : Fin 1024) :
    iblk m c 5 t (ix2 0 j) = m ((c : Thread nD τ).loc main_arg4) (ix1 j) := by
  blk_point [iblk, V, places t]

/-- The first norm's bias. -/
theorem blk_ln6 (c : Dev nD) (t : Fin cfg0.N) (j : Fin 1024) :
    iblk m c 6 t (ix2 0 j) = m ((c : Thread nD τ).loc main_arg5) (ix1 j) := by
  blk_point [iblk, V, places t]

/-- The second norm's gain. -/
theorem blk_ln9 (c : Dev nD) (t : Fin cfg0.N) (j : Fin 1024) :
    iblk m c 9 t (ix2 0 j) = m ((c : Thread nD τ).loc main_arg6) (ix1 j) := by
  blk_point [iblk, V, places t]

/-- The second norm's bias. -/
theorem blk_ln10 (c : Dev nD) (t : Fin cfg0.N) (j : Fin 1024) :
    iblk m c 10 t (ix2 0 j) = m ((c : Thread nD τ).loc main_arg7) (ix1 j) := by
  blk_point [iblk, V, places t]

/-- The network's first matrix. -/
theorem blk_w1 (c : Dev nD) (t : Fin cfg0.N) (k : Fin 1024) (f : Fin 4096) :
    iblk m c 7 t (ix2 k f) = m ((c : Thread nD τ).loc main_arg8) (ix2 k f) := by
  blk_point [iblk, V, places t]

/-- The network's second matrix. -/
theorem blk_w2 (c : Dev nD) (t : Fin cfg0.N) (f : Fin 4096) (j : Fin 1024) :
    iblk m c 8 t (ix2 f j) = m ((c : Thread nD τ).loc main_arg9) (ix2 f j) := by
  blk_point [iblk, V, places t]

/-- What the body leaves in the output block, row by row. -/
theorem out_at (x : FVec Ideal S512x1024 .f32) (p : FVec Ideal S512x768 .bf16) (q : FVec Ideal S512x256 .bf16)
    (wp : FVec Ideal S768x1024 .bf16) (wq : FVec Ideal S256x1024 .bf16) (g b : FVec Ideal S1x1024 .f32)
    (w1 : FVec Ideal S1024x4096 .bf16) (w2 : FVec Ideal S4096x1024 .bf16) (g' b' : FVec Ideal S1x1024 .f32)
    (wo : Fin 1024 → Row) (hp : ∀ (k : Fin 768) (j : Fin 1024), wp (ix2 k j) = wo ⟨k.val, by omega⟩ j)
    (hq : ∀ (k : Fin 256) (j : Fin 1024), wq (ix2 k j) = wo ⟨768 + k.val, by omega⟩ j) (r : Fin 512) (j : Fin 1024) :
    out0_11 (F := Ideal) x p q wp wq g b w1 w2 g' b' (ix2 r j)
      = rowOut (fun k => x (ix2 r k)) (fun k => p (ix2 r k)) (fun k => q (ix2 r k)) wo (fun k => g (ix2 0 k))
          (fun k => b (ix2 0 k)) (fun k f => w1 (ix2 k f)) (fun f k => w2 (ix2 f k)) (fun k => g' (ix2 0 k))
          (fun k => b' (ix2 0 k)) j := by
  unfold_out out0_11
  frame_out
  have hy := fun k : Fin 1024 => pay3_at x p wp q wq g b wo hp hq r k
  refine pay6_at _ _ _ _ _ _ _ r j _ hy hy (fun k f => w1 (ix2 k f)) (fun f k => w2 (ix2 f k)) ?_ ?_ fun j => ?_
  · intro k f; pointwise
  · intro f j; pointwise
  rw [mlp_chunks]
  congr 1
  refine pay5_at _ _ _ _ _ _ _ _ r j _ hy (fun k f => w1 (ix2 k f)) (fun f k => w2 (ix2 f k)) ?_ ?_ ?_ ?_ ?_ ?_ <;>
    · intro k f; pointwise

/-- The result array after the run is the reference's term of the arguments. -/
theorem final (c : Dev nD) : (dats m 0 c).arrAt 11 (cfgs 0).N
    = Cert.ReferenceIdeal.Read.val_main_v61 (F := Ideal)
        (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5))
        (m ((c : Thread nD τ).loc main_arg6)) (m ((c : Thread nD τ).loc main_arg7)) (m ((c : Thread nD τ).loc main_arg8))
        (m ((c : Thread nD τ).loc main_arg9)) := by
  refine (dats m 0 c).arrAt_eq_of_covers 11 _ (by decide +kernel) fun t hf y => ?_
  blk_simp
  rw [after0_11]
  idx_vars y
  have e : ((cfg0.win 11).blk t).view.emb (ix2 y0 y1) = ix2 (row t y0) y1 := by
    unfold row
    blk_ext [places t]
  refine Eq.trans ?_ (congrArg _ e.symm)
  refine (out_at _ _ _ _ _ _ _ _ _ _ _ (fun a b => m ((c : Thread nD τ).loc main_arg3) (ix2 a b)) (blk_wabc m c t) (blk_wd m c t) y0 y1).trans ?_
  refine Eq.trans ?_ (ref_at _ _ _ _ _ _ _ _ _ _ (row t y0) y1).symm
  simp only [blk_x, blk_abc, blk_d, blk_ln5, blk_ln6, blk_ln9, blk_ln10, blk_w1, blk_w2]

end Cert.Ffn

end
-- ==== Proof.MixLayer.lean ====
/- What the recurrent layer computes of one sequence, row by row, and the twelve result arrays of two sequences. -/
module

public import Idealize.ShloMosaic.Lib.Pointwise

@[expose] public section

set_option maxRecDepth 16384

noncomputable section

namespace Cert.Mix

open Idealize.ShloMosaic

theorem exp_nonneg (x : EReal) : 0 ≤ Ideal.exp x := by
  induction x with
  | bot => simp
  | coe r => rw [Ideal.exp_coe]; exact_mod_cast (Real.exp_pos r).le
  | top => simp

theorem exp_le_one {x : EReal} (h : x ≤ 0) : Ideal.exp x ≤ 1 := by
  induction x with
  | bot => simp
  | coe r => rw [Ideal.exp_coe]; exact_mod_cast Real.exp_le_one_iff.mpr (by exact_mod_cast h)
  | top => simp at h

theorem logistic_nonneg (x : EReal) : 0 ≤ Ideal.logistic x := by
  induction x with
  | bot => simp
  | coe r => rw [Ideal.logistic_coe]; exact_mod_cast inv_nonneg.mpr (by positivity)
  | top => simp

theorem log_nonneg {x : EReal} (h : 1 ≤ x) : 0 ≤ Ideal.log x := by
  induction x with
  | bot => exact absurd (le_bot_iff.mp h) (EReal.coe_ne_bot 1)
  | coe r =>
    have h1 : 1 ≤ r := by exact_mod_cast h
    rw [Ideal.log_coe, if_neg (by linarith)]
    exact_mod_cast Real.log_nonneg h1
  | top => simp

/-- The soft plus of minus `l`. -/
def softPlus (l : EReal) : EReal := max (0 - l) 0 + Ideal.log1p (Ideal.exp (0 - FloatOps.absf (F := Ideal) (φ := .f32) (0 - l)))

theorem softPlus_nonneg (l : EReal) : 0 ≤ softPlus l :=
  add_nonneg (le_max_right _ _) (log_nonneg (le_add_of_nonneg_right (exp_nonneg _)))

/-- The exponent of a decay is not positive. -/
theorem exponent_nonpos (r l : EReal) :
    Ideal.ofBits .f32 3238002688#32 * Ideal.logistic r * softPlus l ≤ 0 := by
  have h8 : Ideal.ofBits .f32 3238002688#32 ≤ 0 := by
    have e : Ideal.ofBits .f32 3238002688#32 = ((-8 : ℝ) : EReal) := by
      simp [Ideal.ofBits, Ideal.ieee, -EReal.coe_mul]; norm_num
    rw [e]
    exact_mod_cast (by norm_num : (-8 : ℝ) ≤ 0)
  exact mul_nonpos_of_nonpos_of_nonneg (mul_nonpos_of_nonpos_of_nonneg h8 (logistic_nonneg r)) (softPlus_nonneg l)

/-- `(e^(2 l) − 1)` negated, by the hyperbolic tangent. -/
theorem neg_expm1_two (l : EReal) :
    (0 - Ideal.tanh l) * (Ideal.exp l * Ideal.exp l + 1) = -(Ideal.expm1 (Ideal.ofBits .f32 1073741824#32 * l)) := by
  have h2 : Ideal.ofBits .f32 1073741824#32 = ((2 : ℝ) : EReal) := by
    simp [Ideal.ofBits, Ideal.ieee, -EReal.coe_mul]; norm_num
  rw [h2, Ideal.expm1]
  induction l with
  | bot =>
    rw [EReal.coe_mul_bot_of_pos (by norm_num : (0 : ℝ) < 2), Ideal.exp_bot, Ideal.tanh_bot]
    simp
  | top =>
    rw [EReal.coe_mul_top_of_pos (by norm_num : (0 : ℝ) < 2), Ideal.exp_top, Ideal.tanh_top]
    have h1 : (⊤ : EReal) * ⊤ + 1 = ⊤ := by rw [EReal.top_mul_top]; rfl
    have h3 : (⊤ : EReal) - 1 = ⊤ := rfl
    have h4 : (0 : EReal) - 1 = ((-1 : ℝ) : EReal) := by norm_num
    rw [h1, h3, h4, EReal.coe_mul_top_of_neg (by norm_num : (-1 : ℝ) < 0), EReal.neg_top]
  | coe r =>
    rw [← EReal.coe_mul, Ideal.exp_coe, Ideal.exp_coe, Ideal.tanh_coe]
    have h : (0 - Real.tanh r) * (Real.exp r * Real.exp r + 1) = -(Real.exp (2 * r) - 1) := by
      rw [Real.tanh_eq_sinh_div_cosh, Real.sinh_eq, Real.cosh_eq, two_mul, Real.exp_add, Real.exp_neg]
      field_simp
      ring
    exact_mod_cast congrArg (Real.toEReal) h

/-- The state before row `n`: `v` at the first row, then one map after the other. -/
def state (a b : ℕ → EReal) (v : EReal) : ℕ → EReal
  | 0 => v
  | n + 1 => a n * state a b v n + b n

/-- The gated input of a row. -/
def gated (l a i x : EReal) : EReal := Ideal.sqrt ((0 - Ideal.tanh l) * (a * a + 1)) * i * x

/-- One sequence's input and the layer's weights. -/
structure Layer where
  x : Fin 8192 → Fin 1024 → EReal
  w : Fin 1024 → Fin 2632 → EReal
  cw : Fin 4 → Fin 256 → EReal
  cb : Fin 256 → EReal
  wa : Fin 4 → Fin 64 → Fin 64 → EReal
  ba : Fin 256 → EReal
  wx : Fin 4 → Fin 64 → Fin 64 → EReal
  bx : Fin 256 → EReal
  lam : Fin 256 → EReal
  g : Fin 256 → EReal
  be : Fin 256 → EReal
  ws : Fin 4 → Fin 128 → Fin 128 → EReal
  bs : Fin 4 → Fin 128 → EReal
  pw : Fin 4 → Fin 64 → Fin 64 → EReal
  ps : Fin 256 → EReal

/-- A lane's head. -/
def head (j : Fin 256) : Fin 4 := ⟨j.val / 64, by omega⟩

/-- A lane's place in its head. -/
def lane (j : Fin 256) : Fin 64 := ⟨j.val % 64, by omega⟩

/-- The lane at a place of a head. -/
def col (h : Fin 4) (i : Fin 64) : Fin 256 := ⟨h.val * 64 + i.val, by omega⟩

/-- A sequence `d` rows earlier, zero before its first row. -/
def back (f : ℕ → EReal) (t d : ℕ) : EReal := if d ≤ t then f (t - d) else 0

/-- The approximate Gaussian error unit. -/
def gelu (y : EReal) : EReal :=
  y * (Ideal.ofBits .f32 1056964608#32 *
    (1 + Ideal.tanh (Ideal.ofBits .f32 1061962282#32 * (y + Ideal.ofBits .f32 1027024659#32 * (y * y * y)))))

namespace Layer

variable (A : Layer)

/-- The input projection. -/
def z (t : ℕ) (j : Fin 2632) : EReal := if h : t < 8192 then ∑ k, A.x ⟨t, h⟩ k * A.w k j else 0

def xa (t : ℕ) (j : Fin 256) : EReal := A.z t ⟨j.val, by omega⟩
def ga (t : ℕ) (j : Fin 256) : EReal := A.z t ⟨256 + j.val, by omega⟩
def ub (t : ℕ) (j : Fin 256) : EReal := A.z t ⟨512 + j.val, by omega⟩
def vb (t : ℕ) (j : Fin 256) : EReal := A.z t ⟨768 + j.val, by omega⟩
def xp (t : ℕ) (j : Fin 256) : EReal := A.z t ⟨1024 + j.val, by omega⟩

/-- The short convolution. -/
def xc (t : ℕ) (j : Fin 256) : EReal :=
  A.cb j + back (A.xa · j) t 3 * A.cw 0 j + back (A.xa · j) t 2 * A.cw 1 j + back (A.xa · j) t 1 * A.cw 2 j
    + back (A.xa · j) t 0 * A.cw 3 j

/-- A gate: the heads' product, the bias, the logistic function. -/
def pre (w : Fin 4 → Fin 64 → Fin 64 → EReal) (b : Fin 256 → EReal) (t : ℕ) (j : Fin 256) : EReal :=
  ∑ i, A.xc t (col (head j) i) * w (head j) i (lane j) + b j

/-- The logarithm of a decay. -/
def la (t : ℕ) (j : Fin 256) : EReal :=
  Ideal.ofBits .f32 3238002688#32 * Ideal.logistic (A.pre A.wa A.ba t j) * softPlus (A.lam j)

def dec (t : ℕ) (j : Fin 256) : EReal := Ideal.exp (A.la t j)

def inp (t : ℕ) (j : Fin 256) : EReal :=
  gated (A.la t j) (A.dec t j) (Ideal.logistic (A.pre A.wx A.bx t j)) (A.xc t j)

/-- The recurrence's state before row `t`. -/
def st (t : ℕ) (j : Fin 256) : EReal := state (A.dec · j) (A.inp · j) 0 t

def ya (t : ℕ) (j : Fin 256) : EReal := A.st (t + 1) j * gelu (A.ga t j)

def mean (t : ℕ) : EReal := Ideal.div (∑ j, gelu (A.vb t j)) (Ideal.ofBits .f32 1132462080#32)

def var (t : ℕ) : EReal :=
  Ideal.div (∑ j, (gelu (A.vb t j) - A.mean t) * (gelu (A.vb t j) - A.mean t)) (Ideal.ofBits .f32 1132462080#32)

/-- The normalised second half of the gating unit. -/
def vn (t : ℕ) (j : Fin 256) : EReal :=
  (gelu (A.vb t j) - A.mean t) * Ideal.rsqrt (A.var t + Ideal.ofBits .f32 925353388#32) * A.g j + A.be j

/-- The product over a chunk of 128 rows by a lower triangular matrix. -/
def mixed (t : ℕ) (j : Fin 256) : EReal :=
  A.bs (head j) ⟨t % 128, Nat.mod_lt _ (by decide)⟩ +
    ∑ s : Fin 128, A.ws (head j) ⟨t % 128, Nat.mod_lt _ (by decide)⟩ s * (if s.val ≤ t % 128 then 1 else 0)
      * A.vn (t / 128 * 128 + s.val) j

def yb (t : ℕ) (j : Fin 256) : EReal := gelu (A.ub t j) * A.mixed t j

/-- A head's window: 2, 4, 8 or 16 rows. -/
def width (j : Fin 256) : ℕ := 2 ^ (j.val / 64 + 1)

/-- The sum of the last `n` rows. -/
def win (n t : ℕ) (j : Fin 256) : EReal := ∑ d ∈ Finset.range n, back (A.xp · j) t d

def pooled (t : ℕ) (j : Fin 256) : EReal :=
  Ideal.div (A.win (width j) t j) ((min (t + 1) (width j) : ℕ) : ℝ) - A.xp t j

def yc (t : ℕ) (j : Fin 256) : EReal := (∑ i, A.pooled t (col (head j) i) * A.pw (head j) i (lane j)) * A.ps j

theorem dec_nonneg (t : ℕ) (j : Fin 256) : 0 ≤ A.dec t j := exp_nonneg _

theorem dec_le_one (t : ℕ) (j : Fin 256) : A.dec t j ≤ 1 := exp_le_one (exponent_nonpos _ _)

end Layer

/-! The layer of one sequence, and what the twelve results hold of two. -/

/-- Sequence `b` of the input arrays, and the weights. -/
def layerOf (x : FVec Ideal (⟨3, ![2, 8192, 1024]⟩ : Shape) .f32) (w : FVec Ideal (⟨2, ![1024, 2632]⟩ : Shape) .f32) (cw : FVec Ideal (⟨2, ![4, 256]⟩ : Shape) .f32)
    (cb : FVec Ideal (⟨1, ![256]⟩ : Shape) .f32) (wa : FVec Ideal (⟨3, ![4, 64, 64]⟩ : Shape) .f32) (ba : FVec Ideal (⟨1, ![256]⟩ : Shape) .f32) (wx : FVec Ideal (⟨3, ![4, 64, 64]⟩ : Shape) .f32)
    (bx lam g be : FVec Ideal (⟨1, ![256]⟩ : Shape) .f32) (ws : FVec Ideal (⟨3, ![4, 128, 128]⟩ : Shape) .f32) (bs : FVec Ideal (⟨2, ![4, 128]⟩ : Shape) .f32)
    (pw : FVec Ideal (⟨3, ![4, 64, 64]⟩ : Shape) .f32) (ps : FVec Ideal (⟨1, ![256]⟩ : Shape) .f32) (b : Fin 2) : Layer where
  x t k := x (ix3 b t k)
  w k j := w (ix2 k j)
  cw i j := cw (ix2 i j)
  cb j := cb (ix1 j)
  wa h i j := wa (ix3 h i j)
  ba j := ba (ix1 j)
  wx h i j := wx (ix3 h i j)
  bx j := bx (ix1 j)
  lam j := lam (ix1 j)
  g j := g (ix1 j)
  be j := be (ix1 j)
  ws h i j := ws (ix3 h i j)
  bs h i := bs (ix2 h i)
  pw h i j := pw (ix3 h i j)
  ps j := ps (ix1 j)

/-- The three mixers' lanes, side by side. -/
def Layer.mixers (A : Layer) (t j : ℕ) : EReal :=
  if h : j < 256 then A.ya t ⟨j, h⟩ else if h : j < 512 then A.yb t ⟨j - 256, by omega⟩ else if h : j < 768 then A.yc t ⟨j - 512, by omega⟩ else 0

/-- The keys' lanes of a chunk, one lane to a row. -/
def Layer.keyCols (A : Layer) (s a b : ℕ) (r : Fin 128) : EReal :=
  if h : b < 256 then A.z (s * 256 + (a * 128 + r.val)) ⟨1536 + b, by omega⟩ else 0

/-- The indexer keys' lanes of a chunk, one lane to a row. -/
def Layer.idxCols (A : Layer) (s a b : ℕ) (r : Fin 128) : EReal :=
  if h : b < 64 then A.z (s * 256 + (a * 128 + r.val)) ⟨2560 + b, by omega⟩ else 0

/-- The values of a chunk, once for each head: that head's lanes, zero elsewhere. -/
def Layer.headRows (A : Layer) (s a b : ℕ) (j : Fin 256) : EReal :=
  if (head j).val = b / 128 then A.z (s * 256 + (a * 128 + b % 128)) ⟨1792 + j.val, by omega⟩ else 0

/-- An array of three axes, by its entries. -/
def grid3 {a n k : ℕ} (f : Fin a → Fin n → Fin k → EReal) : (⟨3, ![a, n, k]⟩ : Shape).Idx → EReal := fun y => f (y 0) (y 1) (y 2)

/-- An array of four axes, by its entries. -/
def grid4 {a n k l : ℕ} (f : Fin a → Fin n → Fin k → Fin l → EReal) : (⟨4, ![a, n, k, l]⟩ : Shape).Idx → EReal := fun y => f (y 0) (y 1) (y 2) (y 3)

section

variable (L : Fin 2 → Layer)

def res19 : FVec Ideal (⟨3, ![2, 8192, 768]⟩ : Shape) .bf16 := grid3 (a := 2) (n := 8192) (k := 768) fun b t j => (L b).mixers t.val j.val
def res20 : FVec Ideal (⟨3, ![2, 8192, 256]⟩ : Shape) .bf16 := grid3 (a := 2) (n := 8192) (k := 256) fun b t j => (L b).z t.val ⟨1280 + j.val, by omega⟩ * Ideal.ofBits .f32 0x3E000000#32
def res21 : FVec Ideal (⟨3, ![2, 8192, 256]⟩ : Shape) .f32 := grid3 (a := 2) (n := 8192) (k := 256) fun b t j => (L b).z t.val ⟨1536 + j.val, by omega⟩
def res22 : FVec Ideal (⟨3, ![2, 8192, 256]⟩ : Shape) .f32 := grid3 (a := 2) (n := 8192) (k := 256) fun b t j => (L b).z t.val ⟨1792 + j.val, by omega⟩
def res23 : FVec Ideal (⟨3, ![2, 8192, 512]⟩ : Shape) .bf16 := grid3 (a := 2) (n := 8192) (k := 512) fun b t j => (L b).z t.val ⟨2048 + j.val, by omega⟩
def res24 : FVec Ideal (⟨3, ![2, 8192, 128]⟩ : Shape) .f32 := grid3 (a := 2) (n := 8192) (k := 128) fun b t j => if h : j.val < 72 then (L b).z t.val ⟨2560 + j.val, by omega⟩ else 0
def res25 : FVec Ideal (⟨3, ![2, 8, 256]⟩ : Shape) .f32 := grid3 (a := 2) (n := 8) (k := 256) fun b t j => (L b).xa (8184 + t.val) j
def res26 : FVec Ideal (⟨3, ![2, 24, 256]⟩ : Shape) .f32 := grid3 (a := 2) (n := 24) (k := 256) fun b t j => (L b).xp (8168 + t.val) j
def res27 : FVec Ideal (⟨3, ![2, 1, 256]⟩ : Shape) .f32 := grid3 (a := 2) (n := 1) (k := 256) fun b _ j => (L b).st 8192 j
def res28 : FVec Ideal (⟨4, ![2, 64, 256, 128]⟩ : Shape) .bf16 := grid4 (a := 2) (n := 64) (k := 256) (l := 128) fun b n k r => (L b).keyCols 0 n.val k.val r
def res29 : FVec Ideal (⟨4, ![2, 64, 64, 128]⟩ : Shape) .bf16 := grid4 (a := 2) (n := 64) (k := 64) (l := 128) fun b n k r => (L b).idxCols 0 n.val k.val r
def res30 : FVec Ideal (⟨4, ![2, 64, 512, 256]⟩ : Shape) .bf16 := grid4 (a := 2) (n := 64) (k := 512) (l := 256) fun b n k j => (L b).headRows 0 n.val k.val j

end

end Cert.Mix

end
-- ==== Proof.MixScan.lean ====
/- The recurrence of a block of 256 rows, computed in doubling levels: spans of 1, 2, 4, … 128 rows are composed; the decays lie in [0, 1], so multiplying by one distributes over a sum of any extended reals. -/
module

public import proofs.«01_k».proof.Proof.MixLayer
public import proofs.«01_k».proof.Proof.Gen.Kernel2Ideal.Skeleton
public import Idealize.ShloMosaic.Lib.Pointwise

@[expose] public section

set_option maxRecDepth 16384

noncomputable section

namespace Cert.Mix

open Idealize.ShloMosaic Idealize.SL.Sem
open Cert.Kernel2Ideal Cert.Kernel2Ideal.Gen

/-- The composition of the last `n` maps ending at row `r`, at `v`; rows before the first count for nothing. -/
def span (a b : ℕ → EReal) : ℕ → ℕ → EReal → EReal
  | 0, _, v => v
  | _ + 1, 0, v => a 0 * v + b 0
  | n + 1, r + 1, v => a (r + 1) * span a b n r v + b (r + 1)

/-- A span is the composition of its last `n` maps after those before. -/
theorem span_add (a b : ℕ → EReal) (m : ℕ) (v : EReal) :
    ∀ n r, span a b (n + m) r v = if n ≤ r then span a b n r (span a b m (r - n) v) else span a b n r v := by
  intro n
  induction n with
  | zero => intro r; simp [span]
  | succ n ih =>
    intro r
    cases r with
    | zero => rw [Nat.add_right_comm]; simp [span]
    | succ r =>
      rw [Nat.add_right_comm]
      simp only [span, ih r, Nat.add_sub_add_right, Nat.add_le_add_iff_right]
      split <;> rfl

/-- A span reaching back past the first row is the state. -/
theorem span_full (a b : ℕ → EReal) (v : EReal) : ∀ n r, r < n → span a b n r v = state a b v (r + 1) := by
  intro n
  induction n with
  | zero => intro r h; omega
  | succ n ih =>
    intro r h
    cases r with
    | zero => rfl
    | succ r => rw [span, ih r (by omega)]; rfl

/-- The state at a later row, from the state at an earlier one. -/
theorem state_add (a b : ℕ → EReal) (v : EReal) (m : ℕ) :
    ∀ n, state a b v (m + n) = state (fun k => a (m + k)) (fun k => b (m + k)) (state a b v m) n := by
  intro n
  induction n with
  | zero => rfl
  | succ n ih => rw [← Nat.add_assoc]; simp only [state, ih]

/-- The column `d` rows earlier, `e` above the first row. -/
def up (d : ℕ) (A : Fin 256 → EReal) (e : EReal) (r : Fin 256) : EReal :=
  Scalar.select (IntOp.cmpi .sge (BitVec.ofNat 32 r.val) (BitVec.ofNat 32 d))
    (A ⟨(r.val + 256 - d) % 256, Nat.mod_lt _ (by decide)⟩) e

/-- The decays of spans twice as long. -/
def upA (d : ℕ) (A : Fin 256 → EReal) (r : Fin 256) : EReal := A r * up d A 1 r

/-- The additions of spans twice as long. -/
def upB (d : ℕ) (A B : Fin 256 → EReal) (r : Fin 256) : EReal :=
  Scalar.select (IntOp.cmpi .sge (BitVec.ofNat 32 r.val) (BitVec.ofNat 32 d))
    (A r * B ⟨(r.val + 256 - d) % 256, Nat.mod_lt _ (by decide)⟩) 0 + B r

theorem sge_rows : ∀ k : Fin 8, ∀ r : Fin 256,
    IntOp.cmpi .sge (BitVec.ofNat 32 r.val) (BitVec.ofNat 32 (2 ^ k.val)) = BitVec.ofBool (decide (2 ^ k.val ≤ r.val)) := by
  decide +kernel

theorem row_back (r : Fin 256) {d : ℕ} (h : d ≤ r.val) : (r.val + 256 - d) % 256 = r.val - d := by omega

theorem upA_eq (k : Fin 8) (A : Fin 256 → EReal) (r : Fin 256) :
    upA (2 ^ k.val) A r =
      if 2 ^ k.val ≤ r.val then A r * A ⟨r.val - 2 ^ k.val, (Nat.sub_le _ _).trans_lt r.isLt⟩ else A r := by
  unfold upA up
  rw [sge_rows]
  by_cases h : 2 ^ k.val ≤ r.val
  · simp [h, Scalar.select, row_back r h]
  · simp [h, Scalar.select]

theorem upB_eq (k : Fin 8) (A B : Fin 256 → EReal) (r : Fin 256) :
    upB (2 ^ k.val) A B r =
      if 2 ^ k.val ≤ r.val then A r * B ⟨r.val - 2 ^ k.val, (Nat.sub_le _ _).trans_lt r.isLt⟩ + B r else B r := by
  unfold upB
  rw [sge_rows]
  by_cases h : 2 ^ k.val ≤ r.val
  · simp [h, Scalar.select, row_back r h]
  · simp [h, Scalar.select]

/-- `A` and `B` are the maps of spans of `d` rows, the decays in `[0, 1]`. -/
structure Spans (a b : ℕ → EReal) (d : ℕ) (A B : Fin 256 → EReal) : Prop where
  eq : ∀ r v, A r * v + B r = span a b d r.val v
  pos : ∀ r, 0 ≤ A r
  le : ∀ r, A r ≤ 1

theorem Spans.next {a b : ℕ → EReal} {A B : Fin 256 → EReal} (k : Fin 8) (h : Spans a b (2 ^ k.val) A B) :
    Spans a b (2 ^ (k.val + 1)) (upA (2 ^ k.val) A) (upB (2 ^ k.val) A B) := by
  have ne_top : ∀ r, A r ≠ ⊤ := fun r => ne_of_lt (lt_of_le_of_lt (h.le r) (by decide))
  refine ⟨fun r v => ?_, fun r => ?_, fun r => ?_⟩
  · rw [show 2 ^ (k.val + 1) = 2 ^ k.val + 2 ^ k.val by ring, span_add]
    rw [upA_eq, upB_eq]
    split
    · rw [← h.eq, ← h.eq ⟨r.val - 2 ^ k.val, _⟩, EReal.left_distrib_of_nonneg_of_ne_top (h.pos r) (ne_top r), mul_assoc,
        add_assoc]
    · exact h.eq r v
  · rw [upA_eq]
    split
    · exact mul_nonneg (h.pos _) (h.pos _)
    · exact h.pos r
  · rw [upA_eq]
    split
    · exact (mul_le_mul_of_nonneg_left (h.le _) (h.pos _)).trans (by rw [mul_one]; exact h.le _)
    · exact h.le r

/-- The maps of the rows themselves. -/
theorem Spans.one {a b : ℕ → EReal} {A B : Fin 256 → EReal} (ha : ∀ r : Fin 256, A r = a r.val)
    (hb : ∀ r : Fin 256, B r = b r.val) (hp : ∀ r, 0 ≤ A r) (hl : ∀ r, A r ≤ 1) : Spans a b (2 ^ (0 : Fin 8).val) A B := by
  refine ⟨fun r v => ?_, hp, hl⟩
  rw [ha, hb]
  rcases r with ⟨_ | r, hr⟩ <;> rfl

/-- The decays after the levels below `2 ^ k`. -/
def decays (A : Fin 256 → EReal) : ℕ → Fin 256 → EReal
  | 0 => A
  | k + 1 => upA (2 ^ k) (decays A k)

/-- The additions after the levels below `2 ^ k`. -/
def addends (A B : Fin 256 → EReal) : ℕ → Fin 256 → EReal
  | 0 => B
  | k + 1 => upB (2 ^ k) (decays A k) (addends A B k)

theorem spans_levels {a b : ℕ → EReal} {A B : Fin 256 → EReal} (h : Spans a b (2 ^ (0 : Fin 8).val) A B) :
    ∀ k : ℕ, k ≤ 8 → Spans a b (2 ^ k) (decays A k) (addends A B k) := by
  intro k
  induction k with
  | zero => intro _; exact h
  | succ k ih => intro hk; exact Spans.next ⟨k, hk⟩ (ih (by omega))

/-- All eight levels give the state after each row. -/
theorem levels_state {a b : ℕ → EReal} {A B : Fin 256 → EReal} (ha : ∀ r : Fin 256, A r = a r.val)
    (hb : ∀ r : Fin 256, B r = b r.val) (hp : ∀ r, 0 ≤ A r) (hl : ∀ r, A r ≤ 1) (r : Fin 256) (v : EReal) :
    decays A 8 r * v + addends A B 8 r = state a b v (r.val + 1) :=
  ((spans_levels (Spans.one ha hb hp hl) 8 le_rfl).eq r v).trans (span_full a b v 256 r.val r.isLt)

/-! ## The payloads of the kernel -/

section Payloads

variable (xc rg ig : FVec Ideal S256x256 .f32) (l0 l1 : FVec Ideal S1x256 .f32) (hp : FVec Ideal S1x256 .f32)

/-- Row numbers, as the kernel makes them. -/
abbrev rows : IVec S256x256 32 := iota .tc S256x256 32 [0] iota_S256x256_d0_w32

theorem decays_two (r j : Fin 256) :
    k0_pay47 (F := Ideal) rg l0 l1 (ix2 r j) = decays (fun q => k0_pay44 (F := Ideal) rg l0 l1 (ix2 q j)) 2 r := by
  pointwise [k0_pay47, k0_pay45]
  rfl

theorem addends_two (r j : Fin 256) :
    k0_pay46 (F := Ideal) xc rg ig l0 l1 (ix2 r j) =
      addends (fun q => k0_pay44 (F := Ideal) rg l0 l1 (ix2 q j)) (fun q => gated (k0_pay43 (F := Ideal) rg l0 l1 (ix2 q j))
        (k0_pay44 (F := Ideal) rg l0 l1 (ix2 q j)) (ig (ix2 q j)) (xc (ix2 q j))) 2 r := by
  pointwise [k0_pay46, k0_pay45]
  rfl

theorem decays_five (A : FVec Ideal S256x256 .f32) (A0 : Fin 256 → EReal) (j : Fin 256)
    (h : ∀ r, A (ix2 r j) = decays A0 2 r) (r : Fin 256) :
    k0_pay52 (F := Ideal) rows A k0_pay48 (ix2 r j) = decays A0 5 r := by
  rw [show decays A0 5 = upA 16 (upA 8 (upA 4 (decays A0 2))) from rfl, ← funext h]
  pointwise [k0_pay52, k0_pay50, k0_pay49, k0_pay48]
  rfl

theorem addends_five (A B : FVec Ideal S256x256 .f32) (A0 B0 : Fin 256 → EReal) (j : Fin 256)
    (h : ∀ r, A (ix2 r j) = decays A0 2 r) (h' : ∀ r, B (ix2 r j) = addends A0 B0 2 r) (r : Fin 256) :
    k0_pay51 (F := Ideal) rows B A k0_pay48 (ix2 r j) = addends A0 B0 5 r := by
  rw [show addends A0 B0 5 = upB 16 (upA 8 (upA 4 (decays A0 2))) (upB 8 (upA 4 (decays A0 2))
    (upB 4 (decays A0 2) (addends A0 B0 2))) from rfl, ← funext h, ← funext h']
  pointwise [k0_pay51, k0_pay50, k0_pay49, k0_pay48]
  rfl

/-- The last three levels, and the carried state put in. -/
theorem scan_end (A B C : FVec Ideal S256x256 .f32) (A0 B0 : Fin 256 → EReal) (j : Fin 256)
    (h : ∀ r, A (ix2 r j) = decays A0 5 r) (h' : ∀ r, B (ix2 r j) = addends A0 B0 5 r)
    (hc : C = dynamicRotate 0 32#32 none A rotates_S256x256_d0) (r : Fin 256) :
    k0_pay55 (F := Ideal) rows B A (k0_pay53 rows) C hp (ix2 r j) =
      decays A0 8 r * hp (ix2 0 j) + addends A0 B0 8 r := by
  subst hc
  rw [show decays A0 8 = upA 128 (upA 64 (upA 32 (decays A0 5))) from rfl,
    show addends A0 B0 8 = upB 128 (upA 64 (upA 32 (decays A0 5))) (upB 64 (upA 32 (decays A0 5))
    (upB 32 (decays A0 5) (addends A0 B0 5))) from rfl, ← funext h, ← funext h']
  pointwise [k0_pay55, k0_pay53]
  rfl

/-- The state after each row of the block. -/
theorem scan_block (a b : ℕ → EReal) (j : Fin 256)
    (ha : ∀ r : Fin 256, k0_pay44 (F := Ideal) rg l0 l1 (ix2 r j) = a r.val)
    (hb : ∀ r : Fin 256, gated (k0_pay43 (F := Ideal) rg l0 l1 (ix2 r j)) (k0_pay44 (F := Ideal) rg l0 l1 (ix2 r j))
      (ig (ix2 r j)) (xc (ix2 r j)) = b r.val)
    (hpos : ∀ r, 0 ≤ a r) (hle : ∀ r, a r ≤ 1) (r : Fin 256) :
    k0_pay55 (F := Ideal) rows (k0_pay51 rows (k0_pay46 xc rg ig l0 l1) (k0_pay47 rg l0 l1) k0_pay48)
      (k0_pay52 rows (k0_pay47 rg l0 l1) k0_pay48) (k0_pay53 rows) (k0_pay54 rows (k0_pay47 rg l0 l1) k0_pay48) hp (ix2 r j) =
      state a b (hp (ix2 0 j)) (r.val + 1) := by
  refine (scan_end hp _ _ _ _ _ j (decays_five _ _ j fun q => decays_two rg l0 l1 q j)
    (addends_five _ _ _ _ j (fun q => decays_two rg l0 l1 q j) fun q => addends_two xc rg ig l0 l1 q j) rfl r).trans ?_
  exact levels_state ha hb (fun q => ha q ▸ hpos _) (fun q => ha q ▸ hle _) r _

end Payloads

end Cert.Mix

end
-- ==== Proof.MixPay.lean ====
/- The gating unit of a block of 256 rows. -/
module

public import proofs.«01_k».proof.Proof.MixScan

@[expose] public section

set_option maxRecDepth 16384

noncomputable section

namespace Cert.Mix

open Idealize.ShloMosaic Idealize.SL.Sem
open Cert.Kernel2Ideal Cert.Kernel2Ideal.Gen

/-! ## Words naming a lane's head -/

theorem head_word : ∀ j : Fin 256, ∀ h : Fin 4,
    IntOp.cmpi .eq (IntOp.shrui .vector (BitVec.ofNat 32 j.val) 6#32) (BitVec.ofNat 32 h.val)
      = BitVec.ofBool (decide (head j = h)) := by
  decide +kernel

/-- A choice by a lane's head. -/
theorem select_head {α : Type} (j : Fin 256) (h : Fin 4) (x y : α) :
    Scalar.select (IntOp.cmpi .eq (IntOp.shrui .vector (BitVec.ofNat 32 j.val) 6#32) (BitVec.ofNat 32 h.val)) x y
      = if head j = h then x else y := by
  rw [head_word]
  by_cases e : head j = h <;> simp [e, Scalar.select]

/-- The one product of a lane's head, the others giving zero. -/
theorem sum_heads (j : Fin 256) (b : EReal) (X : Fin 4 → EReal) :
    b + (if head j = 0 then X 0 else 0) + (if head j = 1 then X 1 else 0) + (if head j = 2 then X 2 else 0)
      + (if head j = 3 then X 3 else 0) = b + X (head j) := by
  generalize head j = h
  revert h
  intro h
  fin_cases h <;> simp

/-! ## The pointwise payloads -/

section

variable (A : Layer) (s : ℕ) (v8 : FVec Ideal S256x1280 .f32)

/-- The block's projected rows are rows `256 s …` of the sequence. -/
def IsBlock : Prop := ∀ (r : Fin 256) (q : Fin 1280), v8 (ix2 r q) = A.z (s * 256 + r.val) ⟨q.val, by omega⟩

variable {A s v8}

theorem ub_at (h : IsBlock A s v8) (r j : Fin 256) : k0_pay60 (F := Ideal) v8 (ix2 r j) = gelu (A.ub (s * 256 + r.val) j) := by
  rw [Layer.ub, ← h r ⟨512 + j.val, by omega⟩]
  pointwise [k0_pay60]
  rfl

theorem ya_at (h : IsBlock A s v8) (hs : FVec Ideal S256x256 .f32) (r j : Fin 256) :
    k0_pay59 (F := Ideal) (k0_pay30 v8) hs (ix3 0 r j) = hs (ix2 r j) * gelu (A.ga (s * 256 + r.val) j) := by
  rw [Layer.ga, ← h r ⟨256 + j.val, by omega⟩]
  pointwise [k0_pay59, k0_pay30]
  rfl

theorem vn_at (h : IsBlock A s v8) (g b : FVec Ideal S1x256 .f32) (hg : ∀ j, g (ix2 0 j) = A.g j)
    (hb : ∀ j, b (ix2 0 j) = A.be j) (r j : Fin 256) :
    k0_pay63 (F := Ideal) (k0_pay61 v8) (k0_pay62 v8) (Scalar.ofBits .f32 0x3D372713#32) g b (ix2 r j)
      = A.vn (s * 256 + r.val) j := by
  have e : ∀ q : Fin 256, A.vb (s * 256 + r.val) q = v8 (ix2 r ⟨768 + q.val, by omega⟩) := fun q =>
    (h r ⟨768 + q.val, by omega⟩).symm
  unfold Layer.vn Layer.var Layer.mean
  simp only [e, ← hg, ← hb]
  pointwise [k0_pay63, k0_pay61, k0_pay62]
  rfl

/-- The gating unit's first chunk of the block. -/
theorem yb_lo (u vn : FVec Ideal S256x256 .f32) (bs : FVec Ideal S128x256 .f32) (w : Fin 4 → FVec Ideal S1x128x128 .bf16)
    (a : FVec Ideal S128x256 .bf16) (ha : ∀ (i : Fin 128) (j : Fin 256), a (ix2 i j) = vn (ix2 ⟨i.val, by omega⟩ j))
    (r : Fin 128) (j : Fin 256) :
    k0_pay68 (F := Ideal) (k0_pay67 u k0_pay64 a (k0_pay66 bs) 0#32 (w 0) (w 1) (w 2) (w 3)) (ix3 0 r j)
      = u (ix2 ⟨r.val, by omega⟩ j) * (bs (ix2 r j) + ∑ i : Fin 128, w (head j) (ix3 0 r i) * vn (ix2 ⟨i.val, by omega⟩ j)) := by
  have h := sum_heads j (bs (ix2 r j)) fun q => ∑ i : Fin 128, w q (ix3 0 r i) * vn (ix2 ⟨i.val, by omega⟩ j)
  simp only [← select_head] at h
  rw [← h]
  pointwise [k0_pay68, k0_pay67, k0_pay66, k0_pay64]
  simp only [ha]

/-- The gating unit's second chunk of the block. -/
theorem yb_hi (u vn : FVec Ideal S256x256 .f32) (bs : FVec Ideal S128x256 .f32) (w : Fin 4 → FVec Ideal S1x128x128 .bf16)
    (r : Fin 128) (j : Fin 256) :
    k0_pay72 (F := Ideal) u (k0_pay69 vn) (k0_pay70 vn k0_pay64 bs (w 0) (w 1) (w 2)) (k0_pay71 k0_pay64) (w 3) (ix3 0 r j)
      = u (ix2 ⟨128 + r.val, by omega⟩ j) * (bs (ix2 r j) + ∑ i : Fin 128, w (head j) (ix3 0 r i) * vn (ix2 ⟨128 + i.val, by omega⟩ j)) := by
  have h := sum_heads j (bs (ix2 r j)) fun q => ∑ i : Fin 128, w q (ix3 0 r i) * vn (ix2 ⟨128 + i.val, by omega⟩ j)
  simp only [← select_head] at h
  rw [← h]
  pointwise [k0_pay72, k0_pay71, k0_pay70, k0_pay69, k0_pay64]

end

/-! ## The convolution and the recurrence's coefficients -/

/-- The convolution of a block: the rows three, two and one earlier, and the block's own. -/
theorem conv_at (cb w0 w1 w2 w3 : FVec Ideal S1x256 .f32) (x3 x2 x1 x0 : FVec Ideal S256x256 .f32) (r j : Fin 256) :
    k0_pay34 (F := Ideal) (k0_pay32 cb x3 w0 x2 w1) (k0_pay33 x1 w2) x0 w3 (ix2 r j)
      = cb (ix2 0 j) + x3 (ix2 r j) * w0 (ix2 0 j) + x2 (ix2 r j) * w1 (ix2 0 j) + x1 (ix2 r j) * w2 (ix2 0 j)
        + x0 (ix2 r j) * w3 (ix2 0 j) := by
  pointwise [k0_pay34, k0_pay33, k0_pay32]

section

variable (u v : FVec Ideal S256x256 .f32) (x : FVec Ideal S256x256 .f32) (w : FVec Ideal S1x256 .f32)
  (wg : FVec Ideal S256x512 .bf16) (bg : FVec Ideal S1x512 .f32)

theorem gate_a (r j : Fin 256) :
    k0_pay38 (F := Ideal) u v x w wg bg (ix2 r j)
      = Ideal.logistic (∑ k, k0_pay34 (F := Ideal) u v x w (ix2 r k) * wg (ix2 k ⟨j.val, by omega⟩) + bg (ix2 0 ⟨j.val, by omega⟩)) := by
  pointwise [k0_pay38, k0_pay37]

theorem gate_x (r j : Fin 256) :
    k0_pay39 (F := Ideal) u v x w wg bg (ix2 r j)
      = Ideal.logistic (∑ k, k0_pay34 (F := Ideal) u v x w (ix2 r k) * wg (ix2 k ⟨256 + j.val, by omega⟩) + bg (ix2 0 ⟨256 + j.val, by omega⟩)) := by
  pointwise [k0_pay39, k0_pay37]

theorem la_at (g : FVec Ideal S256x256 .f32) (l : FVec Ideal S1x256 .f32) (r j : Fin 256) :
    k0_pay43 (F := Ideal) g (k0_pay41 l) (k0_pay42 l) (ix2 r j)
      = Ideal.ofBits .f32 3238002688#32 * g (ix2 r j) * softPlus (l (ix2 0 j)) := by
  pointwise [k0_pay43, k0_pay42, k0_pay41, k0_pay40]
  rfl

theorem dec_at (g : FVec Ideal S256x256 .f32) (a b : FVec Ideal S1x256 .f32) (r j : Fin 256) :
    k0_pay44 (F := Ideal) g a b (ix2 r j) = Ideal.exp (k0_pay43 (F := Ideal) g a b (ix2 r j)) := by
  pointwise [k0_pay44]

end

/-- A sum over 256 lanes against a block-diagonal column has only the column's own head. -/
theorem sum_block (x : Fin 256 → EReal) (w : Fin 4 → Fin 64 → Fin 64 → EReal) (j : Fin 256) :
    ∑ k, x k * (if head k = head j then w (head k) (lane k) (lane j) else 0)
      = ∑ i, x (col (head j) i) * w (head j) i (lane j) := by
  rw [← (finProdFinEquiv (m := 4) (n := 64)).sum_comp (fun k : Fin 256 => x k * (if head k = head j then w (head k) (lane k) (lane j) else 0)), Fintype.sum_prod_type,
    Finset.sum_eq_single (head j)]
  · refine Finset.sum_congr rfl fun i _ => ?_
    have e : (finProdFinEquiv (m := 4) (n := 64)) (head j, i) = col (head j) i := by
      ext; simp [col, finProdFinEquiv]; omega
    have e1 : head (col (head j) i) = head j := by ext; simp [head, col]; omega
    have e2 : lane (col (head j) i) = i := by ext; simp [lane, col]
    rw [e, e1, e2, if_pos rfl]
  · intro h _ hne
    refine Finset.sum_eq_zero fun i _ => ?_
    have e : head ((finProdFinEquiv (m := 4) (n := 64)) (h, i)) = h := by
      ext; simp [head, finProdFinEquiv]; omega
    rw [e, if_neg hne, mul_zero]
  · simp

end Cert.Mix

end
-- ==== Proof.MixProj.lean ====
/- The projections of a block of 256 rows. -/
module

public import proofs.«01_k».proof.Proof.MixPay

@[expose] public section

set_option maxRecDepth 16384

noncomputable section

namespace Cert.Mix

open Idealize.ShloMosaic Idealize.SL.Sem
open Cert.Kernel2Ideal Cert.Kernel2Ideal.Gen

/-! ## The projections of a block -/

section

variable (A : Layer) (s : ℕ) (x : FVec Ideal S1x256x1024 .f32)

/-- The block's input rows are rows `256 s …` of the sequence. -/
def IsRows : Prop := ∀ (r : Fin 256) (k : Fin 1024) (h : s * 256 + r.val < 8192), x (ix3 0 r k) = A.x ⟨s * 256 + r.val, h⟩ k

variable {A s x}

theorem z_rows (hs : s < 32) (h : IsRows A s x) (r : Fin 256) (j : Fin 2632) :
    A.z (s * 256 + r.val) j = ∑ k, x (ix3 0 r k) * A.w k j := by
  have hr : s * 256 + r.val < 8192 := by omega
  rw [Layer.z, dif_pos hr]
  exact Finset.sum_congr rfl fun k _ => by rw [h r k hr]

theorem abc_block (hs : s < 32) (h : IsRows A s x) (w : FVec Ideal S1024x1280 .bf16)
    (hw : ∀ k j, w (ix2 k j) = A.w k ⟨j.val, by omega⟩) : IsBlock A s (k0_pay6 (F := Ideal) x w) := by
  intro r q
  rw [z_rows hs h]
  simp only [← hw]
  pointwise [k0_pay6, k0_pay5]

section

variable (w : FVec Ideal S1024x768 .bf16) (hw : ∀ k j, w (ix2 k j) = A.w k ⟨1280 + j.val, by omega⟩)

include hw

theorem q_at (hs : s < 32) (h : IsRows A s x) (r j : Fin 256) :
    k0_pay9 (F := Ideal) x w (ix3 0 r j) = A.z (s * 256 + r.val) ⟨1280 + j.val, by omega⟩ * Ideal.ofBits .f32 0x3E000000#32 := by
  rw [z_rows hs h, Finset.sum_congr rfl fun k _ => congrArg (x (ix3 0 r k) * ·) (hw k ⟨j.val, by omega⟩).symm]
  pointwise [k0_pay9, k0_pay7, k0_pay5]

theorem k_at (hs : s < 32) (h : IsRows A s x) (r j : Fin 256) :
    k0_pay10 (F := Ideal) x w (ix3 0 r j) = A.z (s * 256 + r.val) ⟨1536 + j.val, by omega⟩ := by
  have hw' : ∀ k, w (ix2 k ⟨256 + j.val, by omega⟩) = A.w k ⟨1536 + j.val, by omega⟩ := fun k =>
    (hw k _).trans (congrArg (A.w k) (Fin.ext (by simp only []; omega)))
  rw [z_rows hs h, Finset.sum_congr rfl fun k _ => congrArg (x (ix3 0 r k) * ·)
    (hw' k).symm]
  pointwise [k0_pay10, k0_pay7, k0_pay5]

theorem vv_at (hs : s < 32) (h : IsRows A s x) (r j : Fin 256) :
    k0_pay11 (F := Ideal) x w (ix2 r j) = A.z (s * 256 + r.val) ⟨1792 + j.val, by omega⟩ := by
  have hw' : ∀ k, w (ix2 k ⟨512 + j.val, by omega⟩) = A.w k ⟨1792 + j.val, by omega⟩ := fun k =>
    (hw k _).trans (congrArg (A.w k) (Fin.ext (by simp only []; omega)))
  rw [z_rows hs h, Finset.sum_congr rfl fun k _ => congrArg (x (ix3 0 r k) * ·)
    (hw' k).symm]
  pointwise [k0_pay11, k0_pay7, k0_pay5]

theorem v_at (hs : s < 32) (h : IsRows A s x) (r j : Fin 256) :
    k0_pay12 (F := Ideal) x w (ix3 0 r j) = A.z (s * 256 + r.val) ⟨1792 + j.val, by omega⟩ := by
  rw [← vv_at w hw hs h]
  pointwise [k0_pay12]

end

section

variable (w : FVec Ideal S1024x640 .bf16)
  (hw : ∀ k (j : Fin 640), w (ix2 k j) = if h : j.val < 584 then A.w k ⟨2048 + j.val, by omega⟩ else (0 : EReal))

include hw

theorem qi_at (hs : s < 32) (h : IsRows A s x) (r : Fin 256) (j : Fin 512) :
    k0_pay13 (F := Ideal) (k0_pay8 x w) (ix3 0 r j) = A.z (s * 256 + r.val) ⟨2048 + j.val, by omega⟩ := by
  rw [z_rows hs h, Finset.sum_congr rfl fun k _ => congrArg (x (ix3 0 r k) * ·)
    ((hw k ⟨j.val, by omega⟩).trans (dif_pos (by simp only []; omega))).symm]
  pointwise [k0_pay13, k0_pay8, k0_pay5]

theorem kiwi_at (hs : s < 32) (h : IsRows A s x) (r : Fin 256) (j : Fin 128) :
    k0_pay14 (F := Ideal) (k0_pay8 x w) (ix3 0 r j)
      = if h : j.val < 72 then A.z (s * 256 + r.val) ⟨2560 + j.val, by omega⟩ else 0 := by
  have e : k0_pay14 (F := Ideal) (k0_pay8 x w) (ix3 0 r j) = ∑ k, x (ix3 0 r k) * w (ix2 k ⟨512 + j.val, by omega⟩) := by
    pointwise [k0_pay14, k0_pay8, k0_pay5]
  rw [e]
  by_cases hj : j.val < 72
  · rw [dif_pos hj, z_rows hs h]
    exact Finset.sum_congr rfl fun k _ => congrArg (x (ix3 0 r k) * ·)
      ((hw k _).trans ((dif_pos (by simp only []; omega)).trans (congrArg (A.w k) (Fin.ext (by simp only []; omega)))))
  · rw [dif_neg hj]
    refine Finset.sum_eq_zero fun k _ => ?_
    rw [hw k _, dif_neg (by simp only []; omega), mul_zero]

end

section

variable (w : FVec Ideal S320x1024 .bf16)
  (hw : ∀ k (j : Fin 320), w (ix2 j k) = if h : j.val < 256 then A.w k ⟨1536 + j.val, by omega⟩ else A.w k ⟨2560 + (j.val - 256), by omega⟩)

include hw

theorem kt_sum (hs : s < 32) (h : IsRows A s x) (r : Fin 256) (j : Fin 256) :
    ∑ k, w (ix2 ⟨j.val, by omega⟩ k) * x (ix3 0 r k) = A.z (s * 256 + r.val) ⟨1536 + j.val, by omega⟩ := by
  rw [z_rows hs h]
  exact Finset.sum_congr rfl fun k _ => (congrArg (· * x (ix3 0 r k)) ((hw k _).trans (dif_pos j.isLt))).trans (mul_comm _ _)

theorem kit_sum (hs : s < 32) (h : IsRows A s x) (r : Fin 256) (j : Fin 64) :
    ∑ k, w (ix2 ⟨256 + j.val, by omega⟩ k) * x (ix3 0 r k) = A.z (s * 256 + r.val) ⟨2560 + j.val, by omega⟩ := by
  rw [z_rows hs h]
  exact Finset.sum_congr rfl fun k _ => (congrArg (· * x (ix3 0 r k)) ((hw k _).trans ((dif_neg (by simp only []; omega)).trans
    (congrArg (A.w k) (Fin.ext (by simp only []; omega)))))).trans (mul_comm _ _)

theorem kt_lo (hs : s < 32) (h : IsRows A s x) (r : Fin 128) (j : Fin 256) :
    k0_pay17 (F := Ideal) (k0_pay5 x) w (ix4 0 0 j r) = A.z (s * 256 + r.val) ⟨1536 + j.val, by omega⟩ := by
  rw [← kt_sum w hw hs h ⟨r.val, by omega⟩ j]
  pointwise [k0_pay17, k0_pay15, k0_pay5]

theorem kt_hi (hs : s < 32) (h : IsRows A s x) (r : Fin 128) (j : Fin 256) :
    k0_pay24 (F := Ideal) (k0_pay15 (k0_pay5 x) w) (ix4 0 0 j r) = A.z (s * 256 + (128 + r.val)) ⟨1536 + j.val, by omega⟩ := by
  rw [← kt_sum w hw hs h ⟨128 + r.val, by omega⟩ j]
  pointwise [k0_pay24, k0_pay15, k0_pay5]

theorem kit_lo (hs : s < 32) (h : IsRows A s x) (r : Fin 128) (j : Fin 64) :
    k0_pay18 (F := Ideal) (k0_pay5 x) w (ix4 0 0 j r) = A.z (s * 256 + r.val) ⟨2560 + j.val, by omega⟩ := by
  rw [← kit_sum w hw hs h ⟨r.val, by omega⟩ j]
  pointwise [k0_pay18, k0_pay15, k0_pay5]

theorem kit_hi (hs : s < 32) (h : IsRows A s x) (r : Fin 128) (j : Fin 64) :
    k0_pay25 (F := Ideal) (k0_pay15 (k0_pay5 x) w) (ix4 0 0 j r) = A.z (s * 256 + (128 + r.val)) ⟨2560 + j.val, by omega⟩ := by
  rw [← kit_sum w hw hs h ⟨128 + r.val, by omega⟩ j]
  pointwise [k0_pay25, k0_pay15, k0_pay5]

end

end
/-- The four heads' rows of a chunk's values: head `q`'s lanes, zero elsewhere. -/
theorem vbd_lo (v : FVec Ideal S256x256 .f32) (r : Fin 128) (j : Fin 256) :
    k0_pay20 (F := Ideal) (k0_pay19 v) (ix4 0 0 r j) = (if head j = 0 then v (ix2 ⟨r.val, by omega⟩ j) else 0)
    ∧ k0_pay21 (F := Ideal) v k0_pay16 (ix4 0 0 r j) = (if head j = 1 then v (ix2 ⟨r.val, by omega⟩ j) else 0)
    ∧ k0_pay22 (F := Ideal) v k0_pay16 (ix4 0 0 r j) = (if head j = 2 then v (ix2 ⟨r.val, by omega⟩ j) else 0)
    ∧ k0_pay23 (F := Ideal) v k0_pay16 (ix4 0 0 r j) = (if head j = 3 then v (ix2 ⟨r.val, by omega⟩ j) else 0) := by
  simp only [← select_head]
  refine ⟨?_, ?_, ?_, ?_⟩
  · pointwise [k0_pay20, k0_pay19, k0_pay16]
  · pointwise [k0_pay21, k0_pay16]
  · pointwise [k0_pay22, k0_pay16]
  · pointwise [k0_pay23, k0_pay16]

theorem vbd_hi (v : FVec Ideal S256x256 .f32) (r : Fin 128) (j : Fin 256) :
    k0_pay26 (F := Ideal) v k0_pay16 (ix4 0 0 r j) = (if head j = 0 then v (ix2 ⟨128 + r.val, by omega⟩ j) else 0)
    ∧ k0_pay27 (F := Ideal) v k0_pay16 (ix4 0 0 r j) = (if head j = 1 then v (ix2 ⟨128 + r.val, by omega⟩ j) else 0)
    ∧ k0_pay28 (F := Ideal) v k0_pay16 (ix4 0 0 r j) = (if head j = 2 then v (ix2 ⟨128 + r.val, by omega⟩ j) else 0)
    ∧ k0_pay29 (F := Ideal) v k0_pay16 3#32 (ix4 0 0 r j) = (if head j = 3 then v (ix2 ⟨128 + r.val, by omega⟩ j) else 0) := by
  simp only [← select_head]
  refine ⟨?_, ?_, ?_, ?_⟩
  · pointwise [k0_pay26, k0_pay16]
  · pointwise [k0_pay27, k0_pay16]
  · pointwise [k0_pay28, k0_pay16]
  · pointwise [k0_pay29, k0_pay16]

end Cert.Mix

end
-- ==== Proof.MixPool.lean ====
/- The pool of a block of 256 rows, from four window sums. -/
module

public import proofs.«01_k».proof.Proof.MixProj

@[expose] public section

set_option maxRecDepth 16384

noncomputable section

namespace Cert.Mix

open Idealize.ShloMosaic Idealize.SL.Sem
open Cert.Kernel2Ideal Cert.Kernel2Ideal.Gen

/-! ## The pool's windows -/

/-- A sequence with `n` rows of zeros before it. -/
def padded (f : ℕ → EReal) (n e : ℕ) : EReal := if n ≤ e then f (e - n) else 0

theorem padded_zero (f : ℕ → EReal) {n e : ℕ} (h : e < n) : padded f n e = 0 := if_neg (by omega)

theorem padded_row (f : ℕ → EReal) (n t : ℕ) : padded f n (n + t) = f t := by
  rw [padded, if_pos (by omega), Nat.add_sub_cancel_left]

theorem back_padded (f : ℕ → EReal) (n t d : ℕ) (h : d ≤ n) : back f t d = padded f n (n + t - d) := by
  unfold back padded
  by_cases hd : d ≤ t
  · rw [if_pos hd, if_pos (by omega)]
    congr 1
    omega
  · rw [if_neg hd, if_neg (by omega)]

/-- Sums of 2, 4, 8 and 16 consecutive rows, each level from the one before. -/
theorem window_sums (p l1 l2 l3 : ℕ → EReal) (h1 : ∀ e, 8 ≤ e → e < 280 → l1 e = p e + p (e - 1))
    (h2 : ∀ e, 8 ≤ e → e < 280 → l2 e = l1 e + l1 (e - 2)) (h3 : ∀ e, 8 ≤ e → e < 280 → l3 e = l2 e + l2 (e - 4)) (r : ℕ) (hr : r < 256) :
    l1 (24 + r) = ∑ d ∈ Finset.range 2, p (24 + r - d) ∧ l2 (24 + r) = ∑ d ∈ Finset.range 4, p (24 + r - d)
      ∧ l3 (24 + r) = ∑ d ∈ Finset.range 8, p (24 + r - d) ∧ l3 (24 + r) + l3 (16 + r) = ∑ d ∈ Finset.range 16, p (24 + r - d) := by
  have q1 : ∀ e, 8 ≤ e → e < 280 → l1 e = ∑ d ∈ Finset.range 2, p (e - d) := fun e h h' => by
    rw [h1 e h h']; simp [Finset.sum_range_succ]
  have q2 : ∀ e, 10 ≤ e → e < 280 → l2 e = ∑ d ∈ Finset.range 4, p (e - d) := fun e h h' => by
    rw [h2 e (by omega) h', q1 e (by omega) h', q1 (e - 2) (by omega) (by omega)]
    simp only [Finset.sum_range_succ, Finset.sum_range_zero, Nat.sub_sub]
    abel
  have q3 : ∀ e, 14 ≤ e → e < 280 → l3 e = ∑ d ∈ Finset.range 8, p (e - d) := fun e h h' => by
    rw [h3 e (by omega) h', q2 e (by omega) h', q2 (e - 4) (by omega) (by omega)]
    simp only [Finset.sum_range_succ, Finset.sum_range_zero, Nat.sub_sub]
    abel
  refine ⟨q1 _ (by omega) (by omega), q2 _ (by omega) (by omega), q3 _ (by omega) (by omega), ?_⟩
  rw [q3 _ (by omega) (by omega), q3 (16 + r) (by omega) (by omega)]
  have e : 16 + r = 24 + r - 8 := by omega
  rw [e]
  simp only [Finset.sum_range_succ, Finset.sum_range_zero, Nat.sub_sub]
  abel

theorem win_padded (A : Layer) (s : ℕ) (r j : Fin 256) (n : ℕ) (hn : n ≤ 16) :
    A.win n (s * 256 + r.val) j = ∑ d ∈ Finset.range n, padded (A.xp · j) 24 (s * 256 + (24 + r.val - d)) := by
  refine Finset.sum_congr rfl fun d hd => ?_
  have := Finset.mem_range.1 hd
  rw [back_padded _ 24 _ _ (by omega)]
  congr 1
  omega

/-- The number of rows in a window that reaches before the first row, as the block computes it. -/
theorem count_word : ∀ (s : Fin 32) (r : Fin 256) (h : Fin 4),
    (IntOp.minsi (IntOp.addi (IntOp.addi 0#32 (IntOp.addi (Scalar.muli (BitVec.ofNat 32 s.val) 256#32) (BitVec.ofNat 32 r.val))) 1#32)
      (BitVec.ofNat 32 (2 ^ (h.val + 1)))).toInt = ((min (s.val * 256 + r.val + 1) (2 ^ (h.val + 1)) : ℕ) : ℤ) := by
  decide +kernel

theorem width_word (j : Fin 256) :
    Scalar.select (IntOp.cmpi .eq (IntOp.shrui .vector (BitVec.ofNat 32 j.val) 6#32) 0#32) (2#32)
      (Scalar.select (IntOp.cmpi .eq (IntOp.shrui .vector (BitVec.ofNat 32 j.val) 6#32) 1#32) (4#32)
        (Scalar.select (IntOp.cmpi .eq (IntOp.shrui .vector (BitVec.ofNat 32 j.val) 6#32) 2#32) (8#32) (16#32)))
      = BitVec.ofNat 32 (2 ^ ((head j).val + 1)) := by
  have e := fun (h : Fin 4) (x y : BitVec 32) => select_head j h x y
  have e0 := fun x y => e 0 x y
  have e1 := fun x y => e 1 x y
  have e2 := fun x y => e 2 x y
  simp only [show BitVec.ofNat 32 ((0 : Fin 4).val) = 0#32 from rfl, show BitVec.ofNat 32 ((1 : Fin 4).val) = 1#32 from rfl,
    show BitVec.ofNat 32 ((2 : Fin 4).val) = 2#32 from rfl] at e0 e1 e2
  rw [e0, e1, e2]
  generalize head j = h
  revert h
  decide

/-- The pool of a block from its four window sums. -/
theorem yc_at (A : Layer) (s : Fin 32) (v8 : FVec Ideal S256x1280 .f32) (h : IsBlock A s.val v8) (a1 : BitVec 32) (ha1 : a1 = BitVec.ofNat 32 s.val)
    (x0 x1 w2 w4 w8 : FVec Ideal S256x256 .f32)
    (h2 : ∀ r j, w2 (ix2 r j) = A.win 2 (s.val * 256 + r.val) j) (h4 : ∀ r j, w4 (ix2 r j) = A.win 4 (s.val * 256 + r.val) j)
    (h8 : ∀ r j, w8 (ix2 r j) = A.win 8 (s.val * 256 + r.val) j)
    (h16 : ∀ r j, x0 (ix2 r j) + x1 (ix2 r j) = A.win 16 (s.val * 256 + r.val) j)
    (pw : FVec Ideal S256x256 .bf16) (hpw : ∀ k j, pw (ix2 k j) = if head k = head j then A.pw (head k) (lane k) (lane j) else (0 : EReal))
    (ps : FVec Ideal S1x256 .f32) (hps : ∀ j, ps (ix2 0 j) = A.ps j) (r j : Fin 256) :
    k0_pay86 (F := Ideal) a1 (iota .tc S256x256 32 [0] iota_S256x256_d0_w32) (k0_pay73 v8) k0_pay82 (k0_pay83 x0 x1 w2 w4 w8) k0_pay84 k0_pay85 pw ps (ix3 0 r j)
      = A.yc (s.val * 256 + r.val) j := by
  have key : ∀ q : Fin 256, Ideal.div (k0_pay83 (F := Ideal) x0 x1 w2 w4 w8 (ix2 r q)) (FloatOps.sitofp (F := Ideal) .f32 (IntOp.minsi (IntOp.addi (IntOp.addi 0#32 (IntOp.addi (Scalar.muli a1 256#32) (BitVec.ofNat 32 r.val))) 1#32)
      (Scalar.select (IntOp.cmpi .eq (IntOp.shrui .vector (BitVec.ofNat 32 q.val) 6#32) 0#32) (2#32)
      (Scalar.select (IntOp.cmpi .eq (IntOp.shrui .vector (BitVec.ofNat 32 q.val) 6#32) 1#32) (4#32)
        (Scalar.select (IntOp.cmpi .eq (IntOp.shrui .vector (BitVec.ofNat 32 q.val) 6#32) 2#32) (8#32) (16#32))))))
        - v8 (ix2 r ⟨1024 + q.val, by omega⟩) = A.pooled (s.val * 256 + r.val) q := by
    intro q
    have hw : k0_pay83 (F := Ideal) x0 x1 w2 w4 w8 (ix2 r q) = A.win (Layer.width q) (s.val * 256 + r.val) q := by
      have e : k0_pay83 (F := Ideal) x0 x1 w2 w4 w8 (ix2 r q)
          = if head q = 0 then w2 (ix2 r q) else if head q = 1 then w4 (ix2 r q) else if head q = 2 then w8 (ix2 r q) else x0 (ix2 r q) + x1 (ix2 r q) := by
        simp only [← select_head]
        pointwise [k0_pay83, k0_pay82]
      rw [e, h2, h4, h8, h16]
      have hwd : Layer.width q = 2 ^ ((head q).val + 1) := rfl
      rw [hwd]
      generalize head q = hd
      fin_cases hd <;> rfl
    rw [width_word, hw, ha1, Layer.pooled, h]
    have hc := count_word s r (head q)
    unfold FloatOps.sitofp
    congr 2
    show (((BitVec.toInt _ : ℤ) : ℝ) : EReal) = _
    rw [hc]
    rfl
  rw [Layer.yc, ← hps, ← sum_block]
  simp only [← hpw, ← key]
  pointwise [k0_pay86, k0_pay85, k0_pay84, k0_pay83, k0_pay82, k0_pay73]

end Cert.Mix

end
-- ==== Proof.MixBlk.lean ====
/- What a grid point is handed: its rows of the sequence, and the weights. -/
module

public import proofs.«01_k».proof.Proof.MixPool
public import proofs.«01_k».proof.Proof.Gen.Own.Kernel2Ideal.Frame
public import Idealize.ShloMosaic.Lib.Pointwise
public import Idealize.ShloMosaic.Lib.Pipeline.ValueKit
public import Idealize.ShloMosaic.Lib.Pipeline.FrameTail
public import Idealize.ShloMosaic.Lib.Pipeline.ReadBack
public import Idealize.ShloMosaic.Lib.Writes
public import Idealize.ShloMosaic.Lib.LayoutAt

@[expose] public section

set_option maxRecDepth 16384

noncomputable section

namespace Cert.Mix

open Idealize.ShloMosaic Idealize.ShloMosaic.TcCoe Idealize.SL.Sem
open Cert.Kernel2Ideal Cert.Kernel2Ideal.Gen

variable (m : (ℓ : Loc nD τ sig) → Buf (Elt Ideal) ℓ)

/-- Sequence `b` of the arrays as launched. -/
def lay (c : Dev nD) (b : Fin 2) : Layer :=
  layerOf (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6)) (m ((c : Thread nD τ).loc main_arg7)) (m ((c : Thread nD τ).loc main_arg8))
    (m ((c : Thread nD τ).loc main_arg9)) (m ((c : Thread nD τ).loc main_arg10)) (m ((c : Thread nD τ).loc main_arg11))
    (m ((c : Thread nD τ).loc main_arg12)) (m ((c : Thread nD τ).loc main_arg13)) (m ((c : Thread nD τ).loc main_arg14)) b

/-- Where the input windows' blocks sit at grid point `t`. -/
theorem places : ∀ t : Fin cfg0.N, win0_0.index t = ![t.val / 32, t.val % 32, 0] ∧ win0_1.index t = ![0, 0]
    ∧ win0_2.index t = ![0, 0] ∧ win0_3.index t = ![0, 0] ∧ win0_4.index t = ![0, 0] ∧ win0_5.index t = ![0, 0]
    ∧ win0_6.index t = ![0, 0] ∧ win0_7.index t = ![0, 0] ∧ win0_8.index t = ![0, 0] ∧ win0_9.index t = ![0, 0]
    ∧ win0_10.index t = ![0, 0] ∧ win0_11.index t = ![0, 0] ∧ win0_12.index t = ![0, 0, 0] ∧ win0_13.index t = ![0, 0]
    ∧ win0_14.index t = ![0, 0] ∧ win0_15.index t = ![0, 0]
    ∧ win0_16.index t = ![t.val / 32, 0, 0] ∧ win0_17.index t = ![t.val / 32, 0, 0] ∧ win0_18.index t = ![t.val / 32, 0, 0] :=
  (by decide +kernel : ∀ t : Fin grid0.N, _)
/-- Where the output windows' blocks sit at grid point `t`. -/
theorem places' : ∀ t : Fin cfg0.N, win0_19.index t = ![t.val / 32, t.val % 32, 0] ∧ win0_20.index t = ![t.val / 32, t.val % 32, 0]
    ∧ win0_21.index t = ![t.val / 32, t.val % 32, 0] ∧ win0_22.index t = ![t.val / 32, t.val % 32, 0]
    ∧ win0_23.index t = ![t.val / 32, t.val % 32, 0] ∧ win0_24.index t = ![t.val / 32, t.val % 32, 0]
    ∧ win0_25.index t = ![t.val / 32, 0, 0] ∧ win0_26.index t = ![t.val / 32, 0, 0] ∧ win0_27.index t = ![t.val / 32, 0, 0]
    ∧ win0_28.index t = ![t.val / 32, t.val % 32, 0, 0] ∧ win0_29.index t = ![t.val / 32, t.val % 32, 0, 0]
    ∧ win0_30.index t = ![t.val / 32, t.val % 32, 0, 0] :=
  (by decide +kernel : ∀ t : Fin grid0.N, _)

theorem point_lt (t : Fin cfg0.N) : t.val < 64 := t.isLt

/-- A grid point's sequence. -/
def seq (t : Fin cfg0.N) : Fin 2 := ⟨t.val / 32, by have := point_lt t; omega⟩

/-- A grid point's block in its sequence. -/
def blkNo (t : Fin cfg0.N) : ℕ := t.val % 32

section

set_option maxHeartbeats 1000000

theorem eye_word : ∀ a b : Fin 4,
    (IntOp.cmpi .eq (IntOp.addi (BitVec.ofNat 32 a.val) 0#32) (BitVec.ofNat 32 b.val)) = BitVec.ofBool (decide (a = b)) := by
  decide +kernel

/-- The identity matrix's entry at two lanes' heads, times a number. -/
theorem eye_mul (k j : Fin 256) (x : EReal) :
    FloatOps.uitofp (F := Ideal) .f32 (IntOp.cmpi .eq (IntOp.addi (BitVec.ofNat 32 (k.val / 64)) 0#32) (BitVec.ofNat 32 (j.val / 64))) * x
      = if head k = head j then x else 0 := by
  have h := eye_word (head k) (head j)
  simp only [head] at h ⊢
  rw [h]
  by_cases e : (⟨k.val / 64, by omega⟩ : Fin 4) = ⟨j.val / 64, by omega⟩ <;> simp only [e, decide_true, decide_false, if_true, if_false]
  · have : FloatOps.uitofp (F := Ideal) .f32 (BitVec.ofBool true) = (1 : EReal) := by simp [FloatOps.uitofp]
    rw [this, one_mul]
  · have : FloatOps.uitofp (F := Ideal) .f32 (BitVec.ofBool false) = (0 : EReal) := by simp [FloatOps.uitofp]
    rw [this, zero_mul]

theorem tril_word : ∀ i j : Fin 128,
    (IntOp.cmpi .sge (IntOp.addi (BitVec.ofNat 32 i.val) 0#32) (BitVec.ofNat 32 j.val)) = BitVec.ofBool (decide (j.val ≤ i.val)) := by
  decide +kernel

/-- A number on or below the diagonal. -/
theorem tril_mul (i j : Fin 128) (x : EReal) :
    Scalar.select (IntOp.cmpi .sge (IntOp.addi (BitVec.ofNat 32 i.val) 0#32) (BitVec.ofNat 32 j.val)) x 0
      = x * (if j.val ≤ i.val then 1 else 0) := by
  rw [tril_word]
  by_cases e : j.val ≤ i.val <;> simp [e, Scalar.select]

theorem entry_abc (c : Dev nD) (b : Fin 2) (k : Fin 1024) (j : Fin 1280) :
    (V m c main_v10 : FVec Ideal S1024x1280 .bf16) (ix2 k j) = (lay m c b).w k ⟨j.val, by omega⟩ := by
  simp only [V, hostOps0, hostOps0_1, hostOps0_2, List.flatten_cons, List.flatten_nil, List.append_nil, List.cons_append, List.nil_append]
  after_results
  pointwise
  rfl

theorem entry_qkv (c : Dev nD) (b : Fin 2) (k : Fin 1024) (j : Fin 768) :
    (V m c main_v12 : FVec Ideal S1024x768 .bf16) (ix2 k j) = (lay m c b).w k ⟨1280 + j.val, by omega⟩ := by
  simp only [V, hostOps0, hostOps0_1, hostOps0_2, List.flatten_cons, List.flatten_nil, List.append_nil, List.cons_append, List.nil_append]
  after_results
  pointwise
  rfl

theorem entry_idx (c : Dev nD) (b : Fin 2) (k : Fin 1024) (j : Fin 640) :
    (V m c main_v15 : FVec Ideal S1024x640 .bf16) (ix2 k j) = if h : j.val < 584 then (lay m c b).w k ⟨2048 + j.val, by omega⟩ else 0 := by
  simp only [V, hostOps0, hostOps0_1, hostOps0_2, List.flatten_cons, List.flatten_nil, List.append_nil, List.cons_append, List.nil_append]
  after_results
  pointwise
  rfl

theorem entry_kt (c : Dev nD) (b : Fin 2) (k : Fin 1024) (j : Fin 320) :
    (V m c main_v20 : FVec Ideal S320x1024 .bf16) (ix2 j k) = if h : j.val < 256 then (lay m c b).w k ⟨1536 + j.val, by omega⟩ else (lay m c b).w k ⟨2560 + (j.val - 256), by omega⟩ := by
  simp only [V, hostOps0, hostOps0_1, hostOps0_2, List.flatten_cons, List.flatten_nil, List.append_nil, List.cons_append, List.nil_append]
  after_results
  pointwise
  rfl

theorem entry_cw (c : Dev nD) (b : Fin 2) (i : Fin 4) (j : Fin 256) :
    (V m c main_v22 : FVec Ideal S8x256 .f32) (ix2 ⟨i.val, by omega⟩ j) = (lay m c b).cw i j := by
  simp only [V, hostOps0, hostOps0_1, hostOps0_2, List.flatten_cons, List.flatten_nil, List.append_nil, List.cons_append, List.nil_append]
  after_results
  pointwise
  rfl

theorem entry_gate_a (c : Dev nD) (b : Fin 2) (k j : Fin 256) :
    (V m c main_v49 : FVec Ideal S256x512 .bf16) (ix2 k ⟨j.val, by omega⟩) = if head k = head j then (lay m c b).wa (head k) (lane k) (lane j) else 0 := by
  simp only [V, hostOps0, hostOps0_1, hostOps0_2, List.flatten_cons, List.flatten_nil, List.append_nil, List.cons_append, List.nil_append]
  after_results
  pointwise
  exact eye_mul k j _

theorem entry_gate_x (c : Dev nD) (b : Fin 2) (k j : Fin 256) :
    (V m c main_v49 : FVec Ideal S256x512 .bf16) (ix2 k ⟨256 + j.val, by omega⟩) = if head k = head j then (lay m c b).wx (head k) (lane k) (lane j) else 0 := by
  simp only [V, hostOps0, hostOps0_1, hostOps0_2, List.flatten_cons, List.flatten_nil, List.append_nil, List.cons_append, List.nil_append]
  after_results
  pointwise
  exact eye_mul k j _

theorem entry_pw (c : Dev nD) (b : Fin 2) (k j : Fin 256) :
    (V m c main_v68 : FVec Ideal S256x256 .bf16) (ix2 k j) = if head k = head j then (lay m c b).pw (head k) (lane k) (lane j) else 0 := by
  simp only [V, hostOps0, hostOps0_1, hostOps0_2, List.flatten_cons, List.flatten_nil, List.append_nil, List.cons_append, List.nil_append]
  after_results
  pointwise
  exact eye_mul k j _

theorem entry_bias_a (c : Dev nD) (b : Fin 2) (j : Fin 256) :
    (V m c main_v51 : FVec Ideal S1x512 .f32) (ix2 0 ⟨j.val, by omega⟩) = (lay m c b).ba j := by
  simp only [V, hostOps0, hostOps0_1, hostOps0_2, List.flatten_cons, List.flatten_nil, List.append_nil, List.cons_append, List.nil_append]
  after_results
  pointwise
  rfl

theorem entry_bias_x (c : Dev nD) (b : Fin 2) (j : Fin 256) :
    (V m c main_v51 : FVec Ideal S1x512 .f32) (ix2 0 ⟨256 + j.val, by omega⟩) = (lay m c b).bx j := by
  simp only [V, hostOps0, hostOps0_1, hostOps0_2, List.flatten_cons, List.flatten_nil, List.append_nil, List.cons_append, List.nil_append]
  after_results
  pointwise
  rfl

theorem entry_cb (c : Dev nD) (b : Fin 2) (j : Fin 256) :
    (V m c main_v23 : FVec Ideal S1x256 .f32) (ix2 0 j) = (lay m c b).cb j := by
  simp only [V, hostOps0, hostOps0_1, hostOps0_2, List.flatten_cons, List.flatten_nil, List.append_nil, List.cons_append, List.nil_append]
  after_results
  pointwise
  rfl

theorem entry_lam (c : Dev nD) (b : Fin 2) (j : Fin 256) :
    (V m c main_v52 : FVec Ideal S1x256 .f32) (ix2 0 j) = (lay m c b).lam j := by
  simp only [V, hostOps0, hostOps0_1, hostOps0_2, List.flatten_cons, List.flatten_nil, List.append_nil, List.cons_append, List.nil_append]
  after_results
  pointwise
  rfl

theorem entry_g (c : Dev nD) (b : Fin 2) (j : Fin 256) :
    (V m c main_v53 : FVec Ideal S1x256 .f32) (ix2 0 j) = (lay m c b).g j := by
  simp only [V, hostOps0, hostOps0_1, hostOps0_2, List.flatten_cons, List.flatten_nil, List.append_nil, List.cons_append, List.nil_append]
  after_results
  pointwise
  rfl

theorem entry_be (c : Dev nD) (b : Fin 2) (j : Fin 256) :
    (V m c main_v54 : FVec Ideal S1x256 .f32) (ix2 0 j) = (lay m c b).be j := by
  simp only [V, hostOps0, hostOps0_1, hostOps0_2, List.flatten_cons, List.flatten_nil, List.append_nil, List.cons_append, List.nil_append]
  after_results
  pointwise
  rfl

theorem entry_ps (c : Dev nD) (b : Fin 2) (j : Fin 256) :
    (V m c main_v69 : FVec Ideal S1x256 .f32) (ix2 0 j) = (lay m c b).ps j := by
  simp only [V, hostOps0, hostOps0_1, hostOps0_2, List.flatten_cons, List.flatten_nil, List.append_nil, List.cons_append, List.nil_append]
  after_results
  pointwise
  rfl

theorem entry_ws (c : Dev nD) (b : Fin 2) (h : Fin 4) (i j : Fin 128) :
    (V m c main_v55 : FVec Ideal S4x128x128 .bf16) (ix3 h i j) = (lay m c b).ws h i j * (if j.val ≤ i.val then (1 : EReal) else 0) := by
  simp only [V, hostOps0, hostOps0_1, hostOps0_2, List.flatten_cons, List.flatten_nil, List.append_nil, List.cons_append, List.nil_append]
  after_results
  pointwise
  simp only [StableHlo.TRef.ofBuf_toBuf]
  unfold StableHlo.TRef.toBuf StableHlo.TRef.ofBuf
  simp only [cast_eq]
  pointwise
  exact tril_mul i j _

theorem entry_bs (c : Dev nD) (b : Fin 2) (i : Fin 128) (j : Fin 256) :
    (V m c main_v8 : FVec Ideal S128x256 .f32) (ix2 i j) = (lay m c b).bs (head j) i := by
  simp only [V, hostOps0, hostOps0_1, hostOps0_2, List.flatten_cons, List.flatten_nil, List.append_nil, List.cons_append, List.nil_append]
  after_results
  pointwise
  try rfl

theorem entry_conv0 (c : Dev nD) (b : Fin 2) (i : Fin 8) (j : Fin 256) :
    (V m c main_v70 : FVec Ideal S2x8x256 .f32) (ix3 b i j) = (0 : EReal) := by
  simp only [V, hostOps0, hostOps0_1, hostOps0_2, List.flatten_cons, List.flatten_nil, List.append_nil, List.cons_append, List.nil_append]
  after_results
  pointwise

theorem entry_pool0 (c : Dev nD) (b : Fin 2) (i : Fin 24) (j : Fin 256) :
    (V m c main_v71 : FVec Ideal S2x24x256 .f32) (ix3 b i j) = (0 : EReal) := by
  simp only [V, hostOps0, hostOps0_1, hostOps0_2, List.flatten_cons, List.flatten_nil, List.append_nil, List.cons_append, List.nil_append]
  after_results
  pointwise

theorem entry_h0 (c : Dev nD) (b : Fin 2) (j : Fin 256) :
    (V m c main_v72 : FVec Ideal S2x1x256 .f32) (ix3 b 0 j) = (0 : EReal) := by
  simp only [V, hostOps0, hostOps0_1, hostOps0_2, List.flatten_cons, List.flatten_nil, List.append_nil, List.cons_append, List.nil_append]
  after_results
  pointwise

end

section

variable (c : Dev nD) (t : Fin cfg0.N)

theorem blk_x (r : Fin 256) (k : Fin 1024) :
    (iblk m c 0 t : FVec Ideal S1x256x1024 .f32) (ix3 0 r k) = (lay m c (seq t)).x ⟨blkNo t * 256 + r.val, by unfold blkNo; omega⟩ k := by
  have := places t
  have h : (iblk m c 0 t : FVec Ideal S1x256x1024 .f32) (ix3 0 r k) = (m ((c : Thread nD τ).loc main_arg0) : FVec Ideal S2x8192x1024 .f32) (ix3 ⟨t.val / 32, by have := point_lt t; omega⟩ ⟨t.val % 32 * 256 + r.val, by omega⟩ k) := by
    blk_point [iblk, V, places t]
  exact h

theorem at_abc (i : Fin 1024) (j : Fin 1280) :
    (iblk m c 1 t : FVec Ideal S1024x1280 .bf16) (ix2 i j) = (V m c main_v10 : FVec Ideal S1024x1280 .bf16) (ix2 i j) := by
  unfold iblk
  blk_ext [places t]

theorem at_qkv (i : Fin 1024) (j : Fin 768) :
    (iblk m c 2 t : FVec Ideal S1024x768 .bf16) (ix2 i j) = (V m c main_v12 : FVec Ideal S1024x768 .bf16) (ix2 i j) := by
  unfold iblk
  blk_ext [places t]

theorem at_idx (i : Fin 1024) (j : Fin 640) :
    (iblk m c 3 t : FVec Ideal S1024x640 .bf16) (ix2 i j) = (V m c main_v15 : FVec Ideal S1024x640 .bf16) (ix2 i j) := by
  unfold iblk
  blk_ext [places t]

theorem at_kt (i : Fin 320) (j : Fin 1024) :
    (iblk m c 4 t : FVec Ideal S320x1024 .bf16) (ix2 i j) = (V m c main_v20 : FVec Ideal S320x1024 .bf16) (ix2 i j) := by
  unfold iblk
  blk_ext [places t]

theorem at_cw (i : Fin 8) (j : Fin 256) :
    (iblk m c 5 t : FVec Ideal S8x256 .f32) (ix2 i j) = (V m c main_v22 : FVec Ideal S8x256 .f32) (ix2 i j) := by
  unfold iblk
  blk_ext [places t]

theorem at_cb (i : Fin 1) (j : Fin 256) :
    (iblk m c 6 t : FVec Ideal S1x256 .f32) (ix2 i j) = (V m c main_v23 : FVec Ideal S1x256 .f32) (ix2 i j) := by
  unfold iblk
  blk_ext [places t]

theorem at_gate (i : Fin 256) (j : Fin 512) :
    (iblk m c 7 t : FVec Ideal S256x512 .bf16) (ix2 i j) = (V m c main_v49 : FVec Ideal S256x512 .bf16) (ix2 i j) := by
  unfold iblk
  blk_ext [places t]

theorem at_bias (i : Fin 1) (j : Fin 512) :
    (iblk m c 8 t : FVec Ideal S1x512 .f32) (ix2 i j) = (V m c main_v51 : FVec Ideal S1x512 .f32) (ix2 i j) := by
  unfold iblk
  blk_ext [places t]

theorem at_lam (i : Fin 1) (j : Fin 256) :
    (iblk m c 9 t : FVec Ideal S1x256 .f32) (ix2 i j) = (V m c main_v52 : FVec Ideal S1x256 .f32) (ix2 i j) := by
  unfold iblk
  blk_ext [places t]

theorem at_g (i : Fin 1) (j : Fin 256) :
    (iblk m c 10 t : FVec Ideal S1x256 .f32) (ix2 i j) = (V m c main_v53 : FVec Ideal S1x256 .f32) (ix2 i j) := by
  unfold iblk
  blk_ext [places t]

theorem at_be (i : Fin 1) (j : Fin 256) :
    (iblk m c 11 t : FVec Ideal S1x256 .f32) (ix2 i j) = (V m c main_v54 : FVec Ideal S1x256 .f32) (ix2 i j) := by
  unfold iblk
  blk_ext [places t]

theorem at_ws (h : Fin 4) (i : Fin 128) (j : Fin 128) :
    (iblk m c 12 t : FVec Ideal S4x128x128 .bf16) (ix3 h i j) = (V m c main_v55 : FVec Ideal S4x128x128 .bf16) (ix3 h i j) := by
  unfold iblk
  blk_ext [places t]

theorem at_bs (i : Fin 128) (j : Fin 256) :
    (iblk m c 13 t : FVec Ideal S128x256 .f32) (ix2 i j) = (V m c main_v8 : FVec Ideal S128x256 .f32) (ix2 i j) := by
  unfold iblk
  blk_ext [places t]

theorem at_pw (i : Fin 256) (j : Fin 256) :
    (iblk m c 14 t : FVec Ideal S256x256 .bf16) (ix2 i j) = (V m c main_v68 : FVec Ideal S256x256 .bf16) (ix2 i j) := by
  unfold iblk
  blk_ext [places t]

theorem at_ps (i : Fin 1) (j : Fin 256) :
    (iblk m c 15 t : FVec Ideal S1x256 .f32) (ix2 i j) = (V m c main_v69 : FVec Ideal S1x256 .f32) (ix2 i j) := by
  unfold iblk
  blk_ext [places t]

theorem at_conv0 (i : Fin 8) (j : Fin 256) :
    (iblk m c 16 t : FVec Ideal S1x8x256 .f32) (ix3 0 i j) = (V m c main_v70 : FVec Ideal S2x8x256 .f32) (ix3 (seq t) i j) := by
  unfold iblk
  blk_ext [places t]
  rfl

theorem at_pool0 (i : Fin 24) (j : Fin 256) :
    (iblk m c 17 t : FVec Ideal S1x24x256 .f32) (ix3 0 i j) = (V m c main_v71 : FVec Ideal S2x24x256 .f32) (ix3 (seq t) i j) := by
  unfold iblk
  blk_ext [places t]
  rfl

theorem at_h0 (j : Fin 256) :
    (iblk m c 18 t : FVec Ideal S1x1x256 .f32) (ix3 0 0 j) = (V m c main_v72 : FVec Ideal S2x1x256 .f32) (ix3 (seq t) 0 j) := by
  unfold iblk
  blk_ext [places t]
  rfl

end

end Cert.Mix

end
-- ==== Proof.MixRows.lean ====
/- Rows kept in scratch and read back. -/
module

public import proofs.«01_k».proof.Proof.MixBlk

@[expose] public section

set_option maxRecDepth 16384

noncomputable section

namespace Cert.Mix

open Idealize.ShloMosaic Idealize.SL.Sem
open Cert.Kernel2Ideal Cert.Kernel2Ideal.Gen

/-! ## Rows kept in scratch -/

/-- The array whose rows are `g`. -/
def rowsOf (R : ℕ) (g : ℕ → Fin 256 → EReal) : FVec Ideal (⟨2, ![R, 256]⟩ : Shape) .f32 := fun y => g (y 0).val (y 1)

section

variable {R o n : ℕ} (g : ℕ → Fin 256 → EReal)
    (i1 : ∀ a, (![o, 0] : Fin 2 → ℕ) a + (![n, 256] : Fin 2 → ℕ) a ≤ (⟨2, ![R, 256]⟩ : Shape).size a)
    (f : FVec Ideal (⟨2, ![n, 256]⟩ : Shape) .f32)

theorem piece_rows (h : ∀ (i : Fin n) (j : Fin 256), f (ix2 i j) = g (o + i.val) j) (x : (⟨2, ![n, 256]⟩ : Shape).Idx) :
    f x = rowsOf R g ((Rect.unit (s := ⟨2, ![R, 256]⟩) ![o, 0] ![n, 256] i1).emb x) := by
  have e : x = (ix2 (x 0 : Fin n) (x 1 : Fin 256) : (⟨2, ![n, 256]⟩ : Shape).Idx) := by
    funext a
    fin_cases a <;> rfl
  refine (congrArg f e).trans ((h (x 0) (x 1)).trans ?_)
  unfold rowsOf
  congr 1
  · show o + (x 0).val = o + 1 * (x 0).val
    omega
  · ext
    show (x 1).val = 0 + 1 * (x 1).val
    omega

theorem row_mem (y : (⟨2, ![R, 256]⟩ : Shape).Idx) (h : o ≤ (y 0).val) (h' : (y 0).val < o + n) :
    y ∈ (Rect.unit (s := ⟨2, ![R, 256]⟩) ![o, 0] ![n, 256] i1).set := by
  rw [Rect.mem_set_unit]
  intro a
  have h1 : (y 1).val < 256 := (y 1).isLt
  fin_cases a
  · exact ⟨h, h'⟩
  · exact ⟨Nat.zero_le _, by show (y 1).val < 0 + 256; omega⟩

/-- Two stores of whole rows that fill an array. -/
theorem canon_rows (hR : R = o + n)
    (i0 : ∀ a, (![0, 0] : Fin 2 → ℕ) a + (![o, 256] : Fin 2 → ℕ) a ≤ (⟨2, ![R, 256]⟩ : Shape).size a)
    (z : FVec Ideal (⟨2, ![o, 256]⟩ : Shape) .f32)
    (hf : ∀ (i : Fin n) (j : Fin 256), f (ix2 i j) = g (o + i.val) j)
    (hz : ∀ (i : Fin o) (j : Fin 256), z (ix2 i j) = g i.val j) :
    View.canon (Val := Elt Ideal) (s := ⟨2, ![R, 256]⟩) (e := .f32) [⟨Rect.unit ![o, 0] ![n, 256] i1, f⟩, ⟨Rect.unit ![0, 0] ![o, 256] i0, z⟩]
      = rowsOf R g := by
  funext y
  refine View.canon_apply_of_pieces (Val := Elt Ideal) (e := .f32) (rowsOf R g) _ ?_ y ?_
  · intro p hp x
    rcases List.mem_cons.1 hp with rfl | hp
    · exact piece_rows g i1 f hf x
    · obtain rfl := List.mem_singleton.1 hp
      exact piece_rows (o := 0) g i0 z (fun i j => (hz i j).trans (by rw [Nat.zero_add])) x
  · have hy : (y 0).val < R := (y 0).isLt
    by_cases h : o ≤ (y 0).val
    · exact ⟨_, List.mem_cons_self, row_mem i1 y h (by omega)⟩
    · exact ⟨_, List.mem_cons_of_mem _ (List.mem_singleton_self _), row_mem i0 y (Nat.zero_le _) (by omega)⟩

/-- One store of whole rows, read inside it. -/
theorem canon_row (hf : ∀ (i : Fin n) (j : Fin 256), f (ix2 i j) = g (o + i.val) j) (y : (⟨2, ![R, 256]⟩ : Shape).Idx) (h : o ≤ (y 0).val) (h' : (y 0).val < o + n) :
    View.canon (Val := Elt Ideal) (s := ⟨2, ![R, 256]⟩) (e := .f32) [⟨Rect.unit ![o, 0] ![n, 256] i1, f⟩] y = rowsOf R g y := by
  refine View.canon_apply_of_pieces (Val := Elt Ideal) (e := .f32) (rowsOf R g) _ ?_ y ⟨_, List.mem_singleton_self _, row_mem i1 y h h'⟩
  intro p hp x
  obtain rfl := List.mem_singleton.1 hp
  exact piece_rows g i1 f hf x

/-- A store of whole rows over contents whose earlier rows are known. -/
theorem read_rows {κ : Kind} {sp : Space} (v : View sig κ sp (⟨2, ![R, 256]⟩ : Shape) .f32) (b : v.ty.Contents (Elt Ideal)) (hR : R = o + n)
    (hf : ∀ (i : Fin n) (j : Fin 256), f (ix2 i j) = g (o + i.val) j)
    (hb : ∀ (i : Fin o) (j : Fin 256), v.read (Elt Ideal) b (ix2 ⟨i.val, by omega⟩ j) = g i.val j) :
    v.read (Elt Ideal) (v.writes (Elt Ideal) b [⟨Rect.unit ![o, 0] ![n, 256] i1, f⟩]) = rowsOf R g := by
  funext y
  have hy : (y 0).val < R := (y 0).isLt
  by_cases h : o ≤ (y 0).val
  · have h' : (y 0).val < o + n := by omega
    exact (View.read_writes_apply_eq_canon v b y [(⟨Rect.unit ![o, 0] ![n, 256] i1, f⟩ : View.Piece (Elt Ideal) (⟨2, ![R, 256]⟩ : Shape) .f32)]
      ⟨_, List.mem_singleton_self _, row_mem i1 y h h'⟩).trans (canon_row g i1 f hf y h h')
  · refine (View.read_writes_cons_miss_of_axis v b (⟨Rect.unit ![o, 0] ![n, 256] i1, f⟩ : View.Piece (Elt Ideal) (⟨2, ![R, 256]⟩ : Shape) .f32) [] y
      (0 : Fin 2) o n rfl rfl rfl (Or.inl (by omega))).trans ?_
    have e : y = (ix2 (⟨(y 0).val, hy⟩ : Fin R) (y 1 : Fin 256) : (⟨2, ![R, 256]⟩ : Shape).Idx) := by
      funext a
      fin_cases a <;> rfl
    exact (congrArg _ e).trans (hb ⟨(y 0).val, by omega⟩ (y 1))

/-- Rows `o …` of the array. -/
theorem ld_rows {m : ℕ} (i : ∀ a, (![o, 0] : Fin 2 → ℕ) a + (![m, 256] : Fin 2 → ℕ) a ≤ (⟨2, ![R, 256]⟩ : Shape).size a) (r : Fin m) (j : Fin 256) :
    View.ld (Val := Elt Ideal) (e' := .f32) (rowsOf R g) (Rect.unit (s := ⟨2, ![R, 256]⟩) ![o, 0] ![m, 256] i) (ix2 r j) = g (o + r.val) j := by
  show g (o + 1 * r.val) _ = _
  rw [Nat.one_mul]
  congr 1
  ext
  show 0 + 1 * j.val = j.val
  omega

end

end Cert.Mix

end
-- ==== Proof.MixVal1.lean ====
/- Rows above a block, read back from scratch. -/
module

import all proofs.«01_k».proof.Proof.MixPay
import all proofs.«01_k».proof.Proof.MixProj
import all proofs.«01_k».proof.Proof.MixPool
import all proofs.«01_k».proof.Proof.MixBlk
import all proofs.«01_k».proof.Proof.MixRows
public import proofs.«01_k».proof.Proof.MixRows
public import Idealize.ShloMosaic.Lib.Pointwise
public import Idealize.ShloMosaic.Lib.Pipeline.ValueKit
public import Idealize.ShloMosaic.Lib.Pipeline.FrameTail
public import Idealize.ShloMosaic.Lib.Pipeline.ReadBack
public import Idealize.ShloMosaic.Lib.Writes
public import Idealize.ShloMosaic.Lib.LayoutAt

@[expose] public section

set_option maxRecDepth 16384

noncomputable section

namespace Cert.Mix
open Idealize.ShloMosaic Idealize.ShloMosaic.TcCoe Idealize.SL.Sem
open Cert.Kernel2Ideal Cert.Kernel2Ideal.Gen

section

variable {R o n p k : ℕ} (g : ℕ → Fin 256 → EReal) {κ : Kind} {sp : Space} (v : View sig κ sp (⟨2, ![R, 256]⟩ : Shape) .f32)
    (i1 : ∀ a, (![o, 0] : Fin 2 → ℕ) a + (![n, 256] : Fin 2 → ℕ) a ≤ (⟨2, ![R, 256]⟩ : Shape).size a)
    (f : FVec Ideal (⟨2, ![n, 256]⟩ : Shape) .f32)
    (i : ∀ a, (![p, 0] : Fin 2 → ℕ) a + (![k, 256] : Fin 2 → ℕ) a ≤ (⟨2, ![R, 256]⟩ : Shape).size a)

/-- Rows read back from two stores of whole rows. -/
theorem cov_two (hR : R = o + n)
    (i0 : ∀ a, (![0, 0] : Fin 2 → ℕ) a + (![o, 256] : Fin 2 → ℕ) a ≤ (⟨2, ![R, 256]⟩ : Shape).size a)
    (z : FVec Ideal (⟨2, ![o, 256]⟩ : Shape) .f32)
    (hf : ∀ (i : Fin n) (j : Fin 256), f (ix2 i j) = g (o + i.val) j)
    (hz : ∀ (i : Fin o) (j : Fin 256), z (ix2 i j) = g i.val j) (r : Fin k) (j : Fin 256) :
    v.readCov (Val := Elt Ideal) [⟨Rect.unit ![o, 0] ![n, 256] i1, f⟩, ⟨Rect.unit ![0, 0] ![o, 256] i0, z⟩]
      (Rect.unit (s := ⟨2, ![R, 256]⟩) ![p, 0] ![k, 256] i).toLoadRect (ix2 r j) = g (p + r.val) j := by
  rw [View.readCov_eq_canon', canon_rows g i1 f hR i0 z hf hz]
  exact ld_rows g i r j

/-- Rows read back from inside the newest store. -/
theorem cov_in (L : List (View.Piece (Elt Ideal) (⟨2, ![R, 256]⟩ : Shape) .f32)) (ho : o ≤ p) (hn : p + k ≤ o + n) (r : Fin k) (j : Fin 256) :
    v.readCov (Val := Elt Ideal) (⟨Rect.unit ![o, 0] ![n, 256] i1, f⟩ :: L) (Rect.unit (s := ⟨2, ![R, 256]⟩) ![p, 0] ![k, 256] i).toLoadRect (ix2 r j)
      = f (ix2 ⟨p - o + r.val, by omega⟩ j) := by
  rw [View.readCov_eq_canon']
  have e : (Rect.unit (s := ⟨2, ![R, 256]⟩) ![p, 0] ![k, 256] i).toLoadRect.idx (ix2 r j)
      = (Rect.unit (s := ⟨2, ![R, 256]⟩) ![o, 0] ![n, 256] i1).emb (ix2 (⟨p - o + r.val, by omega⟩ : Fin n) j) := by
    funext a
    fin_cases a
    · ext
      show p + 1 * r.val = o + 1 * (p - o + r.val)
      omega
    · rfl
  exact (congrArg _ e).trans (View.canon_cons_emb (Val := Elt Ideal) (e := .f32) (Rect.unit (s := ⟨2, ![R, 256]⟩) ![o, 0] ![n, 256] i1) f L _)

/-- Rows of the newest store. -/
theorem canon_top (L : List (View.Piece (Elt Ideal) (⟨2, ![R, 256]⟩ : Shape) .f32)) (r : Fin n) (h : o + r.val < R) (j : Fin 256) :
    View.canon (Val := Elt Ideal) (⟨Rect.unit ![o, 0] ![n, 256] i1, f⟩ :: L) (ix2 (⟨o + r.val, h⟩ : Fin R) j) = f (ix2 r j) := by
  have e : (ix2 (⟨o + r.val, h⟩ : Fin R) j : (⟨2, ![R, 256]⟩ : Shape).Idx)
      = (Rect.unit (s := ⟨2, ![R, 256]⟩) ![o, 0] ![n, 256] i1).emb (ix2 r j) := by
    funext a
    fin_cases a
    · ext
      show o + r.val = o + 1 * r.val
      omega
    · ext
      show j.val = 0 + 1 * j.val
      omega
  exact (congrArg _ e).trans (View.canon_cons_emb (Val := Elt Ideal) (e := .f32) (Rect.unit (s := ⟨2, ![R, 256]⟩) ![o, 0] ![n, 256] i1) f L _)

/-- Rows read back from a store over carried rows. -/
theorem ld_over (b : v.ty.Contents (Elt Ideal)) (hR : R = o + n)
    (hf : ∀ (i : Fin n) (j : Fin 256), f (ix2 i j) = g (o + i.val) j)
    (hb : ∀ (i : Fin o) (j : Fin 256), v.read (Elt Ideal) b (ix2 ⟨i.val, by omega⟩ j) = g i.val j) (r : Fin k) (j : Fin 256) :
    View.ld (Val := Elt Ideal) (e' := .f32) (v.read (Elt Ideal) (v.writes (Elt Ideal) b [⟨Rect.unit ![o, 0] ![n, 256] i1, f⟩]))
      (Rect.unit (s := ⟨2, ![R, 256]⟩) ![p, 0] ![k, 256] i) (ix2 r j) = g (p + r.val) j := by
  rw [read_rows g i1 f v b hR hf hb]
  exact ld_rows g i r j

end

variable (A : Layer) (s : ℕ)

/-- The rows before a block and the block's own, of the convolution's input. -/
def convRow (e : ℕ) (j : Fin 256) : EReal := padded (A.xa · j) 8 (s * 256 + e)

/-- The same for the pool's input. -/
def poolRow (e : ℕ) (j : Fin 256) : EReal := padded (A.xp · j) 24 (s * 256 + e)

/-- The convolution's four shifted blocks. -/
structure Taps (x3 x2 x1 x0 : FVec Ideal S256x256 .f32) : Prop where
  h3 : ∀ r j : Fin 256, x3 (ix2 r j) = convRow A s (5 + r.val) j
  h2 : ∀ r j : Fin 256, x2 (ix2 r j) = convRow A s (6 + r.val) j
  h1 : ∀ r j : Fin 256, x1 (ix2 r j) = convRow A s (7 + r.val) j
  h0 : ∀ r j : Fin 256, x0 (ix2 r j) = convRow A s (8 + r.val) j

/-- The recurrence's weights. -/
structure Gates (cb w0 w1 w2 w3 : FVec Ideal S1x256 .f32) (wg : FVec Ideal S256x512 .bf16) (bg : FVec Ideal S1x512 .f32)
    (l : FVec Ideal S1x256 .f32) : Prop where
  cb : ∀ j : Fin 256, cb (ix2 0 j) = A.cb j
  w0 : ∀ j : Fin 256, w0 (ix2 0 j) = A.cw 0 j
  w1 : ∀ j : Fin 256, w1 (ix2 0 j) = A.cw 1 j
  w2 : ∀ j : Fin 256, w2 (ix2 0 j) = A.cw 2 j
  w3 : ∀ j : Fin 256, w3 (ix2 0 j) = A.cw 3 j
  wa : ∀ k j : Fin 256, wg (ix2 k ⟨j.val, by omega⟩) = if head k = head j then A.wa (head k) (lane k) (lane j) else (0 : EReal)
  wx : ∀ k j : Fin 256, wg (ix2 k ⟨256 + j.val, by omega⟩) = if head k = head j then A.wx (head k) (lane k) (lane j) else (0 : EReal)
  ba : ∀ j : Fin 256, bg (ix2 0 ⟨j.val, by omega⟩) = A.ba j
  bx : ∀ j : Fin 256, bg (ix2 0 ⟨256 + j.val, by omega⟩) = A.bx j
  lam : ∀ j : Fin 256, l (ix2 0 j) = A.lam j

section

variable {A s} {cb w0 w1 w2 w3 l : FVec Ideal S1x256 .f32} {x3 x2 x1 x0 : FVec Ideal S256x256 .f32} {wg : FVec Ideal S256x512 .bf16}
  {bg : FVec Ideal S1x512 .f32} (T : Taps A s x3 x2 x1 x0) (G : Gates A cb w0 w1 w2 w3 wg bg l)

include T G

theorem xc_blk (r j : Fin 256) :
    k0_pay34 (F := Ideal) (k0_pay32 cb x3 w0 x2 w1) (k0_pay33 x1 w2) x0 w3 (ix2 r j) = A.xc (s * 256 + r.val) j := by
  have e : ∀ d, d ≤ 8 → back (A.xa · j) (s * 256 + r.val) d = convRow A s (8 + r.val - d) j := fun d hd => by
    rw [back_padded _ 8 _ _ hd, convRow]
    congr 1
    omega
  rw [conv_at, G.cb, G.w0, G.w1, G.w2, G.w3, T.h3, T.h2, T.h1, T.h0, Layer.xc, e 3 (by decide), e 2 (by decide), e 1 (by decide), e 0 (by decide)]
  rw [show 8 + r.val - 3 = 5 + r.val by omega, show 8 + r.val - 2 = 6 + r.val by omega, show 8 + r.val - 1 = 7 + r.val by omega, Nat.sub_zero]

theorem gate_a_blk (r j : Fin 256) :
    k0_pay38 (F := Ideal) (k0_pay32 cb x3 w0 x2 w1) (k0_pay33 x1 w2) x0 w3 wg bg (ix2 r j)
      = Ideal.logistic (A.pre A.wa A.ba (s * 256 + r.val) j) := by
  rw [gate_a, Layer.pre, ← sum_block (fun k => A.xc (s * 256 + r.val) k), G.ba]
  refine congrArg (fun q => Ideal.logistic (q + A.ba j)) (Finset.sum_congr rfl fun k _ => ?_)
  rw [xc_blk T G, G.wa]

theorem gate_x_blk (r j : Fin 256) :
    k0_pay39 (F := Ideal) (k0_pay32 cb x3 w0 x2 w1) (k0_pay33 x1 w2) x0 w3 wg bg (ix2 r j)
      = Ideal.logistic (A.pre A.wx A.bx (s * 256 + r.val) j) := by
  rw [gate_x, Layer.pre, ← sum_block (fun k => A.xc (s * 256 + r.val) k), G.bx]
  refine congrArg (fun q => Ideal.logistic (q + A.bx j)) (Finset.sum_congr rfl fun k _ => ?_)
  rw [xc_blk T G, G.wx]

theorem la_blk (r j : Fin 256) :
    k0_pay43 (F := Ideal) (k0_pay38 (k0_pay32 cb x3 w0 x2 w1) (k0_pay33 x1 w2) x0 w3 wg bg) (k0_pay41 l) (k0_pay42 l) (ix2 r j)
      = A.la (s * 256 + r.val) j := by
  rw [la_at, gate_a_blk T G, G.lam, Layer.la]

theorem st_blk (hp : FVec Ideal S1x256 .f32) (hh : ∀ j : Fin 256, hp (ix2 0 j) = A.st (s * 256) j) (r j : Fin 256) :
    k0_pay55 (F := Ideal) rows
      (k0_pay51 rows (k0_pay46 (k0_pay34 (k0_pay32 cb x3 w0 x2 w1) (k0_pay33 x1 w2) x0 w3)
        (k0_pay38 (k0_pay32 cb x3 w0 x2 w1) (k0_pay33 x1 w2) x0 w3 wg bg)
        (k0_pay39 (k0_pay32 cb x3 w0 x2 w1) (k0_pay33 x1 w2) x0 w3 wg bg) (k0_pay41 l) (k0_pay42 l))
        (k0_pay47 (k0_pay38 (k0_pay32 cb x3 w0 x2 w1) (k0_pay33 x1 w2) x0 w3 wg bg) (k0_pay41 l) (k0_pay42 l)) k0_pay48)
      (k0_pay52 rows (k0_pay47 (k0_pay38 (k0_pay32 cb x3 w0 x2 w1) (k0_pay33 x1 w2) x0 w3 wg bg) (k0_pay41 l) (k0_pay42 l)) k0_pay48)
      (k0_pay53 rows)
      (k0_pay54 rows (k0_pay47 (k0_pay38 (k0_pay32 cb x3 w0 x2 w1) (k0_pay33 x1 w2) x0 w3 wg bg) (k0_pay41 l) (k0_pay42 l)) k0_pay48)
      hp (ix2 r j) = A.st (s * 256 + (r.val + 1)) j := by
  rw [scan_block _ _ _ _ _ hp (fun q => A.dec (s * 256 + q) j) (fun q => A.inp (s * 256 + q) j) j
    (fun q => by rw [dec_at, la_blk T G, Layer.dec])
    (fun q => by rw [dec_at, la_blk T G, gate_x_blk T G, xc_blk T G, Layer.inp, Layer.dec])
    (fun q => A.dec_nonneg _ _) (fun q => A.dec_le_one _ _), hh]
  exact (state_add (A.dec · j) (A.inp · j) 0 (s * 256) (r.val + 1)).symm

end

end Cert.Mix

end
-- ==== Proof.MixVal2.lean ====
/- What a grid point leaves for the next one, and its first results. -/
module

import all proofs.«01_k».proof.Proof.MixPay
import all proofs.«01_k».proof.Proof.MixProj
import all proofs.«01_k».proof.Proof.MixPool
import all proofs.«01_k».proof.Proof.MixBlk
import all proofs.«01_k».proof.Proof.MixRows
public import proofs.«01_k».proof.Proof.MixVal1

@[expose] public section

set_option maxRecDepth 16384

noncomputable section

namespace Cert.Mix
open Idealize.ShloMosaic Idealize.ShloMosaic.TcCoe Idealize.SL.Sem
open Cert.Kernel2Ideal Cert.Kernel2Ideal.Gen
set_option maxHeartbeats 4000000
variable (m : (ℓ : Loc nD τ sig) → Buf (Elt Ideal) ℓ) (c : Dev nD) (t : Fin cfg0.N)

theorem blkNo_lt : blkNo t < 32 := Nat.mod_lt _ (by decide)

theorem is_rows : IsRows (lay m c (seq t)) (blkNo t) (iblk m c 0 t : FVec Ideal S1x256x1024 .f32) :=
  fun r k _ => blk_x m c t r k

theorem is_block : IsBlock (lay m c (seq t)) (blkNo t)
    (k0_pay6 (F := Ideal) (iblk m c 0 t : FVec Ideal S1x256x1024 .f32) (iblk m c 1 t : FVec Ideal S1024x1280 .bf16)) :=
  abc_block (blkNo_lt t) (is_rows m c t) _ fun k j => (at_abc m c t k j).trans (entry_abc m c (seq t) k j)

theorem tap_row {o : ℕ} (i : ∀ a, (![o, 0] : Fin 2 → ℕ) a + (![1, 256] : Fin 2 → ℕ) a ≤ S8x256.size a) (h : o < 4) (j : Fin 256) :
    View.ld (Val := Elt Ideal) (e' := .f32) (iblk m c 5 t : FVec Ideal S8x256 .f32) (Rect.unit (s := S8x256) ![o, 0] ![1, 256] i) (ix2 0 j)
      = (lay m c (seq t)).cw ⟨o, h⟩ j := by
  refine Eq.trans ?_ ((at_cw m c t ⟨o, by omega⟩ j).trans (entry_cw m c (seq t) ⟨o, h⟩ j))
  refine congrArg (iblk m c 5 t : FVec Ideal S8x256 .f32) (funext fun a => ?_)
  fin_cases a
  · rfl
  · ext
    show 0 + 1 * j.val = j.val
    omega

theorem gates : Gates (lay m c (seq t)) (iblk m c 6 t : FVec Ideal S1x256 .f32)
    (View.ld (iblk m c 5 t) (Rect.unit ![0, 0] ![1, 256] inb_S8x256_S1x256_0_0))
    (View.ld (iblk m c 5 t) (Rect.unit ![1, 0] ![1, 256] inb_S8x256_S1x256_1_0))
    (View.ld (iblk m c 5 t) (Rect.unit ![2, 0] ![1, 256] inb_S8x256_S1x256_2_0))
    (View.ld (iblk m c 5 t) (Rect.unit ![3, 0] ![1, 256] inb_S8x256_S1x256_3_0))
    (iblk m c 7 t : FVec Ideal S256x512 .bf16) (iblk m c 8 t : FVec Ideal S1x512 .f32) (iblk m c 9 t : FVec Ideal S1x256 .f32) where
  cb j := (at_cb m c t 0 j).trans (entry_cb m c (seq t) j)
  w0 j := tap_row m c t inb_S8x256_S1x256_0_0 (by decide) j
  w1 j := tap_row m c t inb_S8x256_S1x256_1_0 (by decide) j
  w2 j := tap_row m c t inb_S8x256_S1x256_2_0 (by decide) j
  w3 j := tap_row m c t inb_S8x256_S1x256_3_0 (by decide) j
  wa k j := (at_gate m c t k _).trans (entry_gate_a m c (seq t) k j)
  wx k j := (at_gate m c t k _).trans (entry_gate_x m c (seq t) k j)
  ba j := (at_bias m c t 0 _).trans (entry_bias_a m c (seq t) j)
  bx j := (at_bias m c t 0 _).trans (entry_bias_x m c (seq t) j)
  lam j := (at_lam m c t 0 j).trans (entry_lam m c (seq t) j)

/-- The block's rows of the convolution's input. -/
theorem xa_rows (i : Fin 256) (j : Fin 256) :
    k0_pay31 (F := Ideal) (k0_pay6 (iblk m c 0 t : FVec Ideal S1x256x1024 .f32) (iblk m c 1 t : FVec Ideal S1024x1280 .bf16)) (ix2 i j)
      = convRow (lay m c (seq t)) (blkNo t) (8 + i.val) j := by
  rw [convRow, show blkNo t * 256 + (8 + i.val) = 8 + (blkNo t * 256 + i.val) by omega, padded_row]
  have h := is_block m c t i ⟨j.val, by omega⟩
  generalize k0_pay6 (F := Ideal) (iblk m c 0 t : FVec Ideal S1x256x1024 .f32) (iblk m c 1 t : FVec Ideal S1024x1280 .bf16) = v8 at h ⊢
  refine Eq.trans ?_ h
  pointwise [k0_pay31]

/-- The block's rows of the pool's input. -/
theorem xp_rows (i : Fin 256) (j : Fin 256) :
    k0_pay74 (F := Ideal) (k0_pay6 (iblk m c 0 t : FVec Ideal S1x256x1024 .f32) (iblk m c 1 t : FVec Ideal S1024x1280 .bf16)) (ix2 i j)
      = poolRow (lay m c (seq t)) (blkNo t) (24 + i.val) j := by
  rw [poolRow, show blkNo t * 256 + (24 + i.val) = 24 + (blkNo t * 256 + i.val) by omega, padded_row]
  have h := is_block m c t i ⟨1024 + j.val, by omega⟩
  generalize k0_pay6 (F := Ideal) (iblk m c 0 t : FVec Ideal S1x256x1024 .f32) (iblk m c 1 t : FVec Ideal S1024x1280 .bf16) = v8 at h ⊢
  refine Eq.trans ?_ h
  pointwise [k0_pay74, k0_pay73]

theorem zero_rows8 (h : t.val % 32 = 0) (i : Fin 8) (j : Fin 256) :
    k0_pay2 (F := Ideal) (iblk m c 16 t : FVec Ideal S1x8x256 .f32) (ix2 i j) = convRow (lay m c (seq t)) (blkNo t) i.val j := by
  rw [convRow, padded_zero _ (by unfold blkNo; omega)]
  have h := (at_conv0 m c t i j).trans (entry_conv0 m c (seq t) i j)
  generalize (iblk m c 16 t : FVec Ideal S1x8x256 .f32) = x at h ⊢
  refine Eq.trans ?_ h
  pointwise [k0_pay2]

theorem zero_rows24 (h : t.val % 32 = 0) (i : Fin 24) (j : Fin 256) :
    k0_pay3 (F := Ideal) (iblk m c 17 t : FVec Ideal S1x24x256 .f32) (ix2 i j) = poolRow (lay m c (seq t)) (blkNo t) i.val j := by
  rw [poolRow, padded_zero _ (by unfold blkNo; omega)]
  have h := (at_pool0 m c t i j).trans (entry_pool0 m c (seq t) i j)
  generalize (iblk m c 17 t : FVec Ideal S1x24x256 .f32) = x at h ⊢
  refine Eq.trans ?_ h
  pointwise [k0_pay3]

theorem zero_state (h : t.val % 32 = 0) (j : Fin 256) :
    k0_pay4 (F := Ideal) (iblk m c 18 t : FVec Ideal S1x1x256 .f32) (ix2 0 j) = (lay m c (seq t)).st (blkNo t * 256) j := by
  rw [show blkNo t * 256 = 0 by unfold blkNo; omega]
  have h := (at_h0 m c t j).trans (entry_h0 m c (seq t) j)
  generalize (iblk m c 18 t : FVec Ideal S1x1x256 .f32) = x at h ⊢
  refine Eq.trans ?_ h
  pointwise [k0_pay4]

/-- The last rows of a block are the rows before the next. -/
theorem conv_carry (r : Fin 8) (j : Fin 256) :
    ((outsAt0 m c t.val t.isLt).2.2.2.2.2.2.2.2.2.2.2.2.1 : FVec Ideal S264x256 .f32) (ix2 ⟨r.val, by omega⟩ j)
      = convRow (lay m c (seq t)) (blkNo t + 1) r.val j := by
  have key : ∀ x : FVec Ideal S8x256 .f32, (∀ r j, x (ix2 r j) = convRow (lay m c (seq t)) (blkNo t) (8 + (248 + r.val)) j) →
      k0_pay36 (F := Ideal) x (ix2 r j) = convRow (lay m c (seq t)) (blkNo t + 1) r.val j := fun x hx => by
    refine Eq.trans (?_ : _ = x (ix2 r j)) ((hx r j).trans ?_)
    · pointwise [k0_pay36]
    · unfold convRow
      congr 1
      omega
  have e : (⟨r.val, by omega⟩ : Fin 264) = ⟨0 + r.val, by omega⟩ := Fin.ext (Nat.zero_add _).symm
  rw [e]
  by_cases h : t.val % 32 = 0
  · rw [outsAt0_A m c t h]
    frame_out
    refine (canon_top _ _ _ r _ j).trans (key _ fun r j => (cov_in _ _ _ _ _ (by decide) (by decide) r j).trans (xa_rows m c t _ j))
  · rw [outsAt0_B m c t h]
    frame_out
    refine (canon_top _ _ _ r _ j).trans (key _ fun r j => (cov_in _ _ _ _ _ (by decide) (by decide) r j).trans (xa_rows m c t _ j))

theorem pool_carry (r : Fin 24) (j : Fin 256) :
    ((outsAt0 m c t.val t.isLt).2.2.2.2.2.2.2.2.2.2.2.2.2.1 : FVec Ideal S280x256 .f32) (ix2 ⟨r.val, by omega⟩ j)
      = poolRow (lay m c (seq t)) (blkNo t + 1) r.val j := by
  have key : ∀ x : FVec Ideal S24x256 .f32, (∀ r j, x (ix2 r j) = poolRow (lay m c (seq t)) (blkNo t) (24 + (232 + r.val)) j) →
      k0_pay1 (F := Ideal) x (ix2 r j) = poolRow (lay m c (seq t)) (blkNo t + 1) r.val j := fun x hx => by
    refine Eq.trans (?_ : _ = x (ix2 r j)) ((hx r j).trans ?_)
    · pointwise [k0_pay1]
    · unfold poolRow
      congr 1
      omega
  have e : (⟨r.val, by omega⟩ : Fin 280) = ⟨0 + r.val, by omega⟩ := Fin.ext (Nat.zero_add _).symm
  rw [e]
  by_cases h : t.val % 32 = 0
  · rw [outsAt0_A m c t h]
    frame_out
    refine (canon_top _ _ _ r _ j).trans (key _ fun r j => (cov_in _ _ _ _ _ (by decide) (by decide) r j).trans (xp_rows m c t _ j))
  · rw [outsAt0_B m c t h]
    frame_out
    refine (canon_top _ _ _ r _ j).trans (key _ fun r j => (cov_in _ _ _ _ _ (by decide) (by decide) r j).trans (xp_rows m c t _ j))

theorem out20 (r j : Fin 256) : ((dats m 0 c).after 20 t : FVec Ideal S1x256x256 .bf16) (ix3 0 r j)
    = (lay m c (seq t)).z (blkNo t * 256 + r.val) ⟨1280 + j.val, by omega⟩ * Ideal.ofBits .f32 0x3E000000#32 := by
  have hw := fun k j => (at_qkv m c t k j).trans (entry_qkv m c (seq t) k j)
  rw [after0_20]
  by_cases h : t.val % 32 = 0
  · rw [outsAt0_A m c t h]
    frame_out
    exact q_at _ hw (blkNo_lt t) (is_rows m c t) r j
  · rw [outsAt0_B m c t h]
    frame_out
    exact q_at _ hw (blkNo_lt t) (is_rows m c t) r j

theorem out21 (r j : Fin 256) : ((dats m 0 c).after 21 t : FVec Ideal S1x256x256 .f32) (ix3 0 r j)
    = (lay m c (seq t)).z (blkNo t * 256 + r.val) ⟨1536 + j.val, by omega⟩ := by
  have hw := fun k j => (at_qkv m c t k j).trans (entry_qkv m c (seq t) k j)
  rw [after0_21]
  by_cases h : t.val % 32 = 0
  · rw [outsAt0_A m c t h]
    frame_out
    exact k_at _ hw (blkNo_lt t) (is_rows m c t) r j
  · rw [outsAt0_B m c t h]
    frame_out
    exact k_at _ hw (blkNo_lt t) (is_rows m c t) r j

theorem out22 (r j : Fin 256) : ((dats m 0 c).after 22 t : FVec Ideal S1x256x256 .f32) (ix3 0 r j)
    = (lay m c (seq t)).z (blkNo t * 256 + r.val) ⟨1792 + j.val, by omega⟩ := by
  have hw := fun k j => (at_qkv m c t k j).trans (entry_qkv m c (seq t) k j)
  rw [after0_22]
  by_cases h : t.val % 32 = 0
  · rw [outsAt0_A m c t h]
    frame_out
    exact v_at _ hw (blkNo_lt t) (is_rows m c t) r j
  · rw [outsAt0_B m c t h]
    frame_out
    exact v_at _ hw (blkNo_lt t) (is_rows m c t) r j

theorem out23 (r : Fin 256) (j : Fin 512) : ((dats m 0 c).after 23 t : FVec Ideal S1x256x512 .bf16) (ix3 0 r j)
    = (lay m c (seq t)).z (blkNo t * 256 + r.val) ⟨2048 + j.val, by omega⟩ := by
  have hw := fun k j => (at_idx m c t k j).trans (entry_idx m c (seq t) k j)
  rw [after0_23]
  by_cases h : t.val % 32 = 0
  · rw [outsAt0_A m c t h]
    frame_out
    exact qi_at _ hw (blkNo_lt t) (is_rows m c t) r j
  · rw [outsAt0_B m c t h]
    frame_out
    exact qi_at _ hw (blkNo_lt t) (is_rows m c t) r j

theorem out24 (r : Fin 256) (j : Fin 128) : ((dats m 0 c).after 24 t : FVec Ideal S1x256x128 .f32) (ix3 0 r j)
    = if h : j.val < 72 then (lay m c (seq t)).z (blkNo t * 256 + r.val) ⟨2560 + j.val, by omega⟩ else 0 := by
  have hw := fun k j => (at_idx m c t k j).trans (entry_idx m c (seq t) k j)
  rw [after0_24]
  by_cases h : t.val % 32 = 0
  · rw [outsAt0_A m c t h]
    frame_out
    exact kiwi_at _ hw (blkNo_lt t) (is_rows m c t) r j
  · rw [outsAt0_B m c t h]
    frame_out
    exact kiwi_at _ hw (blkNo_lt t) (is_rows m c t) r j

theorem out25 (r : Fin 8) (j : Fin 256) : ((dats m 0 c).after 25 t : FVec Ideal S1x8x256 .f32) (ix3 0 r j)
    = (lay m c (seq t)).xa (blkNo t * 256 + 248 + r.val) j := by
  have key : ∀ x : FVec Ideal S8x256 .f32, (∀ r j, x (ix2 r j) = convRow (lay m c (seq t)) (blkNo t) (8 + (248 + r.val)) j) →
      k0_pay35 (F := Ideal) x (ix3 0 r j) = (lay m c (seq t)).xa (blkNo t * 256 + 248 + r.val) j := fun x hx => by
    refine Eq.trans (?_ : _ = x (ix2 r j)) ((hx r j).trans ?_)
    · pointwise [k0_pay35]
    · rw [convRow, show blkNo t * 256 + (8 + (248 + r.val)) = 8 + (blkNo t * 256 + 248 + r.val) by omega, padded_row]
  rw [after0_25]
  by_cases h : t.val % 32 = 0
  · rw [outsAt0_A m c t h]
    frame_out
    exact key _ fun r j => (cov_in _ _ _ _ _ (by decide) (by decide) r j).trans (xa_rows m c t _ j)
  · rw [outsAt0_B m c t h]
    frame_out
    exact key _ fun r j => (cov_in _ _ _ _ _ (by decide) (by decide) r j).trans (xa_rows m c t _ j)

theorem out26 (r : Fin 24) (j : Fin 256) : ((dats m 0 c).after 26 t : FVec Ideal S1x24x256 .f32) (ix3 0 r j)
    = (lay m c (seq t)).xp (blkNo t * 256 + 232 + r.val) j := by
  have key : ∀ x : FVec Ideal S24x256 .f32, (∀ r j, x (ix2 r j) = poolRow (lay m c (seq t)) (blkNo t) (24 + (232 + r.val)) j) →
      k0_pay87 (F := Ideal) x (ix3 0 r j) = (lay m c (seq t)).xp (blkNo t * 256 + 232 + r.val) j := fun x hx => by
    refine Eq.trans (?_ : _ = x (ix2 r j)) ((hx r j).trans ?_)
    · pointwise [k0_pay87]
    · rw [poolRow, show blkNo t * 256 + (24 + (232 + r.val)) = 24 + (blkNo t * 256 + 232 + r.val) by omega, padded_row]
  rw [after0_26]
  by_cases h : t.val % 32 = 0
  · rw [outsAt0_A m c t h]
    frame_out
    exact key _ fun r j => (cov_in _ _ _ _ _ (by decide) (by decide) r j).trans (xp_rows m c t _ j)
  · rw [outsAt0_B m c t h]
    frame_out
    exact key _ fun r j => (cov_in _ _ _ _ _ (by decide) (by decide) r j).trans (xp_rows m c t _ j)

end Cert.Mix

end
-- ==== Proof.MixVal3.lean ====
/- The recurrence from block to block. -/
module

import all proofs.«01_k».proof.Proof.MixPay
import all proofs.«01_k».proof.Proof.MixProj
import all proofs.«01_k».proof.Proof.MixPool
import all proofs.«01_k».proof.Proof.MixBlk
import all proofs.«01_k».proof.Proof.MixRows
public import proofs.«01_k».proof.Proof.MixVal2

@[expose] public section

set_option maxRecDepth 16384

noncomputable section

namespace Cert.Mix
open Idealize.ShloMosaic Idealize.ShloMosaic.TcCoe Idealize.SL.Sem
open Cert.Kernel2Ideal Cert.Kernel2Ideal.Gen
set_option maxHeartbeats 1000000
variable (m : (ℓ : Loc nD τ sig) → Buf (Elt Ideal) ℓ) (c : Dev nD) (t : Fin cfg0.N)

/-- The point before. -/
def before : Fin cfg0.N := ⟨t.val - 1, (Nat.sub_le _ _).trans_lt t.isLt⟩

variable {t}

theorem seq_before (h : ¬ t.val % 32 = 0) : seq (before t) = seq t := by
  ext
  show (t.val - 1) / 32 = t.val / 32
  omega

theorem blkNo_before (h : ¬ t.val % 32 = 0) : blkNo (before t) + 1 = blkNo t := by
  show (t.val - 1) % 32 + 1 = t.val % 32
  omega

variable (t)

theorem last_row (n : IVec S256x256 32) (B A : FVec Ideal S256x256 .f32) (q : IVec S256x256 1) (C : FVec Ideal S256x256 .f32)
    (hp : FVec Ideal S1x256 .f32) (j : Fin 256) :
    k0_pay57 (F := Ideal) (k0_pay56 n B A q C hp) (ix2 0 j) = k0_pay55 (F := Ideal) n B A q C hp (ix2 ⟨255, by decide⟩ j) := by
  generalize e : k0_pay55 (F := Ideal) n B A q C hp = X
  pointwise [k0_pay57, k0_pay56, e]

theorem last_row_out (n : IVec S256x256 32) (B A : FVec Ideal S256x256 .f32) (q : IVec S256x256 1) (C : FVec Ideal S256x256 .f32)
    (hp : FVec Ideal S1x256 .f32) (j : Fin 256) :
    k0_pay58 (F := Ideal) (k0_pay56 n B A q C hp) (ix3 0 0 j) = k0_pay55 (F := Ideal) n B A q C hp (ix2 ⟨255, by decide⟩ j) := by
  generalize e : k0_pay55 (F := Ideal) n B A q C hp = X
  pointwise [k0_pay58, k0_pay56, e]

/-- The stores before the convolution's reads, at a sequence's first block. -/
abbrev convFirst : List (View.Piece (Elt Ideal) S264x256 .f32) :=
  [⟨Rect.unit ![8, 0] ![256, 256] inb_S264x256_S256x256_8_0,
    k0_pay31 (F := Ideal) (k0_pay6 (iblk m c 0 t : FVec Ideal S1x256x1024 .f32) (iblk m c 1 t : FVec Ideal S1024x1280 .bf16))⟩,
   ⟨Rect.unit ![0, 0] ![8, 256] inb_S264x256_S8x256_0_0, k0_pay2 (F := Ideal) (iblk m c 16 t : FVec Ideal S1x8x256 .f32)⟩]

theorem taps_first (h : t.val % 32 = 0) : Taps (lay m c (seq t)) (blkNo t)
    (View.readCov (Val := Elt Ideal) (s := S264x256) (e := .f32) (View.whole cc0_scratch0) (convFirst m c t) (Rect.unit (s := S264x256) ![5, 0] ![256, 256] inb_S264x256_S256x256_5_0).toLoadRect)
    (View.readCov (Val := Elt Ideal) (s := S264x256) (e := .f32) (View.whole cc0_scratch0) (convFirst m c t) (Rect.unit (s := S264x256) ![6, 0] ![256, 256] inb_S264x256_S256x256_6_0).toLoadRect)
    (View.readCov (Val := Elt Ideal) (s := S264x256) (e := .f32) (View.whole cc0_scratch0) (convFirst m c t) (Rect.unit (s := S264x256) ![7, 0] ![256, 256] inb_S264x256_S256x256_7_0).toLoadRect)
    (View.readCov (Val := Elt Ideal) (s := S264x256) (e := .f32) (View.whole cc0_scratch0) (convFirst m c t) (Rect.unit (s := S264x256) ![8, 0] ![256, 256] inb_S264x256_S256x256_8_0).toLoadRect) where
  h3 := cov_two _ _ _ _ _ rfl _ _ (xa_rows m c t) (zero_rows8 m c t h)
  h2 := cov_two _ _ _ _ _ rfl _ _ (xa_rows m c t) (zero_rows8 m c t h)
  h1 := cov_two _ _ _ _ _ rfl _ _ (xa_rows m c t) (zero_rows8 m c t h)
  h0 := cov_two _ _ _ _ _ rfl _ _ (xa_rows m c t) (zero_rows8 m c t h)

/-- The convolution's rows as a later block finds them. -/
abbrev convLater (hw : (Memref.whole cc0_scratch0).IsWhole) (hlt : t.val - 1 < cfg0.N) : S264x256.Idx → Elt Ideal .f32 :=
  View.read (Elt Ideal) (View.whole cc0_scratch0) ((View.whole cc0_scratch0).writes (Elt Ideal)
    (hw.unread (outsAt0 m c (t.val - 1) hlt).2.2.2.2.2.2.2.2.2.2.2.2.1)
    [⟨Rect.unit ![8, 0] ![256, 256] inb_S264x256_S256x256_8_0,
      k0_pay31 (F := Ideal) (k0_pay6 (iblk m c 0 t : FVec Ideal S1x256x1024 .f32) (iblk m c 1 t : FVec Ideal S1024x1280 .bf16))⟩])

theorem conv_before (h : ¬ t.val % 32 = 0) (hw : (Memref.whole cc0_scratch0).IsWhole) (hlt : t.val - 1 < cfg0.N) (r : Fin 8) (j : Fin 256) :
    View.read (Elt Ideal) (View.whole cc0_scratch0) (hw.unread (outsAt0 m c (t.val - 1) hlt).2.2.2.2.2.2.2.2.2.2.2.2.1)
      (ix2 ⟨r.val, by omega⟩ j) = convRow (lay m c (seq t)) (blkNo t) r.val j := by
  rw [read_unread_whole]
  have e := conv_carry m c (before t) r j
  rw [seq_before h, blkNo_before h] at e
  exact e

theorem taps_later (h : ¬ t.val % 32 = 0) (hw : (Memref.whole cc0_scratch0).IsWhole) (hlt : t.val - 1 < cfg0.N) :
    Taps (lay m c (seq t)) (blkNo t)
      (View.ld (convLater m c t hw hlt) (Rect.unit (s := S264x256) ![5, 0] ![256, 256] inb_S264x256_S256x256_5_0))
      (View.ld (convLater m c t hw hlt) (Rect.unit (s := S264x256) ![6, 0] ![256, 256] inb_S264x256_S256x256_6_0))
      (View.ld (convLater m c t hw hlt) (Rect.unit (s := S264x256) ![7, 0] ![256, 256] inb_S264x256_S256x256_7_0))
      (View.readCov (Val := Elt Ideal) (s := S264x256) (e := .f32) (View.whole cc0_scratch0)
        [⟨Rect.unit ![8, 0] ![256, 256] inb_S264x256_S256x256_8_0,
          k0_pay31 (F := Ideal) (k0_pay6 (iblk m c 0 t : FVec Ideal S1x256x1024 .f32) (iblk m c 1 t : FVec Ideal S1024x1280 .bf16))⟩]
        (Rect.unit (s := S264x256) ![8, 0] ![256, 256] inb_S264x256_S256x256_8_0).toLoadRect) where
  h3 := ld_over _ _ _ _ _ _ rfl (xa_rows m c t) (conv_before m c t h hw hlt)
  h2 := ld_over _ _ _ _ _ _ rfl (xa_rows m c t) (conv_before m c t h hw hlt)
  h1 := ld_over _ _ _ _ _ _ rfl (xa_rows m c t) (conv_before m c t h hw hlt)
  h0 r j := (cov_in _ _ _ _ _ (by decide) (by decide) r j).trans ((xa_rows m c t _ j).trans
    (congrArg (convRow (lay m c (seq t)) (blkNo t) · j) (by show 8 + (8 - 8 + r.val) = 8 + r.val; omega)))

/-- The state carried into a block, once the block before has left it. -/
theorem state_before (h : ¬ t.val % 32 = 0) (hw : (Memref.whole cc0_scratch5).IsWhole) (hlt : t.val - 1 < cfg0.N)
    (hc : ∀ j : Fin 256, ((outsAt0 m c (t.val - 1) hlt).2.2.2.2.2.2.2.2.2.2.2.2.2.2 : FVec Ideal S1x256 .f32) (ix2 0 j)
      = (lay m c (seq (before t))).st ((blkNo (before t) + 1) * 256) j) (j : Fin 256) :
    View.read (Elt Ideal) (View.whole cc0_scratch5) (hw.unread (outsAt0 m c (t.val - 1) hlt).2.2.2.2.2.2.2.2.2.2.2.2.2.2)
      (ix2 0 j) = (lay m c (seq t)).st (blkNo t * 256) j := by
  rw [read_unread_whole]
  have e := hc j
  rw [seq_before h, blkNo_before h] at e
  exact e

theorem state_carry : ∀ (n : ℕ) (hn : n < cfg0.N) (j : Fin 256),
    ((outsAt0 m c n hn).2.2.2.2.2.2.2.2.2.2.2.2.2.2 : FVec Ideal S1x256 .f32) (ix2 0 j)
      = (lay m c (seq ⟨n, hn⟩)).st ((blkNo ⟨n, hn⟩ + 1) * 256) j := by
  intro n
  induction n using Nat.strong_induction_on with
  | _ n ih =>
    intro hn j
    have last : ∀ s : ℕ, s * 256 + ((255 : ℕ) + 1) = (s + 1) * 256 := fun s => by omega
    by_cases h : n % 32 = 0
    · have e := outsAt0_A m c ⟨n, hn⟩ h
      simp only at e
      rw [e]
      frame_out
      refine (last_row _ _ _ _ _ _ j).trans ((st_blk (taps_first m c ⟨n, hn⟩ h) (gates m c ⟨n, hn⟩) _
        (zero_state m c ⟨n, hn⟩ h) ⟨255, by decide⟩ j).trans ?_)
      exact congrArg (Layer.st _ · j) (last _)
    · have e := outsAt0_B m c ⟨n, hn⟩ h
      simp only at e
      rw [e]
      frame_out
      refine (last_row _ _ _ _ _ _ j).trans ((st_blk (taps_later m c ⟨n, hn⟩ h _ _) (gates m c ⟨n, hn⟩) _
        (state_before m c ⟨n, hn⟩ h _ _ fun j => ih (n - 1) (by omega) _ j) ⟨255, by decide⟩ j).trans ?_)
      exact congrArg (Layer.st _ · j) (last _)

theorem out27 (j : Fin 256) : ((dats m 0 c).after 27 t : FVec Ideal S1x1x256 .f32) (ix3 0 0 j)
    = (lay m c (seq t)).st ((blkNo t + 1) * 256) j := by
  have last : ∀ s : ℕ, s * 256 + ((255 : ℕ) + 1) = (s + 1) * 256 := fun s => by omega
  rw [after0_27]
  by_cases h : t.val % 32 = 0
  · rw [outsAt0_A m c t h]
    frame_out
    refine (last_row_out _ _ _ _ _ _ j).trans ((st_blk (taps_first m c t h) (gates m c t) _
      (zero_state m c t h) ⟨255, by decide⟩ j).trans ?_)
    exact congrArg (Layer.st _ · j) (last _)
  · rw [outsAt0_B m c t h]
    frame_out
    refine (last_row_out _ _ _ _ _ _ j).trans ((st_blk (taps_later m c t h _ _) (gates m c t) _
      (state_before m c t h _ _ fun j => state_carry m c (t.val - 1) _ j) ⟨255, by decide⟩ j).trans ?_)
    exact congrArg (Layer.st _ · j) (last _)

end Cert.Mix

end
-- ==== Proof.MixVal4.lean ====
/- The window sums in scratch. -/
module

import all proofs.«01_k».proof.Proof.MixPay
import all proofs.«01_k».proof.Proof.MixProj
import all proofs.«01_k».proof.Proof.MixPool
import all proofs.«01_k».proof.Proof.MixBlk
import all proofs.«01_k».proof.Proof.MixRows
public import proofs.«01_k».proof.Proof.MixVal3

@[expose] public section

set_option maxRecDepth 16384

noncomputable section

namespace Cert.Mix
open Idealize.ShloMosaic Idealize.ShloMosaic.TcCoe Idealize.SL.Sem
open Cert.Kernel2Ideal Cert.Kernel2Ideal.Gen
set_option maxHeartbeats 1000000

/-- A row plus the row `d` above it; zero in the first eight rows. -/
def lvl (d : ℕ) (g : ℕ → Fin 256 → EReal) (e : ℕ) (j : Fin 256) : EReal := if 8 ≤ e then g e j + g (e - d) j else 0

section

variable {p k d : ℕ} (g : ℕ → Fin 256 → EReal) {κ : Kind} {sp : Space} (v : View sig κ sp S280x256 .f32)
  (i1 : ∀ a, (![8, 0] : Fin 2 → ℕ) a + (![272, 256] : Fin 2 → ℕ) a ≤ S280x256.size a)
  (i0 : ∀ a, (![0, 0] : Fin 2 → ℕ) a + (![8, 256] : Fin 2 → ℕ) a ≤ S280x256.size a)
  (i : ∀ a, (![p, 0] : Fin 2 → ℕ) a + (![k, 256] : Fin 2 → ℕ) a ≤ S280x256.size a)

theorem level_rows (hd : d ≤ 8) (f : FVec Ideal S272x256 .f32) (z : FVec Ideal S8x256 .f32) (a b : FVec Ideal S272x256 .f32)
    (hf : ∀ r j, f (ix2 r j) = a (ix2 r j) + b (ix2 r j)) (hz : ∀ r j, z (ix2 r j) = (0 : EReal))
    (ha : ∀ r j, a (ix2 r j) = g (8 + r.val) j) (hb : ∀ r j, b (ix2 r j) = g (8 - d + r.val) j) (r : Fin k) (j : Fin 256) :
    View.readCov (Val := Elt Ideal) (s := S280x256) (e := .f32) v
      [⟨Rect.unit ![8, 0] ![272, 256] i1, f⟩, ⟨Rect.unit ![0, 0] ![8, 256] i0, z⟩]
      (Rect.unit (s := S280x256) ![p, 0] ![k, 256] i).toLoadRect (ix2 r j) = lvl d g (p + r.val) j := by
  refine cov_two (lvl d g) v i1 f i rfl i0 z (fun r j => ?_) (fun r j => ?_) r j
  · rw [hf, ha, hb, lvl, if_pos (Nat.le_add_right 8 _), show 8 + r.val - d = 8 - d + r.val by omega]
  · rw [hz, lvl, if_neg (by omega)]

theorem level_one (a b : FVec Ideal S272x256 .f32)
    (ha : ∀ r j, a (ix2 r j) = g (8 + r.val) j) (hb : ∀ r j, b (ix2 r j) = g (7 + r.val) j) (r : Fin k) (j : Fin 256) :
    View.readCov (Val := Elt Ideal) (s := S280x256) (e := .f32) v
      [⟨Rect.unit ![8, 0] ![272, 256] i1, k0_pay79 (F := Ideal) a b⟩, ⟨Rect.unit ![0, 0] ![8, 256] i0, k0_pay76 (F := Ideal)⟩]
      (Rect.unit (s := S280x256) ![p, 0] ![k, 256] i).toLoadRect (ix2 r j) = lvl 1 g (p + r.val) j :=
  level_rows (d := 1) g v i1 i0 i (by decide) _ _ a b (fun r j => by pointwise [k0_pay79]) (fun r j => by pointwise [k0_pay76, k0_pay75]) ha hb r j

theorem level_two (a b : FVec Ideal S272x256 .f32)
    (ha : ∀ r j, a (ix2 r j) = g (8 + r.val) j) (hb : ∀ r j, b (ix2 r j) = g (6 + r.val) j) (r : Fin k) (j : Fin 256) :
    View.readCov (Val := Elt Ideal) (s := S280x256) (e := .f32) v
      [⟨Rect.unit ![8, 0] ![272, 256] i1, k0_pay80 (F := Ideal) a b⟩, ⟨Rect.unit ![0, 0] ![8, 256] i0, k0_pay77 (F := Ideal)⟩]
      (Rect.unit (s := S280x256) ![p, 0] ![k, 256] i).toLoadRect (ix2 r j) = lvl 2 g (p + r.val) j :=
  level_rows (d := 2) g v i1 i0 i (by decide) _ _ a b (fun r j => by pointwise [k0_pay80]) (fun r j => by pointwise [k0_pay77, k0_pay75]) ha hb r j

theorem level_three (a b : FVec Ideal S272x256 .f32)
    (ha : ∀ r j, a (ix2 r j) = g (8 + r.val) j) (hb : ∀ r j, b (ix2 r j) = g (4 + r.val) j) (r : Fin k) (j : Fin 256) :
    View.readCov (Val := Elt Ideal) (s := S280x256) (e := .f32) v
      [⟨Rect.unit ![8, 0] ![272, 256] i1, k0_pay81 (F := Ideal) a b⟩, ⟨Rect.unit ![0, 0] ![8, 256] i0, k0_pay78 (F := Ideal)⟩]
      (Rect.unit (s := S280x256) ![p, 0] ![k, 256] i).toLoadRect (ix2 r j) = lvl 4 g (p + r.val) j :=
  level_rows (d := 4) g v i1 i0 i (by decide) _ _ a b (fun r j => by pointwise [k0_pay81]) (fun r j => by pointwise [k0_pay78, k0_pay75]) ha hb r j

end

/-- The pool's third of a block, from its levels of sums. -/
theorem yc_blk (A : Layer) (s : Fin 32) (v8 : FVec Ideal S256x1280 .f32) (h : IsBlock A s.val v8) (a1 : BitVec 32) (ha1 : a1 = BitVec.ofNat 32 s.val)
    (x0 x1 w2 w4 : FVec Ideal S256x256 .f32)
    (h0 : ∀ r j, x0 (ix2 r j) = lvl 4 (lvl 2 (lvl 1 (poolRow A s.val))) (24 + r.val) j)
    (h1 : ∀ r j, x1 (ix2 r j) = lvl 4 (lvl 2 (lvl 1 (poolRow A s.val))) (16 + r.val) j)
    (h2 : ∀ r j, w2 (ix2 r j) = lvl 1 (poolRow A s.val) (24 + r.val) j)
    (h4 : ∀ r j, w4 (ix2 r j) = lvl 2 (lvl 1 (poolRow A s.val)) (24 + r.val) j)
    (pw : FVec Ideal S256x256 .bf16) (hpw : ∀ k j, pw (ix2 k j) = if head k = head j then A.pw (head k) (lane k) (lane j) else (0 : EReal))
    (ps : FVec Ideal S1x256 .f32) (hps : ∀ j, ps (ix2 0 j) = A.ps j) (r j : Fin 256) :
    k0_pay86 (F := Ideal) a1 (iota .tc S256x256 32 [0] iota_S256x256_d0_w32) (k0_pay73 v8) k0_pay82 (k0_pay83 x0 x1 w2 w4 x0) k0_pay84 k0_pay85 pw ps (ix3 0 r j)
      = A.yc (s.val * 256 + r.val) j := by
  have key := fun (r j : Fin 256) => window_sums (poolRow A s.val · j) (lvl 1 (poolRow A s.val) · j) (lvl 2 (lvl 1 (poolRow A s.val)) · j)
    (lvl 4 (lvl 2 (lvl 1 (poolRow A s.val))) · j) (fun e h _ => if_pos h) (fun e h _ => if_pos h) (fun e h _ => if_pos h) r.val r.isLt
  exact yc_at A s v8 h a1 ha1 x0 x1 w2 w4 x0
    (fun r j => (h2 r j).trans ((key r j).1.trans (win_padded A s.val r j 2 (by decide)).symm))
    (fun r j => (h4 r j).trans ((key r j).2.1.trans (win_padded A s.val r j 4 (by decide)).symm))
    (fun r j => (h0 r j).trans ((key r j).2.2.1.trans (win_padded A s.val r j 8 (by decide)).symm))
    (fun r j => by rw [h0, h1]; exact (key r j).2.2.2.trans (win_padded A s.val r j 16 (by decide)).symm) pw hpw ps hps r j

section

variable (A : Layer) (s : ℕ) {v8 : FVec Ideal S256x1280 .f32} (h : IsBlock A s v8) (g b : FVec Ideal S1x256 .f32) (hg : ∀ j, g (ix2 0 j) = A.g j)
  (hb : ∀ j, b (ix2 0 j) = A.be j) (bs : FVec Ideal S128x256 .f32) (hbs : ∀ i j, bs (ix2 i j) = A.bs (head j) i)
  (w : Fin 4 → FVec Ideal S1x128x128 .bf16)
  (hw : ∀ q i j, w q (ix3 0 i j) = A.ws q i j * (if j.val ≤ i.val then (1 : EReal) else 0))

include h hg hb hbs hw

theorem mixed_blk (n : ℕ) (r : Fin 128) (j : Fin 256) (vn : Fin 128 → EReal) (hv : ∀ i : Fin 128, vn i = A.vn (s * 256 + (n * 128 + i.val)) j) :
    bs (ix2 r j) + ∑ i : Fin 128, w (head j) (ix3 0 r i) * vn i = A.mixed (s * 256 + (n * 128 + r.val)) j := by
  have e1 : (⟨(s * 256 + (n * 128 + r.val)) % 128, Nat.mod_lt _ (by decide)⟩ : Fin 128) = r := Fin.ext (by show (s * 256 + (n * 128 + r.val)) % 128 = r.val; omega)
  unfold Layer.mixed
  rw [e1, hbs, show (s * 256 + (n * 128 + r.val)) % 128 = r.val by omega, show (s * 256 + (n * 128 + r.val)) / 128 * 128 = s * 256 + n * 128 by omega]
  refine congrArg (A.bs (head j) r + ·) (Finset.sum_congr rfl fun i _ => ?_)
  rw [hw, hv, Nat.add_assoc]

theorem yb_blk_lo (r : Fin 128) (j : Fin 256) :
    k0_pay68 (F := Ideal) (k0_pay67 (k0_pay60 v8) k0_pay64 (k0_pay65 (k0_pay61 v8) (k0_pay62 v8) (Scalar.ofBits .f32 0x3D372713#32) g b)
      (k0_pay66 bs) 0#32 (w 0) (w 1) (w 2) (w 3)) (ix3 0 r j) = A.yb (s * 256 + r.val) j := by
  rw [yb_lo _ (k0_pay63 (F := Ideal) (k0_pay61 v8) (k0_pay62 v8) (Scalar.ofBits .f32 0x3D372713#32) g b) bs w _
    (fun i j => by
      generalize e : k0_pay63 (F := Ideal) (k0_pay61 v8) (k0_pay62 v8) (Scalar.ofBits .f32 0x3D372713#32) g b = X
      pointwise [k0_pay65]
      exact congrFun e _), ub_at h,
    mixed_blk A s h g b hg hb bs hbs w hw 0 r j _ (fun i => (vn_at h g b hg hb _ j).trans (congrArg (A.vn · j) (by show s * 256 + i.val = _; omega)))]
  unfold Layer.yb
  simp only [Nat.zero_mul, Nat.zero_add]

theorem yb_blk_hi (r : Fin 128) (j : Fin 256) :
    k0_pay72 (F := Ideal) (k0_pay60 v8) (k0_pay69 (k0_pay63 (k0_pay61 v8) (k0_pay62 v8) (Scalar.ofBits .f32 0x3D372713#32) g b))
      (k0_pay70 (k0_pay63 (k0_pay61 v8) (k0_pay62 v8) (Scalar.ofBits .f32 0x3D372713#32) g b) k0_pay64 bs (w 0) (w 1) (w 2))
      (k0_pay71 k0_pay64) (w 3) (ix3 0 r j) = A.yb (s * 256 + (128 + r.val)) j := by
  rw [yb_hi, ub_at h,
    mixed_blk A s h g b hg hb bs hbs w hw 1 r j _ (fun i => (vn_at h g b hg hb _ j).trans (congrArg (A.vn · j) (by show s * 256 + (128 + i.val) = _; omega)))]
  unfold Layer.yb
  simp only [Nat.one_mul]

end

end Cert.Mix

end
-- ==== Proof.MixVal5.lean ====
/- The three mixers' lanes of a block. -/
module

import all proofs.«01_k».proof.Proof.MixPay
import all proofs.«01_k».proof.Proof.MixProj
import all proofs.«01_k».proof.Proof.MixPool
import all proofs.«01_k».proof.Proof.MixBlk
import all proofs.«01_k».proof.Proof.MixRows
public import proofs.«01_k».proof.Proof.MixVal4

@[expose] public section

set_option maxRecDepth 16384

noncomputable section

namespace Cert.Mix
open Idealize.ShloMosaic Idealize.ShloMosaic.TcCoe Idealize.SL.Sem
open Cert.Kernel2Ideal Cert.Kernel2Ideal.Gen
set_option maxHeartbeats 1000000

section

variable {N K b0 c0 n k : ℕ} (g : ℕ → ℕ → EReal)
  (i : ∀ a, (![0, b0, c0] : Fin 3 → ℕ) a + (![1, n, k] : Fin 3 → ℕ) a ≤ (⟨3, ![1, N, K]⟩ : Shape).size a)

theorem piece_grid (f : FVec Ideal (⟨3, ![1, n, k]⟩ : Shape) .bf16) (h : ∀ (r : Fin n) (j : Fin k), f (ix3 0 r j) = g (b0 + r.val) (c0 + j.val))
    (x : (⟨3, ![1, n, k]⟩ : Shape).Idx) :
    f x = (fun y : (⟨3, ![1, N, K]⟩ : Shape).Idx => g (y 1).val (y 2).val) ((Rect.unit (s := ⟨3, ![1, N, K]⟩) ![0, b0, c0] ![1, n, k] i).emb x) := by
  have e : x = (ix3 (0 : Fin 1) (x 1 : Fin n) (x 2 : Fin k) : (⟨3, ![1, n, k]⟩ : Shape).Idx) := by
    funext a
    fin_cases a
    · exact Subsingleton.elim (α := Fin 1) _ _
    · rfl
    · rfl
  refine (congrArg f e).trans ((h (x 1) (x 2)).trans ?_)
  show g (b0 + (x 1).val) (c0 + (x 2).val) = g (b0 + 1 * (x 1).val) (c0 + 1 * (x 2).val)
  rw [Nat.one_mul, Nat.one_mul]

theorem mem_grid (y : (⟨3, ![1, N, K]⟩ : Shape).Idx) (h1 : b0 ≤ (y 1).val) (h1' : (y 1).val < b0 + n) (h2 : c0 ≤ (y 2).val) (h2' : (y 2).val < c0 + k) :
    y ∈ (Rect.unit (s := ⟨3, ![1, N, K]⟩) ![0, b0, c0] ![1, n, k] i).set := by
  rw [Rect.mem_set_unit]
  intro a
  have h0 : (y 0).val < 1 := (y 0).isLt
  fin_cases a
  · exact ⟨Nat.zero_le _, by show (y 0).val < 0 + 1; omega⟩
  · exact ⟨h1, h1'⟩
  · exact ⟨h2, h2'⟩

end

section

variable {M N K a0 b0 n : ℕ} (g : ℕ → ℕ → Fin K → EReal)
  (i : ∀ a, (![0, a0, b0, 0] : Fin 4 → ℕ) a + (![1, 1, n, K] : Fin 4 → ℕ) a ≤ (⟨4, ![1, M, N, K]⟩ : Shape).size a)

theorem piece_chunk (f : FVec Ideal (⟨4, ![1, 1, n, K]⟩ : Shape) .bf16) (h : ∀ (r : Fin n) (j : Fin K), f (ix4 0 0 r j) = g a0 (b0 + r.val) j)
    (x : (⟨4, ![1, 1, n, K]⟩ : Shape).Idx) :
    f x = (fun y : (⟨4, ![1, M, N, K]⟩ : Shape).Idx => g (y 1).val (y 2).val (y 3))
      ((Rect.unit (s := ⟨4, ![1, M, N, K]⟩) ![0, a0, b0, 0] ![1, 1, n, K] i).emb x) := by
  have e : x = (ix4 (0 : Fin 1) (0 : Fin 1) (x 2 : Fin n) (x 3 : Fin K) : (⟨4, ![1, 1, n, K]⟩ : Shape).Idx) := by
    funext a
    fin_cases a
    · exact Subsingleton.elim (α := Fin 1) _ _
    · exact Subsingleton.elim (α := Fin 1) _ _
    · rfl
    · rfl
  refine (congrArg f e).trans ((h (x 2) (x 3)).trans ?_)
  have h1 : (x 1).val < 1 := (x 1).isLt
  have e1 : a0 = a0 + 1 * (x 1).val := by omega
  have e2 : b0 + (x 2).val = b0 + 1 * (x 2).val := by omega
  have e3 : (x 3 : Fin K) = ⟨0 + 1 * (x 3).val, by rw [Nat.zero_add, Nat.one_mul]; exact (x 3).isLt⟩ :=
    Fin.ext (by show (x 3).val = 0 + 1 * (x 3).val; omega)
  exact (congrArg (g a0 (b0 + (x 2).val)) e3).trans (congrArg₂ (fun a b => g a b _) e1 e2)

theorem mem_chunk (y : (⟨4, ![1, M, N, K]⟩ : Shape).Idx) (h1 : (y 1).val = a0) (h2 : b0 ≤ (y 2).val) (h2' : (y 2).val < b0 + n) :
    y ∈ (Rect.unit (s := ⟨4, ![1, M, N, K]⟩) ![0, a0, b0, 0] ![1, 1, n, K] i).set := by
  rw [Rect.mem_set_unit]
  intro a
  have h0 : (y 0).val < 1 := (y 0).isLt
  fin_cases a
  · exact ⟨Nat.zero_le _, by show (y 0).val < 0 + 1; omega⟩
  · exact ⟨le_of_eq h1.symm, by show (y 1).val < a0 + 1; omega⟩
  · exact ⟨h2, h2'⟩
  · exact ⟨Nat.zero_le _, by show (y 3).val < 0 + K; rw [Nat.zero_add]; exact (y 3).isLt⟩

end

theorem mixers_a (A : Layer) (t : ℕ) (j : Fin 256) : A.mixers t (0 + j.val) = A.ya t j := by
  rw [Nat.zero_add, Layer.mixers, dif_pos j.isLt]

theorem mixers_b (A : Layer) (t : ℕ) (j : Fin 256) : A.mixers t (256 + j.val) = A.yb t j := by
  rw [Layer.mixers, dif_neg (by omega), dif_pos (by omega)]
  exact congrArg (A.yb t) (Fin.ext (by show 256 + j.val - 256 = j.val; omega))

theorem mixers_c (A : Layer) (t : ℕ) (j : Fin 256) : A.mixers t (512 + j.val) = A.yc t j := by
  rw [Layer.mixers, dif_neg (by omega), dif_neg (by omega), dif_pos (by omega)]
  exact congrArg (A.yc t) (Fin.ext (by show 512 + j.val - 512 = j.val; omega))

section

variable (A : Layer) (s : Fin 32) (P8 P7 : FVec Ideal S272x256 .f32)

/-- The pool's rows and their sums by pairs, as stored. -/
abbrev pairs : List (View.Piece (Elt Ideal) S280x256 .f32) :=
  [⟨Rect.unit (s := S280x256) ![8, 0] ![272, 256] inb_S280x256_S272x256_8_0, k0_pay79 (F := Ideal) P8 P7⟩,
    ⟨Rect.unit (s := S280x256) ![0, 0] ![8, 256] inb_S280x256_S8x256_0_0, k0_pay76 (F := Ideal)⟩]

/-- The sums by fours, as stored. -/
abbrev fours : List (View.Piece (Elt Ideal) S280x256 .f32) :=
  [⟨Rect.unit (s := S280x256) ![8, 0] ![272, 256] inb_S280x256_S272x256_8_0, k0_pay80 (F := Ideal)
      (View.readCov (Val := Elt Ideal) (s := S280x256) (e := .f32) (View.whole cc0_scratch2) (pairs P8 P7) (Rect.unit (s := S280x256) ![8, 0] ![272, 256] inb_S280x256_S272x256_8_0).toLoadRect)
      (View.readCov (Val := Elt Ideal) (s := S280x256) (e := .f32) (View.whole cc0_scratch2) (pairs P8 P7) (Rect.unit (s := S280x256) ![6, 0] ![272, 256] inb_S280x256_S272x256_6_0).toLoadRect)⟩,
    ⟨Rect.unit (s := S280x256) ![0, 0] ![8, 256] inb_S280x256_S8x256_0_0, k0_pay77 (F := Ideal)⟩]

/-- The sums by eights, as stored. -/
abbrev eights : List (View.Piece (Elt Ideal) S280x256 .f32) :=
  [⟨Rect.unit (s := S280x256) ![8, 0] ![272, 256] inb_S280x256_S272x256_8_0, k0_pay81 (F := Ideal)
      (View.readCov (Val := Elt Ideal) (s := S280x256) (e := .f32) (View.whole cc0_scratch3) (fours P8 P7) (Rect.unit (s := S280x256) ![8, 0] ![272, 256] inb_S280x256_S272x256_8_0).toLoadRect)
      (View.readCov (Val := Elt Ideal) (s := S280x256) (e := .f32) (View.whole cc0_scratch3) (fours P8 P7) (Rect.unit (s := S280x256) ![4, 0] ![272, 256] inb_S280x256_S272x256_4_0).toLoadRect)⟩,
    ⟨Rect.unit (s := S280x256) ![0, 0] ![8, 256] inb_S280x256_S8x256_0_0, k0_pay78 (F := Ideal)⟩]

variable (h8 : ∀ r j, P8 (ix2 r j) = poolRow A s.val (8 + r.val) j) (h7 : ∀ r j, P7 (ix2 r j) = poolRow A s.val (7 + r.val) j)

section

variable {p k : ℕ} (i : ∀ a, (![p, 0] : Fin 2 → ℕ) a + (![k, 256] : Fin 2 → ℕ) a ≤ S280x256.size a) (r : Fin k) (j : Fin 256)

include h8 h7

theorem pairs_row : View.readCov (Val := Elt Ideal) (s := S280x256) (e := .f32) (View.whole cc0_scratch2) (pairs P8 P7)
    (Rect.unit (s := S280x256) ![p, 0] ![k, 256] i).toLoadRect (ix2 r j) = lvl 1 (poolRow A s.val) (p + r.val) j :=
  level_one (poolRow A s.val) _ _ _ i _ _ h8 h7 r j

theorem fours_row : View.readCov (Val := Elt Ideal) (s := S280x256) (e := .f32) (View.whole cc0_scratch3) (fours P8 P7)
    (Rect.unit (s := S280x256) ![p, 0] ![k, 256] i).toLoadRect (ix2 r j) = lvl 2 (lvl 1 (poolRow A s.val)) (p + r.val) j :=
  level_two (lvl 1 (poolRow A s.val)) _ _ _ i _ _ (pairs_row A s P8 P7 h8 h7 _) (pairs_row A s P8 P7 h8 h7 _) r j

theorem eights_row : View.readCov (Val := Elt Ideal) (s := S280x256) (e := .f32) (View.whole cc0_scratch4) (eights P8 P7)
    (Rect.unit (s := S280x256) ![p, 0] ![k, 256] i).toLoadRect (ix2 r j) = lvl 4 (lvl 2 (lvl 1 (poolRow A s.val))) (p + r.val) j :=
  level_three (lvl 2 (lvl 1 (poolRow A s.val))) _ _ _ i _ _ (fours_row A s P8 P7 h8 h7 _) (fours_row A s P8 P7 h8 h7 _) r j

end

/-- The whole first result of a block, from its four stores. -/
theorem mixers_blk (f3 : FVec Ideal S1x256x256 .bf16) (f2 f1 : FVec Ideal S1x128x256 .bf16) (f0 : FVec Ideal S1x256x256 .bf16)
    (h3 : ∀ r j, f3 (ix3 0 r j) = A.yc (s.val * 256 + r.val) j)
    (h2 : ∀ r j, f2 (ix3 0 r j) = A.yb (s.val * 256 + (128 + r.val)) j)
    (h1 : ∀ r j, f1 (ix3 0 r j) = A.yb (s.val * 256 + r.val) j)
    (h0 : ∀ r j, f0 (ix3 0 r j) = A.ya (s.val * 256 + r.val) j) (r : Fin 256) (j : Fin 768) :
    View.canon (Val := Elt Ideal) (s := S1x256x768) (e := .bf16)
      [⟨Rect.unit (s := S1x256x768) ![0, 0, 512] ![1, 256, 256] inb_S1x256x768_S1x256x256_0_0_512, f3⟩,
        ⟨Rect.unit (s := S1x256x768) ![0, 128, 256] ![1, 128, 256] inb_S1x256x768_S1x128x256_0_128_256, f2⟩,
        ⟨Rect.unit (s := S1x256x768) ![0, 0, 256] ![1, 128, 256] inb_S1x256x768_S1x128x256_0_0_256, f1⟩,
        ⟨Rect.unit (s := S1x256x768) ![0, 0, 0] ![1, 256, 256] inb_S1x256x768_S1x256x256_0_0_0, f0⟩] (ix3 0 r j)
      = A.mixers (s.val * 256 + r.val) j.val := by
  refine View.canon_apply_of_pieces (Val := Elt Ideal) (e := .bf16) (S := S1x256x768)
    (fun y => A.mixers (s.val * 256 + (y 1).val) (y 2).val) _ ?_ (ix3 0 r j) ?_
  · refine List.forall_mem_cons.2 ⟨?_, List.forall_mem_cons.2 ⟨?_, List.forall_mem_cons.2 ⟨?_, List.forall_mem_singleton.2 ?_⟩⟩⟩
    · exact piece_grid (fun a b => A.mixers (s.val * 256 + a) b) inb_S1x256x768_S1x256x256_0_0_512 f3
        fun r j => by rw [mixers_c, Nat.zero_add]; exact h3 r j
    · exact piece_grid (fun a b => A.mixers (s.val * 256 + a) b) inb_S1x256x768_S1x128x256_0_128_256 f2
        fun r j => by rw [mixers_b]; exact h2 r j
    · exact piece_grid (fun a b => A.mixers (s.val * 256 + a) b) inb_S1x256x768_S1x128x256_0_0_256 f1
        fun r j => by rw [mixers_b, Nat.zero_add]; exact h1 r j
    · exact piece_grid (fun a b => A.mixers (s.val * 256 + a) b) inb_S1x256x768_S1x256x256_0_0_0 f0
        fun r j => by rw [mixers_a, Nat.zero_add]; exact h0 r j
  · have hr := r.isLt
    have hj := j.isLt
    by_cases c : 512 ≤ j.val
    · exact ⟨_, List.mem_cons_self, mem_grid inb_S1x256x768_S1x256x256_0_0_512 _ (Nat.zero_le _) (by show r.val < 0 + 256; omega) c
        (by show j.val < 512 + 256; omega)⟩
    by_cases c' : j.val < 256
    · exact ⟨_, List.mem_cons_of_mem _ (List.mem_cons_of_mem _ (List.mem_cons_of_mem _ List.mem_cons_self)),
        mem_grid inb_S1x256x768_S1x256x256_0_0_0 _ (Nat.zero_le _) (by show r.val < 0 + 256; omega) (Nat.zero_le _) (by show j.val < 0 + 256; omega)⟩
    by_cases cr : 128 ≤ r.val
    · exact ⟨_, List.mem_cons_of_mem _ List.mem_cons_self, mem_grid inb_S1x256x768_S1x128x256_0_128_256 _ cr
        (by show r.val < 128 + 128; omega) (by show 256 ≤ j.val; omega) (by show j.val < 256 + 256; omega)⟩
    · exact ⟨_, List.mem_cons_of_mem _ (List.mem_cons_of_mem _ List.mem_cons_self), mem_grid inb_S1x256x768_S1x128x256_0_0_256 _ (Nat.zero_le _)
        (by show r.val < 0 + 128; omega) (by show 256 ≤ j.val; omega) (by show j.val < 256 + 256; omega)⟩

end

variable (m : (ℓ : Loc nD τ sig) → Buf (Elt Ideal) ℓ) (c : Dev nD) (t : Fin cfg0.N)

theorem coord_one : ∀ t : Fin cfg0.N, BitVec.ofNat 32 (grid0.coords t 1).val = BitVec.ofNat 32 (t.val % 32) :=
  (by decide +kernel : ∀ t : Fin grid0.N, _)

theorem chunk_weights {o : ℕ} (i : ∀ a, (![o, 0, 0] : Fin 3 → ℕ) a + (![1, 128, 128] : Fin 3 → ℕ) a ≤ S4x128x128.size a) (h : o < 4) (r j : Fin 128) :
    View.ld (Val := Elt Ideal) (e' := .bf16) (iblk m c 12 t : FVec Ideal S4x128x128 .bf16) (Rect.unit (s := S4x128x128) ![o, 0, 0] ![1, 128, 128] i) (ix3 0 r j)
      = (lay m c (seq t)).ws ⟨o, h⟩ r j * (if j.val ≤ r.val then (1 : EReal) else 0) := by
  refine Eq.trans ?_ ((at_ws m c t ⟨o, h⟩ r j).trans (entry_ws m c (seq t) ⟨o, h⟩ r j))
  refine congrArg (iblk m c 12 t : FVec Ideal S4x128x128 .bf16) (funext fun a => ?_)
  fin_cases a
  · rfl
  · ext
    show 0 + 1 * r.val = r.val
    omega
  · ext
    show 0 + 1 * j.val = j.val
    omega

/-- The four heads' weights over a chunk. -/
abbrev headWeights (q : Fin 4) : FVec Ideal S1x128x128 .bf16 :=
  View.ld (Val := Elt Ideal) (e' := .bf16) (iblk m c 12 t : FVec Ideal S4x128x128 .bf16)
    (Rect.unit (s := S4x128x128) ![q.val, 0, 0] ![1, 128, 128] (by intro a; fin_cases q <;> fin_cases a <;> decide))

theorem head_weights (q : Fin 4) (r j : Fin 128) : headWeights m c t q (ix3 0 r j)
    = (lay m c (seq t)).ws q r j * (if j.val ≤ r.val then (1 : EReal) else 0) := chunk_weights m c t _ q.isLt r j

theorem pool_before (h : ¬ t.val % 32 = 0) (hw : (Memref.whole cc0_scratch1).IsWhole) (hlt : t.val - 1 < cfg0.N) (r : Fin 24) (j : Fin 256) :
    View.read (Elt Ideal) (View.whole cc0_scratch1) (hw.unread (outsAt0 m c (t.val - 1) hlt).2.2.2.2.2.2.2.2.2.2.2.2.2.1)
      (ix2 ⟨r.val, by omega⟩ j) = poolRow (lay m c (seq t)) (blkNo t) r.val j := by
  rw [read_unread_whole]
  have e := pool_carry m c (before t) r j
  rw [seq_before h, blkNo_before h] at e
  exact e

theorem out19 (r : Fin 256) (j : Fin 768) : ((dats m 0 c).after 19 t : FVec Ideal S1x256x768 .bf16) (ix3 0 r j)
    = (lay m c (seq t)).mixers (blkNo t * 256 + r.val) j.val := by
  have hb := is_block m c t
  have hg := fun j => (at_g m c t 0 j).trans (entry_g m c (seq t) j)
  have hbe := fun j => (at_be m c t 0 j).trans (entry_be m c (seq t) j)
  have hbs := fun i j => (at_bs m c t i j).trans (entry_bs m c (seq t) i j)
  have hpw := fun k j => (at_pw m c t k j).trans (entry_pw m c (seq t) k j)
  have hps := fun j => (at_ps m c t 0 j).trans (entry_ps m c (seq t) j)
  rw [after0_19]
  by_cases h : t.val % 32 = 0
  · rw [outsAt0_A m c t h]
    frame_out
    refine mixers_blk (lay m c (seq t)) ⟨blkNo t, blkNo_lt t⟩ _ _ _ _ (fun r j => ?_) (fun r j => ?_) (fun r j => ?_) (fun r j => ?_) r j
    · have p8 := cov_two (p := 8) (k := 272) (poolRow (lay m c (seq t)) (blkNo t)) (View.whole cc0_scratch1) inb_S280x256_S256x256_24_0 _ inb_S280x256_S272x256_8_0 rfl
        inb_S280x256_S24x256_0_0 _ (xp_rows m c t) (zero_rows24 m c t h)
      have p7 := cov_two (p := 7) (k := 272) (poolRow (lay m c (seq t)) (blkNo t)) (View.whole cc0_scratch1) inb_S280x256_S256x256_24_0 _ inb_S280x256_S272x256_7_0 rfl
        inb_S280x256_S24x256_0_0 _ (xp_rows m c t) (zero_rows24 m c t h)
      exact yc_blk _ ⟨blkNo t, blkNo_lt t⟩ _ hb _ (coord_one t) _ _ _ _
        (eights_row _ ⟨blkNo t, blkNo_lt t⟩ _ _ p8 p7 _) (eights_row _ ⟨blkNo t, blkNo_lt t⟩ _ _ p8 p7 _)
        (pairs_row _ ⟨blkNo t, blkNo_lt t⟩ _ _ p8 p7 _) (fours_row _ ⟨blkNo t, blkNo_lt t⟩ _ _ p8 p7 _) _ hpw _ hps r j
    · exact yb_blk_hi _ _ hb _ _ hg hbe _ hbs (headWeights m c t) (head_weights m c t) r j
    · exact yb_blk_lo _ _ hb _ _ hg hbe _ hbs (headWeights m c t) (head_weights m c t) r j
    · rw [Layer.ya]
      refine (ya_at hb _ r j).trans (congrArg (· * gelu ((lay m c (seq t)).ga (blkNo t * 256 + r.val) j)) ?_)
      exact st_blk (taps_first m c t h) (gates m c t) _ (zero_state m c t h) r j
  · rw [outsAt0_B m c t h]
    frame_out
    refine mixers_blk (lay m c (seq t)) ⟨blkNo t, blkNo_lt t⟩ _ _ _ _ (fun r j => ?_) (fun r j => ?_) (fun r j => ?_) (fun r j => ?_) r j
    · have p8 := ld_over (p := 8) (k := 272) (poolRow (lay m c (seq t)) (blkNo t)) (View.whole cc0_scratch1) inb_S280x256_S256x256_24_0 _ inb_S280x256_S272x256_8_0
        _ rfl (xp_rows m c t) (pool_before m c t h (Memref.isWhole_whole _) (by omega))
      have p7 := ld_over (p := 7) (k := 272) (poolRow (lay m c (seq t)) (blkNo t)) (View.whole cc0_scratch1) inb_S280x256_S256x256_24_0 _ inb_S280x256_S272x256_7_0
        _ rfl (xp_rows m c t) (pool_before m c t h (Memref.isWhole_whole _) (by omega))
      exact yc_blk _ ⟨blkNo t, blkNo_lt t⟩ _ hb _ (coord_one t) _ _ _ _
        (eights_row _ ⟨blkNo t, blkNo_lt t⟩ _ _ p8 p7 _) (eights_row _ ⟨blkNo t, blkNo_lt t⟩ _ _ p8 p7 _)
        (pairs_row _ ⟨blkNo t, blkNo_lt t⟩ _ _ p8 p7 _) (fours_row _ ⟨blkNo t, blkNo_lt t⟩ _ _ p8 p7 _) _ hpw _ hps r j
    · exact yb_blk_hi _ _ hb _ _ hg hbe _ hbs (headWeights m c t) (head_weights m c t) r j
    · exact yb_blk_lo _ _ hb _ _ hg hbe _ hbs (headWeights m c t) (head_weights m c t) r j
    · rw [Layer.ya]
      refine (ya_at hb _ r j).trans (congrArg (· * gelu ((lay m c (seq t)).ga (blkNo t * 256 + r.val) j)) ?_)
      exact st_blk (taps_later m c t h _ _) (gates m c t) _ (state_before m c t h _ _ fun j => state_carry m c (t.val - 1) _ j) r j

end Cert.Mix

end
-- ==== Proof.MixVal6.lean ====
/- The keys and values of a block, laid out for the products that use them. -/
module

import all proofs.«01_k».proof.Proof.MixPay
import all proofs.«01_k».proof.Proof.MixProj
import all proofs.«01_k».proof.Proof.MixPool
import all proofs.«01_k».proof.Proof.MixBlk
import all proofs.«01_k».proof.Proof.MixRows
public import proofs.«01_k».proof.Proof.MixVal5

@[expose] public section

set_option maxRecDepth 16384

noncomputable section

namespace Cert.Mix
open Idealize.ShloMosaic Idealize.ShloMosaic.TcCoe Idealize.SL.Sem
open Cert.Kernel2Ideal Cert.Kernel2Ideal.Gen
set_option maxHeartbeats 1000000

section

variable {N K : ℕ} (g : ℕ → ℕ → Fin K → EReal)
  (i1 : ∀ a, (![0, 1, 0, 0] : Fin 4 → ℕ) a + (![1, 1, N, K] : Fin 4 → ℕ) a ≤ (⟨4, ![1, 2, N, K]⟩ : Shape).size a)
  (i0 : ∀ a, (![0, 0, 0, 0] : Fin 4 → ℕ) a + (![1, 1, N, K] : Fin 4 → ℕ) a ≤ (⟨4, ![1, 2, N, K]⟩ : Shape).size a)

/-- Two chunks, each stored whole. -/
theorem chunks_blk (f1 f0 : FVec Ideal (⟨4, ![1, 1, N, K]⟩ : Shape) .bf16)
    (h1 : ∀ r j, f1 (ix4 0 0 r j) = g 1 (0 + r.val) j) (h0 : ∀ r j, f0 (ix4 0 0 r j) = g 0 (0 + r.val) j) (q : Fin 2) (r : Fin N) (j : Fin K) :
    View.canon (Val := Elt Ideal) (s := ⟨4, ![1, 2, N, K]⟩) (e := .bf16)
      [⟨Rect.unit (s := ⟨4, ![1, 2, N, K]⟩) ![0, 1, 0, 0] ![1, 1, N, K] i1, f1⟩,
        ⟨Rect.unit (s := ⟨4, ![1, 2, N, K]⟩) ![0, 0, 0, 0] ![1, 1, N, K] i0, f0⟩] (ix4 0 q r j) = g q.val r.val j := by
  refine View.canon_apply_of_pieces (Val := Elt Ideal) (e := .bf16) (S := ⟨4, ![1, 2, N, K]⟩)
    (fun y => g (y 1).val (y 2).val (y 3)) _ ?_ (ix4 0 q r j) ?_
  · exact List.forall_mem_cons.2 ⟨piece_chunk g i1 f1 h1, List.forall_mem_singleton.2 (piece_chunk g i0 f0 h0)⟩
  · have hr : r.val < 0 + N := by rw [Nat.zero_add]; exact r.isLt
    by_cases c : q.val = 1
    · exact ⟨_, List.mem_cons_self, mem_chunk i1 _ c (Nat.zero_le _) hr⟩
    · exact ⟨_, List.mem_cons_of_mem _ List.mem_cons_self, mem_chunk i0 _ (show q.val = 0 by omega) (Nat.zero_le _) hr⟩

end

/-- Two chunks, each stored in four parts of 128 rows. -/
theorem parts_blk (g : ℕ → ℕ → Fin 256 → EReal) (f : Fin 2 → Fin 4 → FVec Ideal S1x1x128x256 .bf16)
    (h : ∀ q p r j, f q p (ix4 0 0 r j) = g q.val (128 * p.val + r.val) j) (q : Fin 2) (r : Fin 512) (j : Fin 256) :
    View.canon (Val := Elt Ideal) (s := S1x2x512x256) (e := .bf16)
      [⟨Rect.unit (s := S1x2x512x256) ![0, 1, 384, 0] ![1, 1, 128, 256] inb_S1x2x512x256_S1x1x128x256_0_1_384_0, f 1 3⟩,
        ⟨Rect.unit (s := S1x2x512x256) ![0, 1, 256, 0] ![1, 1, 128, 256] inb_S1x2x512x256_S1x1x128x256_0_1_256_0, f 1 2⟩,
        ⟨Rect.unit (s := S1x2x512x256) ![0, 1, 128, 0] ![1, 1, 128, 256] inb_S1x2x512x256_S1x1x128x256_0_1_128_0, f 1 1⟩,
        ⟨Rect.unit (s := S1x2x512x256) ![0, 1, 0, 0] ![1, 1, 128, 256] inb_S1x2x512x256_S1x1x128x256_0_1_0_0, f 1 0⟩,
        ⟨Rect.unit (s := S1x2x512x256) ![0, 0, 384, 0] ![1, 1, 128, 256] inb_S1x2x512x256_S1x1x128x256_0_0_384_0, f 0 3⟩,
        ⟨Rect.unit (s := S1x2x512x256) ![0, 0, 256, 0] ![1, 1, 128, 256] inb_S1x2x512x256_S1x1x128x256_0_0_256_0, f 0 2⟩,
        ⟨Rect.unit (s := S1x2x512x256) ![0, 0, 128, 0] ![1, 1, 128, 256] inb_S1x2x512x256_S1x1x128x256_0_0_128_0, f 0 1⟩,
        ⟨Rect.unit (s := S1x2x512x256) ![0, 0, 0, 0] ![1, 1, 128, 256] inb_S1x2x512x256_S1x1x128x256_0_0_0_0, f 0 0⟩] (ix4 0 q r j)
      = g q.val r.val j := by
  refine View.canon_apply_of_pieces (Val := Elt Ideal) (e := .bf16) (S := S1x2x512x256)
    (fun y => g (y 1).val (y 2).val (y 3)) _ ?_ (ix4 0 q r j) ?_
  · simp only [List.forall_mem_cons, List.forall_mem_singleton]
    exact ⟨piece_chunk g _ _ (h 1 3), piece_chunk g _ _ (h 1 2), piece_chunk g _ _ (h 1 1), piece_chunk g _ _ (h 1 0),
      piece_chunk g _ _ (h 0 3), piece_chunk g _ _ (h 0 2), piece_chunk g _ _ (h 0 1), piece_chunk g inb_S1x2x512x256_S1x1x128x256_0_0_0_0 _ (h 0 0), nofun⟩
  · have hm : ∀ (a0 b0 : ℕ) (i : ∀ a, (![0, a0, b0, 0] : Fin 4 → ℕ) a + (![1, 1, 128, 256] : Fin 4 → ℕ) a ≤ S1x2x512x256.size a),
        q.val = a0 → r.val / 128 * 128 = b0 → (ix4 0 q r j : S1x2x512x256.Idx) ∈ (Rect.unit (s := S1x2x512x256) ![0, a0, b0, 0] ![1, 1, 128, 256] i).set :=
      fun a0 b0 i ha hb => mem_chunk i _ ha (by show b0 ≤ r.val; omega) (by show r.val < b0 + 128; omega)
    have hq : q.val = 0 ∨ q.val = 1 := by omega
    have hr : r.val / 128 = 0 ∨ r.val / 128 = 1 ∨ r.val / 128 = 2 ∨ r.val / 128 = 3 := by omega
    simp only [List.exists_mem_cons_iff]
    rcases hq with hq | hq <;> rcases hr with hr | hr | hr | hr
    · iterate 7 right
      exact Or.inl (hm _ _ _ hq (by rw [hr]))
    · iterate 6 right
      exact Or.inl (hm _ _ _ hq (by rw [hr]))
    · iterate 5 right
      exact Or.inl (hm _ _ _ hq (by rw [hr]))
    · iterate 4 right
      exact Or.inl (hm _ _ _ hq (by rw [hr]))
    · iterate 3 right
      exact Or.inl (hm _ _ _ hq (by rw [hr]))
    · iterate 2 right
      exact Or.inl (hm _ _ _ hq (by rw [hr]))
    · right
      exact Or.inl (hm _ _ _ hq (by rw [hr]))
    · exact Or.inl (hm _ _ _ hq (by rw [hr]))

variable (m : (ℓ : Loc nD τ sig) → Buf (Elt Ideal) ℓ) (c : Dev nD) (t : Fin cfg0.N)

theorem out28 (q : Fin 2) (j : Fin 256) (r : Fin 128) : ((dats m 0 c).after 28 t : FVec Ideal S1x2x256x128 .bf16) (ix4 0 q j r)
    = (lay m c (seq t)).keyCols (blkNo t) q.val j.val r := by
  have hw := fun k j => (at_kt m c t j k).trans (entry_kt m c (seq t) k j)
  have lo : ∀ (j : Fin 256) (r : Fin 128), (lay m c (seq t)).keyCols (blkNo t) 0 (0 + j.val) r = (lay m c (seq t)).z (blkNo t * 256 + r.val) ⟨1536 + j.val, by omega⟩ :=
    fun j r => by rw [Layer.keyCols, dif_pos (by omega)]; simp only [Nat.zero_mul, Nat.zero_add]
  have hi : ∀ (j : Fin 256) (r : Fin 128), (lay m c (seq t)).keyCols (blkNo t) 1 (0 + j.val) r = (lay m c (seq t)).z (blkNo t * 256 + (128 + r.val)) ⟨1536 + j.val, by omega⟩ :=
    fun j r => by rw [Layer.keyCols, dif_pos (by omega)]; simp only [Nat.one_mul, Nat.zero_add]
  rw [after0_28]
  by_cases h : t.val % 32 = 0
  · rw [outsAt0_A m c t h]
    frame_out
    exact chunks_blk _ _ _ _ _ (fun j r => (kt_hi _ hw (blkNo_lt t) (is_rows m c t) r j).trans (hi j r).symm)
      (fun j r => (kt_lo _ hw (blkNo_lt t) (is_rows m c t) r j).trans (lo j r).symm) q j r
  · rw [outsAt0_B m c t h]
    frame_out
    exact chunks_blk _ _ _ _ _ (fun j r => (kt_hi _ hw (blkNo_lt t) (is_rows m c t) r j).trans (hi j r).symm)
      (fun j r => (kt_lo _ hw (blkNo_lt t) (is_rows m c t) r j).trans (lo j r).symm) q j r

theorem out29 (q : Fin 2) (j : Fin 64) (r : Fin 128) : ((dats m 0 c).after 29 t : FVec Ideal S1x2x64x128 .bf16) (ix4 0 q j r)
    = (lay m c (seq t)).idxCols (blkNo t) q.val j.val r := by
  have hw := fun k j => (at_kt m c t j k).trans (entry_kt m c (seq t) k j)
  have lo : ∀ (j : Fin 64) (r : Fin 128), (lay m c (seq t)).idxCols (blkNo t) 0 (0 + j.val) r = (lay m c (seq t)).z (blkNo t * 256 + r.val) ⟨2560 + j.val, by omega⟩ :=
    fun j r => by rw [Layer.idxCols, dif_pos (by omega)]; simp only [Nat.zero_mul, Nat.zero_add]
  have hi : ∀ (j : Fin 64) (r : Fin 128), (lay m c (seq t)).idxCols (blkNo t) 1 (0 + j.val) r = (lay m c (seq t)).z (blkNo t * 256 + (128 + r.val)) ⟨2560 + j.val, by omega⟩ :=
    fun j r => by rw [Layer.idxCols, dif_pos (by omega)]; simp only [Nat.one_mul, Nat.zero_add]
  rw [after0_29]
  by_cases h : t.val % 32 = 0
  · rw [outsAt0_A m c t h]
    frame_out
    exact chunks_blk _ _ _ _ _ (fun j r => (kit_hi _ hw (blkNo_lt t) (is_rows m c t) r j).trans (hi j r).symm)
      (fun j r => (kit_lo _ hw (blkNo_lt t) (is_rows m c t) r j).trans (lo j r).symm) q j r
  · rw [outsAt0_B m c t h]
    frame_out
    exact chunks_blk _ _ _ _ _ (fun j r => (kit_hi _ hw (blkNo_lt t) (is_rows m c t) r j).trans (hi j r).symm)
      (fun j r => (kit_lo _ hw (blkNo_lt t) (is_rows m c t) r j).trans (lo j r).symm) q j r

/-- The eight parts of a block's values. -/
def valueParts (v : FVec Ideal S256x256 .f32) : Fin 2 → Fin 4 → FVec Ideal S1x1x128x256 .bf16 :=
  ![![k0_pay20 (F := Ideal) (k0_pay19 v), k0_pay21 (F := Ideal) v k0_pay16, k0_pay22 (F := Ideal) v k0_pay16, k0_pay23 (F := Ideal) v k0_pay16],
    ![k0_pay26 (F := Ideal) v k0_pay16, k0_pay27 (F := Ideal) v k0_pay16, k0_pay28 (F := Ideal) v k0_pay16, k0_pay29 (F := Ideal) v k0_pay16 3#32]]

theorem value_parts (A : Layer) (s : ℕ) (v : FVec Ideal S256x256 .f32) (hv : ∀ r j, v (ix2 r j) = A.z (s * 256 + r.val) ⟨1792 + j.val, by omega⟩)
    (q : Fin 2) (p : Fin 4) (r : Fin 128) (j : Fin 256) : valueParts v q p (ix4 0 0 r j) = A.headRows s q.val (128 * p.val + r.val) j := by
  have e : A.headRows s q.val (128 * p.val + r.val) j = if head j = p then v (ix2 ⟨q.val * 128 + r.val, by omega⟩ j) else 0 := by
    rw [hv, Layer.headRows, show (128 * p.val + r.val) / 128 = p.val by omega, show (128 * p.val + r.val) % 128 = r.val by omega]
    exact if_congr Fin.ext_iff.symm rfl rfl
  obtain ⟨l0, l1, l2, l3⟩ := vbd_lo v r j
  obtain ⟨h0, h1, h2, h3⟩ := vbd_hi v r j
  rw [e]
  have z : (⟨0 * 128 + r.val, by omega⟩ : Fin 256) = ⟨r.val, by omega⟩ := Fin.ext (by show 0 * 128 + r.val = r.val; omega)
  have o : (⟨1 * 128 + r.val, by omega⟩ : Fin 256) = ⟨128 + r.val, by omega⟩ := Fin.ext (by show 1 * 128 + r.val = 128 + r.val; omega)
  fin_cases q
  · show _ = if head j = p then v (ix2 (⟨0 * 128 + r.val, by omega⟩ : Fin 256) j) else 0
    rw [z]
    fin_cases p
    exacts [l0, l1, l2, l3]
  · show _ = if head j = p then v (ix2 (⟨1 * 128 + r.val, by omega⟩ : Fin 256) j) else 0
    rw [o]
    fin_cases p
    exacts [h0, h1, h2, h3]

theorem out30 (q : Fin 2) (r : Fin 512) (j : Fin 256) : ((dats m 0 c).after 30 t : FVec Ideal S1x2x512x256 .bf16) (ix4 0 q r j)
    = (lay m c (seq t)).headRows (blkNo t) q.val r.val j := by
  have hw := fun k j => (at_qkv m c t k j).trans (entry_qkv m c (seq t) k j)
  have hv := vv_at _ hw (blkNo_lt t) (is_rows m c t)
  rw [after0_30]
  by_cases h : t.val % 32 = 0
  · rw [outsAt0_A m c t h]
    frame_out
    exact parts_blk _ (valueParts _) (value_parts _ _ _ hv) q r j
  · rw [outsAt0_B m c t h]
    frame_out
    exact parts_blk _ (valueParts _) (value_parts _ _ _ hv) q r j

end Cert.Mix

end
-- ==== Proof.MixVal7.lean ====
/- The twelve result arrays after the last grid point. -/
module

import all proofs.«01_k».proof.Proof.MixPay
import all proofs.«01_k».proof.Proof.MixProj
import all proofs.«01_k».proof.Proof.MixPool
import all proofs.«01_k».proof.Proof.MixBlk
import all proofs.«01_k».proof.Proof.MixRows
public import proofs.«01_k».proof.Proof.MixVal6

@[expose] public section

set_option maxRecDepth 16384

noncomputable section

namespace Cert.Mix
open Idealize.ShloMosaic Idealize.ShloMosaic.TcCoe Idealize.SL.Sem
open Cert.Kernel2Ideal Cert.Kernel2Ideal.Gen
set_option maxHeartbeats 1000000

variable (m : (ℓ : Loc nD τ sig) → Buf (Elt Ideal) ℓ) (c : Dev nD)

theorem at_row {t : Fin cfg0.N} (r : Fin 256) : blkNo t * 256 + r.val < 8192 := by have := blkNo_lt t; omega

theorem final19 : (dats m 0 c).arrAt 19 (cfgs 0).N = res19 (lay m c) := by
  refine (dats m 0 c).arrAt_eq_of_covers 19 _ (by decide +kernel) fun t hf y => ?_
  blk_simp
  idx_vars y
  have e0 : y0 = 0 := Subsingleton.elim _ _
  subst e0
  have e : ((cfg0.win 19).blk t).view.emb (ix3 0 y1 y2) = ix3 (seq t) ⟨blkNo t * 256 + y1.val, at_row y1⟩ y2 := by
    unfold seq blkNo
    blk_ext [places' t]
  exact (out19 m c t y1 y2).trans (congrArg (res19 (lay m c)) e).symm

theorem final20 : (dats m 0 c).arrAt 20 (cfgs 0).N = res20 (lay m c) := by
  refine (dats m 0 c).arrAt_eq_of_covers 20 _ (by decide +kernel) fun t hf y => ?_
  blk_simp
  idx_vars y
  have e0 : y0 = 0 := Subsingleton.elim _ _
  subst e0
  have e : ((cfg0.win 20).blk t).view.emb (ix3 0 y1 y2) = ix3 (seq t) ⟨blkNo t * 256 + y1.val, at_row y1⟩ y2 := by
    unfold seq blkNo
    blk_ext [places' t]
  exact (out20 m c t y1 y2).trans (congrArg (res20 (lay m c)) e).symm

theorem final21 : (dats m 0 c).arrAt 21 (cfgs 0).N = res21 (lay m c) := by
  refine (dats m 0 c).arrAt_eq_of_covers 21 _ (by decide +kernel) fun t hf y => ?_
  blk_simp
  idx_vars y
  have e0 : y0 = 0 := Subsingleton.elim _ _
  subst e0
  have e : ((cfg0.win 21).blk t).view.emb (ix3 0 y1 y2) = ix3 (seq t) ⟨blkNo t * 256 + y1.val, at_row y1⟩ y2 := by
    unfold seq blkNo
    blk_ext [places' t]
  exact (out21 m c t y1 y2).trans (congrArg (res21 (lay m c)) e).symm

theorem final22 : (dats m 0 c).arrAt 22 (cfgs 0).N = res22 (lay m c) := by
  refine (dats m 0 c).arrAt_eq_of_covers 22 _ (by decide +kernel) fun t hf y => ?_
  blk_simp
  idx_vars y
  have e0 : y0 = 0 := Subsingleton.elim _ _
  subst e0
  have e : ((cfg0.win 22).blk t).view.emb (ix3 0 y1 y2) = ix3 (seq t) ⟨blkNo t * 256 + y1.val, at_row y1⟩ y2 := by
    unfold seq blkNo
    blk_ext [places' t]
  exact (out22 m c t y1 y2).trans (congrArg (res22 (lay m c)) e).symm

theorem final23 : (dats m 0 c).arrAt 23 (cfgs 0).N = res23 (lay m c) := by
  refine (dats m 0 c).arrAt_eq_of_covers 23 _ (by decide +kernel) fun t hf y => ?_
  blk_simp
  idx_vars y
  have e0 : y0 = 0 := Subsingleton.elim _ _
  subst e0
  have e : ((cfg0.win 23).blk t).view.emb (ix3 0 y1 y2) = ix3 (seq t) ⟨blkNo t * 256 + y1.val, at_row y1⟩ y2 := by
    unfold seq blkNo
    blk_ext [places' t]
  exact (out23 m c t y1 y2).trans (congrArg (res23 (lay m c)) e).symm

theorem final24 : (dats m 0 c).arrAt 24 (cfgs 0).N = res24 (lay m c) := by
  refine (dats m 0 c).arrAt_eq_of_covers 24 _ (by decide +kernel) fun t hf y => ?_
  blk_simp
  idx_vars y
  have e0 : y0 = 0 := Subsingleton.elim _ _
  subst e0
  have e : ((cfg0.win 24).blk t).view.emb (ix3 0 y1 y2) = ix3 (seq t) ⟨blkNo t * 256 + y1.val, at_row y1⟩ y2 := by
    unfold seq blkNo
    blk_ext [places' t]
  exact (out24 m c t y1 y2).trans (congrArg (res24 (lay m c)) e).symm

theorem flush25 : ∀ t : Fin cfg0.N, (win0 25).flush t = true → t.val % 32 = 31 :=
  (by decide +kernel : ∀ t : Fin grid0.N, _)

theorem flush26 : ∀ t : Fin cfg0.N, (win0 26).flush t = true → t.val % 32 = 31 :=
  (by decide +kernel : ∀ t : Fin grid0.N, _)

theorem flush27 : ∀ t : Fin cfg0.N, (win0 27).flush t = true → t.val % 32 = 31 :=
  (by decide +kernel : ∀ t : Fin grid0.N, _)

theorem final25 : (dats m 0 c).arrAt 25 (cfgs 0).N = res25 (lay m c) := by
  refine (dats m 0 c).arrAt_eq_of_covers 25 _ (by decide +kernel) fun t hf y => ?_
  blk_simp
  idx_vars y
  have e0 : y0 = 0 := Subsingleton.elim _ _
  subst e0
  have e : ((cfg0.win 25).blk t).view.emb (ix3 0 y1 y2) = ix3 (seq t) y1 y2 := by
    unfold seq
    blk_ext [places' t]
  have hr : blkNo t * 256 + 248 + y1.val = 8184 + y1.val := by
    rw [show blkNo t = 31 from flush25 t hf]
  exact (out25 m c t y1 y2).trans ((congrArg ((lay m c (seq t)).xa · y2) hr).trans (congrArg (res25 (lay m c)) e).symm)

theorem final26 : (dats m 0 c).arrAt 26 (cfgs 0).N = res26 (lay m c) := by
  refine (dats m 0 c).arrAt_eq_of_covers 26 _ (by decide +kernel) fun t hf y => ?_
  blk_simp
  idx_vars y
  have e0 : y0 = 0 := Subsingleton.elim _ _
  subst e0
  have e : ((cfg0.win 26).blk t).view.emb (ix3 0 y1 y2) = ix3 (seq t) y1 y2 := by
    unfold seq
    blk_ext [places' t]
  have hr : blkNo t * 256 + 232 + y1.val = 8168 + y1.val := by
    rw [show blkNo t = 31 from flush26 t hf]
  exact (out26 m c t y1 y2).trans ((congrArg ((lay m c (seq t)).xp · y2) hr).trans (congrArg (res26 (lay m c)) e).symm)

theorem final27 : (dats m 0 c).arrAt 27 (cfgs 0).N = res27 (lay m c) := by
  refine (dats m 0 c).arrAt_eq_of_covers 27 _ (by decide +kernel) fun t hf y => ?_
  blk_simp
  idx_vars y
  have e0 : y0 = 0 := Subsingleton.elim _ _
  subst e0
  have e : ((cfg0.win 27).blk t).view.emb (ix3 0 y1 y2) = ix3 (seq t) y1 y2 := by
    unfold seq
    blk_ext [places' t]
  have e1 : y1 = 0 := Subsingleton.elim _ _
  subst e1
  have hr : (blkNo t + 1) * 256 = 8192 := by rw [show blkNo t = 31 from flush27 t hf]
  exact (out27 m c t y2).trans ((congrArg ((lay m c (seq t)).st · y2) hr).trans (congrArg (res27 (lay m c)) e).symm)

theorem final28 : (dats m 0 c).arrAt 28 (cfgs 0).N = res28 (lay m c) := by
  refine (dats m 0 c).arrAt_eq_of_covers 28 _ (by decide +kernel) fun t hf y => ?_
  blk_simp
  idx_vars y
  have e0 : y0 = 0 := Subsingleton.elim _ _
  subst e0
  have e : ((cfg0.win 28).blk t).view.emb (ix4 0 y1 y2 y3) = ix4 (seq t) ⟨blkNo t * 2 + y1.val, by have := blkNo_lt t; omega⟩ y2 y3 := by
    unfold seq blkNo
    blk_ext [places' t]
  have hr : blkNo t * 256 + (y1.val * 128 + y3.val) = 0 * 256 + ((blkNo t * 2 + y1.val) * 128 + y3.val) := by omega
  refine (out28 m c t y1 y2 y3).trans (Eq.trans ?_ (congrArg (res28 (lay m c)) e).symm)
  show (lay m c (seq t)).keyCols (blkNo t) y1.val y2.val y3 = (lay m c (seq t)).keyCols 0 (blkNo t * 2 + y1.val) y2.val y3
  rw [Layer.keyCols, Layer.keyCols, hr]

theorem final29 : (dats m 0 c).arrAt 29 (cfgs 0).N = res29 (lay m c) := by
  refine (dats m 0 c).arrAt_eq_of_covers 29 _ (by decide +kernel) fun t hf y => ?_
  blk_simp
  idx_vars y
  have e0 : y0 = 0 := Subsingleton.elim _ _
  subst e0
  have e : ((cfg0.win 29).blk t).view.emb (ix4 0 y1 y2 y3) = ix4 (seq t) ⟨blkNo t * 2 + y1.val, by have := blkNo_lt t; omega⟩ y2 y3 := by
    unfold seq blkNo
    blk_ext [places' t]
  have hr : blkNo t * 256 + (y1.val * 128 + y3.val) = 0 * 256 + ((blkNo t * 2 + y1.val) * 128 + y3.val) := by omega
  refine (out29 m c t y1 y2 y3).trans (Eq.trans ?_ (congrArg (res29 (lay m c)) e).symm)
  show (lay m c (seq t)).idxCols (blkNo t) y1.val y2.val y3 = (lay m c (seq t)).idxCols 0 (blkNo t * 2 + y1.val) y2.val y3
  rw [Layer.idxCols, Layer.idxCols, hr]

theorem final30 : (dats m 0 c).arrAt 30 (cfgs 0).N = res30 (lay m c) := by
  refine (dats m 0 c).arrAt_eq_of_covers 30 _ (by decide +kernel) fun t hf y => ?_
  blk_simp
  idx_vars y
  have e0 : y0 = 0 := Subsingleton.elim _ _
  subst e0
  have e : ((cfg0.win 30).blk t).view.emb (ix4 0 y1 y2 y3) = ix4 (seq t) ⟨blkNo t * 2 + y1.val, by have := blkNo_lt t; omega⟩ y2 y3 := by
    unfold seq blkNo
    blk_ext [places' t]
  have hr : blkNo t * 256 + (y1.val * 128 + y2.val % 128) = 0 * 256 + ((blkNo t * 2 + y1.val) * 128 + y2.val % 128) := by omega
  refine (out30 m c t y1 y2 y3).trans (Eq.trans ?_ (congrArg (res30 (lay m c)) e).symm)
  show (lay m c (seq t)).headRows (blkNo t) y1.val y2.val y3 = (lay m c (seq t)).headRows 0 (blkNo t * 2 + y1.val) y2.val y3
  rw [Layer.headRows, Layer.headRows, hr]

end Cert.Mix

end
-- ==== Proof.MixRefLoop.lean ====
/- The reference's loop over the rows: what it carries into its first trip and what it has after each one. -/
module

public import proofs.«01_k».proof.Proof.MixLayer
public import proofs.«01_k».proof.Proof.Gen.Own.Reference2Ideal.Run
public import Idealize.ShloMosaic.Lib.Pointwise
public import Idealize.ShloMosaic.Lib.DynamicIndex

@[expose] public section

set_option maxRecDepth 16384

noncomputable section

namespace Cert.MixRef

open Idealize.ShloMosaic Idealize.SL.Sem Idealize.ShloMosaic.StableHlo Idealize.ShloMosaic.Tactic Cert.Mix
open Cert.Reference2Ideal Cert.Reference2Ideal.Gen Cert.Reference2Ideal.Value

set_option maxHeartbeats 4000000

/-- Sequence `b` of a valuation's arguments. -/
def layV (V : Valuation τ sig (Elt Ideal)) (b : Fin 2) : Layer :=
  layerOf (V (Proc.devRef .tc main_arg0)) (V (Proc.devRef .tc main_arg1)) (V (Proc.devRef .tc main_arg2)) (V (Proc.devRef .tc main_arg3))
    (V (Proc.devRef .tc main_arg4)) (V (Proc.devRef .tc main_arg5)) (V (Proc.devRef .tc main_arg6)) (V (Proc.devRef .tc main_arg7))
    (V (Proc.devRef .tc main_arg8)) (V (Proc.devRef .tc main_arg9)) (V (Proc.devRef .tc main_arg10)) (V (Proc.devRef .tc main_arg11))
    (V (Proc.devRef .tc main_arg12)) (V (Proc.devRef .tc main_arg13)) (V (Proc.devRef .tc main_arg14)) b

variable (V0 : Valuation τ sig (Elt Ideal)) (b : Fin 2)

theorem z_sum (x : FVec Ideal S2x8192x1024 .f32) (w : FVec Ideal S1024x2632 .f32) (hx : V0 (Proc.devRef .tc main_arg0) = x)
    (hw : V0 (Proc.devRef .tc main_arg1) = w) (t : Fin 8192) (j : Fin 2632) :
    ∑ k, x (ix3 b t k) * w (ix2 k j) = (layV V0 b).z t.val j := by
  subst hx hw
  rw [Layer.z, dif_pos t.isLt]
  rfl

theorem row_read (x : FVec Ideal S8192x2x256 .f32) (start : Fin 3 → Int) (k : Fin 8192) (h0 : start 0 = k.val) (h1 : start 1 = 0) (h2 : start 2 = 0)
    (b : Fin 2) (j : Fin 256) :
    shapeCast S2x256 (Host.dynamicSlice S1x2x256 x start sliceFits_S8192x2x256_S1x2x256) shapeCasts_S1x2x256_S2x256 (ix2 b j) = x (ix3 k b j) := by
  pointwise [Host.clampedStart, h0, h1, h2]
  refine congrArg x (congr (congr (congrArg ix3 (Fin.ext ?_)) (Fin.ext ?_)) (Fin.ext ?_)) <;> simp only [] <;> omega

theorem row_write (x : FVec Ideal S8192x2x256 .f32) (u : FVec Ideal S2x256 .f32) (start : Fin 3 → Int) (k : Fin 8192) (h0 : start 0 = k.val) (h1 : start 1 = 0) (h2 : start 2 = 0)
    (t : Fin 8192) (b : Fin 2) (j : Fin 256) :
    Host.dynamicUpdateSlice x (broadcastInDim S1x2x256 ![1, 2] bcast_S2x256_S1x2x256_1_2 u) start updateFits_S8192x2x256_S1x2x256 (ix3 t b j)
      = if t = k then u (ix2 b j) else x (ix3 t b j) := by
  pointwise [Host.clampedStart, h0, h1, h2]
  by_cases e : t = k
  · rw [if_pos e, dif_pos ⟨⟨by omega, by omega⟩, by omega, by omega⟩]
    exact congrArg u (congr (congrArg ix2 (Fin.ext (by simp only []; omega))) (Fin.ext (by simp only []; omega)))
  · rw [if_neg e, dif_neg]
    rintro ⟨⟨h3, h4⟩, -⟩
    exact e (Fin.ext (by omega))

theorem loop_state (V : Valuation τ sig (Elt Ideal)) (a bb : FVec Ideal S8192x2x256 .f32)
    (ha : V (Proc.devRef .tc main_v80_0) = a) (hb : V (Proc.devRef .tc main_v80_1) = bb)
    (hc : V (Proc.devRef .tc main_v80_2) = fun _ => (0#32 : BitVec 32))
    (h0 : ∀ b j, (V (Proc.devRef .tc main_v80_3) : FVec Ideal S2x256 .f32) (ix2 b j) = (0 : EReal))
    (A B : Fin 2 → ℕ → Fin 256 → EReal) (hA : ∀ (t : Fin 8192) b j, a (ix3 t b j) = A b t.val j) (hB : ∀ (t : Fin 8192) b j, bb (ix3 t b j) = B b t.val j) :
    ∀ k, k ≤ 8192 →
      STEP^[k] V (Proc.devRef .tc main_v80_0) = a ∧ STEP^[k] V (Proc.devRef .tc main_v80_1) = bb
      ∧ STEP^[k] V (Proc.devRef .tc main_v80_2) = (fun _ => BitVec.ofNat 32 k)
      ∧ (∀ b j, (STEP^[k] V (Proc.devRef .tc main_v80_3) : FVec Ideal S2x256 .f32) (ix2 b j) = state (A b · j) (B b · j) 0 k)
      ∧ ∀ (t : Fin 8192) b j, t.val < k → (STEP^[k] V (Proc.devRef .tc main_v80_4) : FVec Ideal S8192x2x256 .f32) (ix3 t b j) = state (A b · j) (B b · j) 0 (t.val + 1) := by
  intro k
  induction k with
  | zero => exact fun _ => ⟨ha, hb, hc, h0, fun t b j h => absurd h (Nat.not_lt_zero _)⟩
  | succ k ih =>
    intro hk
    obtain ⟨i0, i1, i2, i3, i4⟩ := ih (by omega)
    have hn : ((BitVec.ofNat 32 k).toInt : Int) = ((⟨k, hk⟩ : Fin 8192).val : Int) := by
      have e : (BitVec.ofNat 32 k).toNat = k := by
        rw [BitVec.toNat_ofNat]
        omega
      rw [BitVec.toInt_eq_toNat_of_lt (by omega), e]
    have hr : ∀ b j, res_main_while0b_v313 (STEP^[k] V) (ix2 b j) = state (A b · j) (B b · j) 0 (k + 1) := by
      intro b j
      unfold res_main_while0b_v313
      refine (congrArg₂ (· + ·) (congrArg₂ (· * ·) (row_read _ _ ⟨k, hk⟩ ?_ rfl rfl b j) (i3 b j)) (row_read _ _ ⟨k, hk⟩ ?_ rfl rfl b j)).trans ?_
      · show (STEP^[k] V (Proc.devRef .tc main_v80_2) (Shape.Idx.first h_S_)).toInt = _
        rw [i2]
        exact hn
      · show (STEP^[k] V (Proc.devRef .tc main_v80_2) (Shape.Idx.first h_S_)).toInt = _
        rw [i2]
        exact hn
      · rw [i0, i1, hA, hB]
        rfl
    rw [Function.iterate_succ_apply']
    refine ⟨(STEP_main_v80_0 _).trans i0, (STEP_main_v80_1 _).trans i1, (STEP_main_v80_2 _).trans ?_, fun b j => ?_, fun t b j ht => ?_⟩
    · unfold step_main_v80_2
      rw [i2]
      funext y
      show BitVec.ofNat 32 k + 1#32 = _
      rw [← BitVec.ofNat_add]
    · rw [STEP_main_v80_3]
      exact hr b j
    · rw [STEP_main_v80_4]
      unfold step_main_v80_4
      refine (row_write _ _ _ ⟨k, hk⟩ ?_ rfl rfl t b j).trans ?_
      · show (STEP^[k] V (Proc.devRef .tc main_v80_2) (Shape.Idx.first h_S_)).toInt = _
        rw [i2]
        exact hn
      · split
        · rename_i e
          subst e
          exact hr b j
        · rename_i e
          exact i4 t b j (by have : t.val ≠ k := fun h => e (Fin.ext h); omega)

variable (m : (ℓ : Loc nD τ sig) → Buf (Elt Ideal) ℓ) (c : Dev nD)

/-- The short convolution as the reference spells it: three rows of padding, then the rows. -/
def convOf (v1 : FVec Ideal S2x8192x256 .f32) (v2 : FVec Ideal S2x3x256 .f32) (cw : FVec Ideal S4x256 .f32) (cb : FVec Ideal S256 .f32)
    (b : Fin 2) (t : Fin 8192) (j : Fin 256) : EReal :=
  (if h : t.val < 3 then v2 (ix3 b ⟨t.val, h⟩ j) else v1 (ix3 b ⟨t.val - 3, by omega⟩ j)) * cw (ix2 0 j)
    + (if h : 1 + t.val < 3 then v2 (ix3 b ⟨1 + t.val, h⟩ j) else v1 (ix3 b ⟨1 + t.val - 3, by omega⟩ j)) * cw (ix2 1 j)
    + (if h : 2 + t.val < 3 then v2 (ix3 b ⟨2 + t.val, h⟩ j) else v1 (ix3 b ⟨2 + t.val - 3, by omega⟩ j)) * cw (ix2 2 j)
    + v1 (ix3 b t j) * cw (ix2 3 j) + cb (ix1 j)

theorem conv_eq (A : Layer) (v1 : FVec Ideal S2x8192x256 .f32) (v2 : FVec Ideal S2x3x256 .f32) (cw : FVec Ideal S4x256 .f32) (cb : FVec Ideal S256 .f32)
    (b : Fin 2) (h1 : ∀ (t : Fin 8192) j, v1 (ix3 b t j) = A.xa t.val j) (h2 : ∀ (t : Fin 3) j, v2 (ix3 b t j) = (0 : EReal))
    (hcw : ∀ i j, A.cw i j = cw (ix2 i j)) (hcb : ∀ j, A.cb j = cb (ix1 j)) (t : Fin 8192) (j : Fin 256) :
    convOf v1 v2 cw cb b t j = A.xc t.val j := by
  have e : ∀ (e d : ℕ) (_ : e + d = 3) (_ : 0 < d), (if h : e + t.val < 3 then v2 (ix3 b ⟨e + t.val, h⟩ j) else v1 (ix3 b ⟨e + t.val - 3, by omega⟩ j) : EReal) = back (A.xa · j) t.val d := by
    intro e d hd h0
    unfold back
    split
    · rw [if_neg (by omega), h2]
    · rw [if_pos (by omega), h1]
      congr 1
      show e + t.val - 3 = _
      omega
  have e0 : (if h : t.val < 3 then v2 (ix3 b ⟨t.val, h⟩ j) else v1 (ix3 b ⟨t.val - 3, by omega⟩ j) : EReal) = back (A.xa · j) t.val 3 := by
    unfold back
    split
    · rw [if_neg (by omega), h2]
    · rw [if_pos (by omega), h1]
  unfold convOf
  rw [e0, e 1 2 rfl (by decide), e 2 1 rfl (by decide), h1, Layer.xc, hcb, hcw, hcw, hcw, hcw]
  have e3 : back (A.xa · j) t.val 0 = A.xa t.val j := if_pos (Nat.zero_le _)
  rw [e3]
  abel

theorem gate_eq (A : Layer) (v1 : FVec Ideal S2x8192x256 .f32) (v2 : FVec Ideal S2x3x256 .f32) (cw : FVec Ideal S4x256 .f32) (cb : FVec Ideal S256 .f32)
    (b : Fin 2) (t : Fin 8192) (h : ∀ j, convOf v1 v2 cw cb b t j = A.xc t.val j) (w : FVec Ideal S4x64x64 .f32) (bias : FVec Ideal S256 .f32) (j : Fin 256) :
    Ideal.div 1 (1 + Ideal.exp (-(∑ x, w (ix3 (head j) x (lane j)) * convOf v1 v2 cw cb b t (col (head j) x) + bias (ix1 j))))
      = Ideal.logistic (A.pre (fun h i j => w (ix3 h i j)) (fun j => bias (ix1 j)) t.val j) := by
  unfold Ideal.logistic Layer.pre
  refine congrArg (fun s => Ideal.div 1 (1 + Ideal.exp (-(s + bias (ix1 j))))) (Finset.sum_congr rfl fun x _ => ?_)
  rw [h, mul_comm]

theorem up_v1 (b : Fin 2) (t : Fin 8192) (j : Fin 256) :
    (upto hostOps0 (launchContents m c) 4 (Proc.devRef .tc main_v1) : FVec Ideal S2x8192x256 .f32) (ix3 b t j) = (layV (launchContents m c) b).xa t.val j := by
  after_reads_simp
  pointwise
  exact z_sum _ _ _ _ rfl rfl _ _

theorem up_v2 (b : Fin 2) (t : Fin 3) (j : Fin 256) :
    (upto hostOps0 (launchContents m c) 4 (Proc.devRef .tc main_v2) : FVec Ideal S2x3x256 .f32) (ix3 b t j) = (0 : EReal) := by
  after_reads_simp
  pointwise

theorem conv_at (b : Fin 2) (t : Fin 8192) (j : Fin 256) :
    convOf (upto hostOps0 (launchContents m c) 4 (Proc.devRef .tc main_v1)) (upto hostOps0 (launchContents m c) 4 (Proc.devRef .tc main_v2))
      (launchContents m c (Proc.devRef .tc main_arg2)) (launchContents m c (Proc.devRef .tc main_arg3)) b t j = (layV (launchContents m c) b).xc t.val j :=
  conv_eq _ _ _ _ _ b (fun t j => up_v1 m c b t j) (fun t j => up_v2 m c b t j) (fun _ _ => rfl) (fun _ => rfl) t j

theorem soft_eq (x : EReal) : (if -x ≠ -x then -x else max (-x) 0 + Ideal.log1p (Ideal.exp (-FloatOps.absf (F := Ideal) (φ := .f32) (-x)))) = softPlus x := by
  rw [if_neg (not_not.2 rfl)]
  simp only [softPlus, zero_sub]

theorem entry_0 (t : Fin 8192) (b : Fin 2) (j : Fin 256) :
    (entryContents preI m c (Proc.devRef .tc main_v80_0) : FVec Ideal S8192x2x256 .f32) (ix3 t b j) = (layV (launchContents m c) b).dec t.val j := by
  simp only [entryContents, afterL_cons, afterL_nil]
  after_reads_simp
  simp only [id, TRef.ofBuf, TRef.toBuf, cast_cast, cast_eq]
  pointwise
  refine congrArg Ideal.exp (congrArg₂ (· * ·) (congrArg (_ * ·) (gate_eq _ _ _ _ _ b t (conv_at m c b t) _ _ j)) ?_)
  exact soft_eq _

theorem inp_eq (A : Layer) (t : ℕ) (j : Fin 256) : A.inp t j
    = Ideal.sqrt (-(Ideal.expm1 (Ideal.ofBits .f32 1073741824#32 * A.la t j))) * Ideal.logistic (A.pre A.wx A.bx t j) * A.xc t j := by
  rw [Layer.inp, gated, Layer.dec, neg_expm1_two]

theorem entry_1 (t : Fin 8192) (b : Fin 2) (j : Fin 256) :
    (entryContents preI m c (Proc.devRef .tc main_v80_1) : FVec Ideal S8192x2x256 .f32) (ix3 t b j) = (layV (launchContents m c) b).inp t.val j := by
  simp only [entryContents, afterL_cons, afterL_nil]
  after_reads_simp
  simp only [id]
  pointwise
  refine Eq.trans ?_ (inp_eq _ _ _).symm
  refine congrArg₂ (· * ·) (congrArg₂ (· * ·) (congrArg Ideal.sqrt (congrArg Neg.neg (congrArg Ideal.expm1 (congrArg₂ (· * ·) rfl ?_)))) ?_) ?_
  · refine congrArg₂ (· * ·) (congrArg₂ (· * ·) rfl (gate_eq _ _ _ _ _ b t (conv_at m c b t) _ _ j)) ?_
    simp only [TRef.ofBuf, TRef.toBuf, cast_cast, cast_eq]
    pointwise
    exact soft_eq _
  · exact gate_eq _ _ _ _ _ b t (conv_at m c b t) _ _ j
  · exact conv_at m c b t j

theorem entry_3 (b : Fin 2) (j : Fin 256) : (entryContents preI m c (Proc.devRef .tc main_v80_3) : FVec Ideal S2x256 .f32) (ix2 b j) = (0 : EReal) := by
  simp only [entryContents, afterL_cons, afterL_nil]
  after_reads_simp
  simp only [id]
  pointwise

/-- After all 8192 trips the rows hold the states. -/
theorem states (t : Fin 8192) (b : Fin 2) (j : Fin 256) :
    (STEP^[8192] (entryContents preI m c) (Proc.devRef .tc main_v80_4) : FVec Ideal S8192x2x256 .f32) (ix3 t b j)
      = (layV (launchContents m c) b).st (t.val + 1) j :=
  (loop_state (entryContents preI m c) _ _ rfl rfl (ctr_entry m c) (entry_3 m c) (fun b => (layV (launchContents m c) b).dec)
    (fun b => (layV (launchContents m c) b).inp) (entry_0 m c) (entry_1 m c) 8192 le_rfl).2.2.2.2 t b j t.isLt

/-- The arguments are as they were. -/
theorem args_kept : layV (STEP^[8192] (entryContents preI m c)) = layV (launchContents m c) := by
  funext b
  unfold layV
  rw [iter_main_arg0 m c, iter_main_arg1 m c, iter_main_arg2 m c, iter_main_arg3 m c, iter_main_arg4 m c, iter_main_arg5 m c, iter_main_arg6 m c,
    iter_main_arg7 m c, iter_main_arg8 m c, iter_main_arg9 m c, iter_main_arg10 m c, iter_main_arg11 m c, iter_main_arg12 m c, iter_main_arg13 m c,
    iter_main_arg14 m c]

end Cert.MixRef

end
-- ==== Proof.MixRefOut.lean ====
/- The reference's twelve results, entry by entry. -/
module

public import proofs.«01_k».proof.Proof.MixRefLoop

@[expose] public section

set_option maxRecDepth 16384

noncomputable section

namespace Cert.MixRef

open Idealize.ShloMosaic Idealize.SL.Sem Cert.Mix
open Cert.Reference2Ideal Cert.Reference2Ideal.Gen Cert.Reference2Ideal.Value

set_option maxHeartbeats 4000000

variable (V0 : Valuation τ sig (Elt Ideal)) (b : Fin 2)

theorem r21 : (out_main_v89 V0 : FVec Ideal S2x8192x256 .f32) = res21 (layV V0) := by
  funext y
  idx_vars y
  pointwise [out_main_v89]
  exact z_sum _ _ _ _ rfl rfl _ _
theorem r22 : (out_main_v90 V0 : FVec Ideal S2x8192x256 .f32) = res22 (layV V0) := by
  funext y
  idx_vars y
  pointwise [out_main_v90]
  exact z_sum _ _ _ _ rfl rfl _ _
theorem r20 : (out_main_v293 V0 : FVec Ideal S2x8192x256 .bf16) = res20 (layV V0) := by
  funext y
  idx_vars y
  pointwise [out_main_v293]
  exact congrArg (· * _) (z_sum _ _ _ _ rfl rfl _ _)
theorem r23 : (out_main_v294 V0 : FVec Ideal S2x8192x512 .bf16) = res23 (layV V0) := by
  funext y
  idx_vars y
  pointwise [out_main_v294]
  exact z_sum _ _ _ _ rfl rfl _ _
theorem r25 : (out_main_v297 V0 : FVec Ideal S2x8x256 .f32) = res25 (layV V0) := by
  funext y
  idx_vars y
  pointwise [out_main_v297]
  exact z_sum _ _ _ _ rfl rfl _ _
theorem r26 : (out_main_v298 V0 : FVec Ideal S2x24x256 .f32) = res26 (layV V0) := by
  funext y
  idx_vars y
  pointwise [out_main_v298]
  exact z_sum _ _ _ _ rfl rfl _ _

theorem r24 : (out_main_v296 V0 : FVec Ideal S2x8192x128 .f32) = res24 (layV V0) := by
  funext y
  idx_vars y
  pointwise [out_main_v296]
  simp only [z_sum V0 y0 _ _ rfl rfl]
  show _ = if h : y2.val < 72 then (layV V0 y0).z y1.val ⟨2560 + y2.val, by omega⟩ else 0
  split
  · rw [dif_pos (by omega)]
  · split
    · rw [dif_pos (by omega)]
      congr 2
      omega
    · rw [dif_neg (by omega)]
theorem r28 : (out_main_v302 V0 : FVec Ideal S2x64x256x128 .bf16) = res28 (layV V0) := by
  funext y
  idx_vars y
  pointwise [out_main_v302]
  refine (z_sum _ _ _ _ rfl rfl _ _).trans ?_
  show _ = (layV V0 y0).keyCols 0 y1.val y2.val y3
  rw [Layer.keyCols, dif_pos y2.isLt]
  congr 1
  show y1.val * 128 + y3.val = _
  omega
theorem r29 : (out_main_v305 V0 : FVec Ideal S2x64x64x128 .bf16) = res29 (layV V0) := by
  funext y
  idx_vars y
  pointwise [out_main_v305]
  refine (z_sum _ _ _ _ rfl rfl _ _).trans ?_
  show _ = (layV V0 y0).idxCols 0 y1.val y2.val y3
  rw [Layer.idxCols, dif_pos y2.isLt]
  congr 1
  show y1.val * 128 + y3.val = _
  omega
theorem block_head : ∀ (i : Fin 4) (j : Fin 4), (IntOp.cmpi .eq (IntOp.addi (BitVec.ofNat 32 i.val) 0#32) (BitVec.ofNat 32 j.val)) = if j = i then 1#1 else 0#1 := by
  decide +kernel

theorem r30 : (out_main_v309 V0 : FVec Ideal S2x64x512x256 .bf16) = res30 (layV V0) := by
  funext y
  idx_vars y
  pointwise [out_main_v309]
  simp only [z_sum V0 y0 _ _ rfl rfl]
  have e := block_head ⟨y2.val / 128, by omega⟩ (head y3)
  have e' : IntOp.cmpi .eq (IntOp.addi (BitVec.ofNat 32 (y2.val / 128)) 0#32) (BitVec.ofNat 32 (y3.val / 64)) = _ := e
  rw [e']
  show _ = (layV V0 y0).headRows 0 y1.val y2.val y3
  unfold Layer.headRows
  by_cases h : head y3 = ⟨y2.val / 128, by omega⟩
  · rw [if_pos h, if_pos (congrArg Fin.val h)]
    show (layV V0 y0).z _ _ = _
    congr 1
    omega
  · rw [if_neg h, if_neg (fun h' => h (Fin.ext h'))]
    show Ideal.ofBits .f32 0#32 = 0
    exact Ideal.ofBits_zero_f32

theorem Xa (hs : ∀ (t : Fin 8192) (b : Fin 2) (j : Fin 256), (V0 (Proc.devRef .tc main_v80_4) : FVec Ideal S8192x2x256 .f32) (ix3 t b j) = (layV V0 b).st (t.val + 1) j)
    (t : Fin 8192) (j : Fin 256) : (out_main_v290 V0 : FVec Ideal S2x8192x768 .bf16) (ix3 b t ⟨j.val, by omega⟩) = (layV V0 b).ya t j := by
  pointwise [out_main_v290]
  rw [dif_pos (by omega)]
  simp only [z_sum V0 b _ _ rfl rfl]
  exact congrArg (· * gelu ((layV V0 b).ga t.val j)) (hs t b j)

theorem r27 (hs : ∀ (t : Fin 8192) (b : Fin 2) (j : Fin 256), (V0 (Proc.devRef .tc main_v80_4) : FVec Ideal S8192x2x256 .f32) (ix3 t b j) = (layV V0 b).st (t.val + 1) j) :
    (out_main_v299 V0 : FVec Ideal S2x1x256 .f32) = res27 (layV V0) := by
  funext y
  idx_vars y
  pointwise [out_main_v299]
  exact hs ⟨8191, by omega⟩ _ _

theorem causal : ∀ r x : Fin 128, IntOp.cmpi .sge (IntOp.addi (BitVec.ofNat 32 r.val) 0#32) (BitVec.ofNat 32 x.val) = if x.val ≤ r.val then 1#1 else 0#1 := by
  decide +kernel

theorem Xb (t : Fin 8192) (j : Fin 256) : (out_main_v290 V0 : FVec Ideal S2x8192x768 .bf16) (ix3 b t ⟨256 + j.val, by omega⟩) = (layV V0 b).yb t j := by
  pointwise [out_main_v290]
  rw [dif_pos (by omega)]
  simp only [z_sum V0 b _ _ rfl rfl]
  show gelu ((layV V0 b).ub t.val j) * ((∑ x : Fin 128, Scalar.select (IntOp.cmpi .sge (IntOp.addi (BitVec.ofNat 32 (t.val % 128)) 0#32) (BitVec.ofNat 32 x.val))
      ((layV V0 b).vn (t.val / 128 * 128 + x.val) j * (layV V0 b).ws (head j) ⟨t.val % 128, Nat.mod_lt _ (by decide)⟩ x) 0)
      + (layV V0 b).bs (head j) ⟨t.val % 128, Nat.mod_lt _ (by decide)⟩) = _
  rw [Layer.yb, Layer.mixed, add_comm]
  refine congrArg (fun s => gelu ((layV V0 b).ub t.val j) * (_ + s)) (Finset.sum_congr rfl fun x _ => ?_)
  rw [causal ⟨t.val % 128, Nat.mod_lt _ (by decide)⟩ x]
  by_cases h : x.val ≤ t.val % 128
  · rw [if_pos h, if_pos h, mul_one, mul_comm]
    rfl
  · rw [if_neg h, if_neg h, mul_zero, zero_mul]
    rfl

theorem lane_lt (c : Fin 256) : 1024 + c.val < 2632 := by omega

section
variable (x : FVec Ideal S2x8192x1024 .f32) (w : FVec Ideal S1024x2632 .f32) (hx : V0 (Proc.devRef .tc main_arg0) = x) (hw : V0 (Proc.devRef .tc main_arg1) = w)
  (t : Fin 8192) (c : Fin 256) (q : Fin 2632) (hq : q.val = 1024 + c.val)
include hx hw hq

theorem row_now : ∑ k, x (ix3 b t k) * w (ix2 k q) = back ((layV V0 b).xp · c) t.val 0 := by
  obtain rfl : q = ⟨1024 + c.val, lane_lt c⟩ := Fin.ext hq
  rw [z_sum V0 b x w hx hw, back, if_pos (Nat.zero_le _)]
  rfl

theorem row_earlier (e d : ℕ) (h : e + d = 15) (p : ∀ _ : ¬ e + t.val < 15, e + t.val - 15 < 8192) :
    (if h : e + t.val < 15 then 0 else ∑ k, x (ix3 b ⟨e + t.val - 15, p h⟩ k) * w (ix2 k q)) = back ((layV V0 b).xp · c) t.val d := by
  obtain rfl : q = ⟨1024 + c.val, lane_lt c⟩ := Fin.ext hq
  unfold back
  split
  · rw [if_neg (by omega)]
  · rw [if_pos (by omega), z_sum V0 b x w hx hw]
    show (layV V0 b).z _ _ = (layV V0 b).z _ _
    congr 1
    show e + t.val - 15 = t.val - d
    omega

theorem row_first (p : ∀ _ : ¬ t.val < 15, t.val - 15 < 8192) :
    (if h : t.val < 15 then 0 else ∑ k, x (ix3 b ⟨t.val - 15, p h⟩ k) * w (ix2 k q)) = back ((layV V0 b).xp · c) t.val 15 := by
  obtain rfl : q = ⟨1024 + c.val, lane_lt c⟩ := Fin.ext hq
  unfold back
  split
  · rw [if_neg (by omega)]
  · rw [if_pos (by omega), z_sum V0 b x w hx hw]
    rfl
end

theorem win_succ (A : Layer) (n t : ℕ) (c : Fin 256) : A.win (n + 1) t c = A.win n t c + back (A.xp · c) t n := Finset.sum_range_succ _ _

theorem win_one (A : Layer) (t : ℕ) (c : Fin 256) : A.win 1 t c = back (A.xp · c) t 0 := Finset.sum_range_one _

theorem rows_count_word : ∀ (s : Fin 32) (r : Fin 256) (h : Fin 4),
    (IntOp.minsi (IntOp.addi (BitVec.ofNat 32 (s.val * 256 + r.val)) 1#32) (BitVec.ofNat 32 (2 ^ (h.val + 1)))).toInt = ((min (s.val * 256 + r.val + 1) (2 ^ (h.val + 1)) : ℕ) : ℤ) := by
  decide +kernel

theorem rows_count (t : Fin 8192) (h : Fin 4) :
    (IntOp.minsi (IntOp.addi (BitVec.ofNat 32 t.val) 1#32) (BitVec.ofNat 32 (2 ^ (h.val + 1)))).toInt = ((min (t.val + 1) (2 ^ (h.val + 1)) : ℕ) : ℤ) := by
  have e := rows_count_word ⟨t.val / 256, by omega⟩ ⟨t.val % 256, Nat.mod_lt _ (by decide)⟩ h
  rw [show (t.val / 256) * 256 + t.val % 256 = t.val by omega] at e
  exact e

theorem pool_mean (A : Layer) (t : Fin 8192) (c : Fin 256) (h : Fin 4) (hh : c.val / 64 = h.val) (S : EReal) (hS : S = A.win (2 ^ (h.val + 1)) t.val c) :
    Ideal.div S (FloatOps.sitofp (F := Ideal) .f32 (IntOp.minsi (IntOp.addi (BitVec.ofNat 32 t.val) 1#32) (BitVec.ofNat 32 (2 ^ (h.val + 1)))))
      = Ideal.div (A.win (Layer.width c) t.val c) ((min (t.val + 1) (Layer.width c) : ℕ) : ℝ) := by
  have hwd : Layer.width c = 2 ^ (h.val + 1) := by rw [Layer.width, hh]
  rw [hS, hwd]
  unfold FloatOps.sitofp
  congr 1
  show (((BitVec.toInt _ : ℤ) : ℝ) : EReal) = _
  rw [rows_count t h]
  rfl

theorem Xc (t : Fin 8192) (j : Fin 256) : (out_main_v290 V0 : FVec Ideal S2x8192x768 .bf16) (ix3 b t ⟨512 + j.val, by omega⟩)
    = (layV V0 b).yc t j := by
  pointwise [out_main_v290]
  refine congrArg (· * _) (Finset.sum_congr rfl fun x _ => ?_)
  refine (mul_comm _ _).trans ?_
  have hv : (col (head j) x).val = j.val / 64 * 64 + x.val := rfl
  have hx := x.isLt
  refine congrArg₂ (· * ·) ?_ rfl
  unfold Layer.pooled
  refine congrArg₂ (· - ·) ?_ ?_
  rotate_left
  · exact z_sum V0 b _ _ rfl rfl _ _
  by_cases h3 : j.val / 64 * 64 + x.val < 192
  · rw [dif_pos h3]
    by_cases h2 : j.val / 64 * 64 + x.val < 128
    · rw [dif_pos h2]
      by_cases h1 : j.val / 64 * 64 + x.val < 64
      · rw [dif_pos h1]
        refine pool_mean (layV V0 b) t (col (head j) x) 0 (by show _ = 0; omega) _ ?_
        show _ = (layV V0 b).win 2 t.val (col (head j) x)
        iterate 1
          refine Eq.trans ?_ (win_succ _ _ _ _).symm
          refine congrArg₂ (· + ·) ?_ ?_
          rotate_left
          · exact row_earlier V0 b _ _ rfl rfl t (col (head j) x) ⟨_, lane_lt (col (head j) x)⟩ rfl _ _ rfl _
        refine Eq.trans ?_ (win_one _ _ _).symm
        exact row_now V0 b _ _ rfl rfl t (col (head j) x) ⟨_, lane_lt (col (head j) x)⟩ rfl
      · rw [dif_neg h1]
        have hq : (⟨1024 + (64 + (j.val / 64 * 64 + x.val - 64)), by omega⟩ : Fin 2632).val = 1024 + (col (head j) x).val := by
          show 1024 + (64 + _) = 1024 + (j.val / 64 * 64 + x.val)
          omega
        refine pool_mean (layV V0 b) t (col (head j) x) 1 (by show _ = 1; omega) _ ?_
        show _ = (layV V0 b).win 4 t.val (col (head j) x)
        iterate 3
          refine Eq.trans ?_ (win_succ _ _ _ _).symm
          refine congrArg₂ (· + ·) ?_ ?_
          rotate_left
          · exact row_earlier V0 b _ _ rfl rfl t (col (head j) x) _ hq _ _ rfl _
        refine Eq.trans ?_ (win_one _ _ _).symm
        exact row_now V0 b _ _ rfl rfl t (col (head j) x) _ hq
    · rw [dif_neg h2]
      have hq : (⟨1024 + (128 + (j.val / 64 * 64 + x.val - 128)), by omega⟩ : Fin 2632).val = 1024 + (col (head j) x).val := by
        show 1024 + (128 + _) = 1024 + (j.val / 64 * 64 + x.val)
        omega
      refine pool_mean (layV V0 b) t (col (head j) x) 2 (by show _ = 2; omega) _ ?_
      show _ = (layV V0 b).win 8 t.val (col (head j) x)
      iterate 7
        refine Eq.trans ?_ (win_succ _ _ _ _).symm
        refine congrArg₂ (· + ·) ?_ ?_
        rotate_left
        · exact row_earlier V0 b _ _ rfl rfl t (col (head j) x) _ hq _ _ rfl _
      refine Eq.trans ?_ (win_one _ _ _).symm
      exact row_now V0 b _ _ rfl rfl t (col (head j) x) _ hq
  · rw [dif_neg h3]
    have hq : (⟨1024 + (192 + (j.val / 64 * 64 + x.val - 192)), by omega⟩ : Fin 2632).val = 1024 + (col (head j) x).val := by
      show 1024 + (192 + _) = 1024 + (j.val / 64 * 64 + x.val)
      omega
    refine pool_mean (layV V0 b) t (col (head j) x) 3 (by show _ = 3; omega) _ ?_
    show _ = (layV V0 b).win 16 t.val (col (head j) x)
    refine Eq.trans ?_ (win_succ _ _ _ _).symm
    refine congrArg₂ (· + ·) ?_ ?_
    rotate_left
    · exact row_first V0 b _ _ rfl rfl t (col (head j) x) _ hq _
    iterate 14
      refine Eq.trans ?_ (win_succ _ _ _ _).symm
      refine congrArg₂ (· + ·) ?_ ?_
      rotate_left
      · exact row_earlier V0 b _ _ rfl rfl t (col (head j) x) _ hq _ _ rfl _
    refine Eq.trans ?_ (win_one _ _ _).symm
    exact row_now V0 b _ _ rfl rfl t (col (head j) x) _ hq

theorem r19 (hs : ∀ (t : Fin 8192) (b : Fin 2) (j : Fin 256), (V0 (Proc.devRef .tc main_v80_4) : FVec Ideal S8192x2x256 .f32) (ix3 t b j) = (layV V0 b).st (t.val + 1) j) :
    (out_main_v290 V0 : FVec Ideal S2x8192x768 .bf16) = res19 (layV V0) := by
  funext y
  idx_vars y
  show _ = (layV V0 y0).mixers y1.val y2.val
  unfold Layer.mixers
  by_cases h : y2.val < 256
  · rw [dif_pos h]
    exact Xa V0 y0 hs y1 ⟨y2.val, h⟩
  · rw [dif_neg h]
    by_cases h' : y2.val < 512
    · rw [dif_pos h', ← Xb V0 y0 y1 ⟨y2.val - 256, by omega⟩]
      refine congrArg (fun k => (out_main_v290 V0 : FVec Ideal S2x8192x768 .bf16) (ix3 y0 y1 k)) (Fin.ext ?_)
      show y2.val = 256 + (y2.val - 256)
      omega
    · rw [dif_neg h', dif_pos y2.isLt, ← Xc V0 y0 y1 ⟨y2.val - 512, by omega⟩]
      refine congrArg (fun k => (out_main_v290 V0 : FVec Ideal S2x8192x768 .bf16) (ix3 y0 y1 k)) (Fin.ext ?_)
      show y2.val = 512 + (y2.val - 512)
      omega

end Cert.MixRef

end
-- ==== Proof.MixRefRun.lean ====
/- The reference's run, its twelve results stated by the arrays it was launched with. -/
module

public import proofs.«01_k».proof.Proof.MixRefOut
public import Idealize.ShloMosaic.Lib.Claim

@[expose] public section

set_option maxRecDepth 16384

noncomputable section

namespace Cert.MixRef

open Idealize.ShloMosaic Idealize.SL.Sem Cert.Mix
open Idealize.ShloMosaic.StableHlo Idealize.ShloMosaic.Tactic
open Cert.Reference2Ideal Cert.Reference2Ideal.Gen Cert.Reference2Ideal.Value

set_option maxHeartbeats 4000000

variable (m : (ℓ : Loc nD τ sig) → Buf (Elt Ideal) ℓ) (ρ : Dev nD → PrngReg)

/-- After the loop the rows hold the states of the arrays the operations after it start from. -/
theorem states_kept (c : Dev nD) (t : Fin 8192) (b : Fin 2) (j : Fin 256) :
    (STEP^[8192] (entryContents preI m c) (Proc.devRef .tc main_v80_4) : FVec Ideal S8192x2x256 .f32) (ix3 t b j)
      = (layV (STEP^[8192] (entryContents preI m c)) b).st (t.val + 1) j :=
  (states m c t b j).trans (congrArg (fun A => (A b).st (t.val + 1) j) (args_kept m c).symm)

/-- The run. -/
theorem run_layer : θ_run (defs (F := Ideal)) (onTc (τ := τ) (main (F := Ideal))) ⟨m, fun _ => 0, ρ⟩ fun r => ∀ c : Dev nD,
      r.2.mem ((c.tc : Thread nD τ).loc main_v290) = res19 (layV (launchContents m c))
      ∧ r.2.mem ((c.tc : Thread nD τ).loc main_v293) = res20 (layV (launchContents m c))
      ∧ r.2.mem ((c.tc : Thread nD τ).loc main_v89) = res21 (layV (launchContents m c))
      ∧ r.2.mem ((c.tc : Thread nD τ).loc main_v90) = res22 (layV (launchContents m c))
      ∧ r.2.mem ((c.tc : Thread nD τ).loc main_v294) = res23 (layV (launchContents m c))
      ∧ r.2.mem ((c.tc : Thread nD τ).loc main_v296) = res24 (layV (launchContents m c))
      ∧ r.2.mem ((c.tc : Thread nD τ).loc main_v297) = res25 (layV (launchContents m c))
      ∧ r.2.mem ((c.tc : Thread nD τ).loc main_v298) = res26 (layV (launchContents m c))
      ∧ r.2.mem ((c.tc : Thread nD τ).loc main_v299) = res27 (layV (launchContents m c))
      ∧ r.2.mem ((c.tc : Thread nD τ).loc main_v302) = res28 (layV (launchContents m c))
      ∧ r.2.mem ((c.tc : Thread nD τ).loc main_v305) = res29 (layV (launchContents m c))
      ∧ r.2.mem ((c.tc : Thread nD τ).loc main_v309) = res30 (layV (launchContents m c))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14) :=
  (θ_run defs _ _).mono (fun r h c => ⟨((h c).1).trans ((r19 _ (states_kept m c)).trans (congrArg res19 (args_kept m c))),
      ((h c).2.1).trans ((r20 _).trans (congrArg res20 (args_kept m c))),
      ((h c).2.2.1).trans ((r21 _).trans (congrArg res21 (args_kept m c))),
      ((h c).2.2.2.1).trans ((r22 _).trans (congrArg res22 (args_kept m c))),
      ((h c).2.2.2.2.1).trans ((r23 _).trans (congrArg res23 (args_kept m c))),
      ((h c).2.2.2.2.2.1).trans ((r24 _).trans (congrArg res24 (args_kept m c))),
      ((h c).2.2.2.2.2.2.1).trans ((r25 _).trans (congrArg res25 (args_kept m c))),
      ((h c).2.2.2.2.2.2.2.1).trans ((r26 _).trans (congrArg res26 (args_kept m c))),
      ((h c).2.2.2.2.2.2.2.2.1).trans ((r27 _ (states_kept m c)).trans (congrArg res27 (args_kept m c))),
      ((h c).2.2.2.2.2.2.2.2.2.1).trans ((r28 _).trans (congrArg res28 (args_kept m c))),
      ((h c).2.2.2.2.2.2.2.2.2.2.1).trans ((r29 _).trans (congrArg res29 (args_kept m c))),
      ((h c).2.2.2.2.2.2.2.2.2.2.2.1).trans ((r30 _).trans (congrArg res30 (args_kept m c))),
      (h c).2.2.2.2.2.2.2.2.2.2.2.2⟩) (run m ρ)

end Cert.MixRef

end
-- ==== Proof.lean ====
module

public import proofs.«01_k».proof.Defs
public import proofs.«01_k».proof.Proof.Gen.Kernel.Frame
public import proofs.«01_k».proof.Proof.Gen.KernelIdeal.Value
public import proofs.«01_k».proof.Proof.Gen.ReferenceIdeal.Run
public import proofs.«01_k».proof.Proof.Gen.ReferenceIdeal.Read
public import proofs.«01_k».proof.Proof.FfnValue
public import Idealize.ShloMosaic.Adequacy
public import Idealize.ShloMosaic.Init
public import Idealize.ShloMosaic.Lib.Quiescent
public import proofs.«01_k».proof.Proof.Gen.Own.Kernel2Ideal.Frame
public import proofs.«01_k».proof.Proof.Gen.Own.Kernel2.Frame
public import proofs.«01_k».proof.Proof.MixVal7
public import proofs.«01_k».proof.Proof.MixRefRun

/-! The claims of this directory: the programs of the feed-forward call and of the mixers' call run safely to
their end, the references too, and at the extended reals each call's results are its reference's. -/

@[expose] public section

noncomputable section

namespace Cert.Proof

open Idealize.ShloMosaic Idealize.SL.Sem Cert.Kernel

/-- The reference of the feed-forward call runs safely to its end. -/
theorem quiescent_ffn_reference : Cert.quiescent_ReferenceIdeal := by
  intro m ρ _
  exact (θ_run Cert.ReferenceIdeal.defs _ _).mono
    (fun r h => ⟨fun c => (h c).2, sem_eq_zero_of_no_sems (by decide) r.2⟩)
    (Cert.ReferenceIdeal.Value.run m ρ)

/-- The feed-forward call computes the reference's value. -/
theorem algebraic_ffn : Cert.algebraic_KernelIdeal_ReferenceIdeal := by
  pair_intro
  · run_from Cert.KernelIdeal.Gen.run_main m g
  · run_from Cert.ReferenceIdeal.Value.run m' g'
    rw [Cert.ReferenceIdeal.Read.val_main_v61_eq]
    obtain ⟨h0, h1, h2, h3, h4, h5, h6, h7, h8, h9⟩ := hagree c
    rw [h0, h1, h2, h3, h4, h5, h6, h7, h8, h9]
    exact (Cert.Ffn.final m c).symm

/-- The reference of the mixers' call runs safely to its end. -/
theorem quiescent_mixers_reference : Cert.quiescent_Reference2Ideal := by
  intro m ρ _
  exact (θ_run Cert.Reference2Ideal.defs _ _).mono
    (fun r h => ⟨fun c => (h c).2.2.2.2.2.2.2.2.2.2.2.2, sem_eq_zero_of_no_sems (by decide) r.2⟩)
    (Cert.Reference2Ideal.Value.run m ρ)

set_option maxHeartbeats 16000000 in
/-- The mixers' call computes the reference's twelve values. -/
theorem algebraic_mixers : Cert.algebraic_Kernel2Ideal_Reference2Ideal := by
  intro m g m' g' _ hagree
  refine ⟨fun c => Cert.Mix.res19 (Cert.Mix.lay m c), fun c => Cert.Mix.res20 (Cert.Mix.lay m c), fun c => Cert.Mix.res21 (Cert.Mix.lay m c), fun c => Cert.Mix.res22 (Cert.Mix.lay m c), fun c => Cert.Mix.res23 (Cert.Mix.lay m c), fun c => Cert.Mix.res24 (Cert.Mix.lay m c),
    fun c => Cert.Mix.res25 (Cert.Mix.lay m c), fun c => Cert.Mix.res26 (Cert.Mix.lay m c), fun c => Cert.Mix.res27 (Cert.Mix.lay m c), fun c => Cert.Mix.res28 (Cert.Mix.lay m c), fun c => Cert.Mix.res29 (Cert.Mix.lay m c), fun c => Cert.Mix.res30 (Cert.Mix.lay m c), ?_, ?_⟩
  · refine θ_run_mono (θ_run_and (Cert.Kernel2Ideal.Gen.run_main m g) (Cert.Kernel2Ideal.Gen.unchanged m g)) ?_
    rintro r ⟨h, k⟩ c
    exact ⟨((h c).1 19).trans (Cert.Mix.final19 m c),
      ((h c).1 20).trans (Cert.Mix.final20 m c),
      ((h c).1 21).trans (Cert.Mix.final21 m c),
      ((h c).1 22).trans (Cert.Mix.final22 m c),
      ((h c).1 23).trans (Cert.Mix.final23 m c),
      ((h c).1 24).trans (Cert.Mix.final24 m c),
      ((h c).1 25).trans (Cert.Mix.final25 m c),
      ((h c).1 26).trans (Cert.Mix.final26 m c),
      ((h c).1 27).trans (Cert.Mix.final27 m c),
      ((h c).1 28).trans (Cert.Mix.final28 m c),
      ((h c).1 29).trans (Cert.Mix.final29 m c),
      ((h c).1 30).trans (Cert.Mix.final30 m c),
      k c⟩
  · refine θ_run_mono (Cert.MixRef.run_layer m' g') ?_
    intro r hr c
    have hl : Cert.MixRef.layV (StableHlo.launchContents m' c) = Cert.Mix.lay m c := by
      obtain ⟨h0, h1, h2, h3, h4, h5, h6, h7, h8, h9, h10, h11, h12, h13, h14⟩ := hagree c
      funext b
      unfold Cert.Mix.lay
      rw [← h0, ← h1, ← h2, ← h3, ← h4, ← h5, ← h6, ← h7, ← h8, ← h9, ← h10, ← h11, ← h12, ← h13, ← h14]
      rfl
    have h := hr c
    rw [hl] at h
    exact h

/-- Every claim of this directory. -/
theorem claim : Cert.Claim :=
  ⟨Cert.Kernel.Gen.facts, Cert.KernelIdeal.Gen.facts, Cert.ReferenceIdeal.Gen.facts,
    Cert.Kernel2.Gen.facts, Cert.Kernel2Ideal.Gen.facts, Cert.Reference2Ideal.Gen.facts,
    fun m ρ _ => Cert.Kernel.Gen.frame m ρ, fun m ρ _ => Cert.KernelIdeal.Gen.frame m ρ, quiescent_ffn_reference,
    fun m ρ _ => Cert.Kernel2.Gen.frame m ρ, fun m ρ _ => Cert.Kernel2Ideal.Gen.frame m ρ, quiescent_mixers_reference,
    trivial, algebraic_ffn, trivial, algebraic_mixers⟩

end Cert.Proof

end
